-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S48x1x4096 : Shape := ⟨3, ![48, 1, 4096]⟩
abbrev S7x2048x12800 : Shape := ⟨3, ![7, 2048, 12800]⟩
abbrev S7x32x12800 : Shape := ⟨3, ![7, 32, 12800]⟩
abbrev S7x3200x4096 : Shape := ⟨3, ![7, 3200, 4096]⟩
abbrev S7x50x4096 : Shape := ⟨3, ![7, 50, 4096]⟩
abbrev S48x1x2 : Shape := ⟨3, ![48, 1, 2]⟩
abbrev S_ : Shape := ⟨0, ![]⟩

class Facts : Prop where
  bcast_S_S48x1x4096 : S_.BroadcastsInDim S48x1x4096 (![] : Fin 0 → Fin S48x1x4096.rank)
  reducesTo_S48x1x4096_S_d0_1_2 : S48x1x4096.ReducesTo [0, 1, 2] S_
  h_S_ : 0 < S_.numel
  bcast_S_S7x32x12800 : S_.BroadcastsInDim S7x32x12800 (![] : Fin 0 → Fin S7x32x12800.rank)
  reducesTo_S7x32x12800_S_d0_1_2 : S7x32x12800.ReducesTo [0, 1, 2] S_
  bcast_S_S7x50x4096 : S_.BroadcastsInDim S7x50x4096 (![] : Fin 0 → Fin S7x50x4096.rank)
  reducesTo_S7x50x4096_S_d0_1_2 : S7x50x4096.ReducesTo [0, 1, 2] S_
  bcast_S_S48x1x2 : S_.BroadcastsInDim S48x1x2 (![] : Fin 0 → Fin S48x1x2.rank)
  reducesTo_S48x1x2_S_d0_1_2 : S48x1x2.ReducesTo [0, 1, 2] S_

variable [Facts]

def fn_part1 {F : FTy → Type} [FloatOps F] (main_v13 : IVec S_ 1) (main_v16 : IVec S48x1x2 1) : IVec S_ 1 :=
  let main_c_5 : IVec S_ 1 := constantI S_ 1 1#1
  let main_v17 : IVec S_ 1 := (fun x v => Host.reduce IntOp.andi x v reducesTo_S48x1x2_S_d0_1_2 h_S_) main_v16 main_c_5
  let main_v18 : IVec S_ 1 := andi main_v13 main_v17
  main_v18

def fn {F : FTy → Type} [FloatOps F] (main_arg0 : FVec F S48x1x4096 .bf16) (main_arg1 : IVec S7x2048x12800 8) (main_arg2 : FVec F S7x32x12800 .bf16) (main_arg3 : IVec S7x3200x4096 8) (main_arg4 : FVec F S7x50x4096 .bf16) (main_arg5 : IVec S48x1x2 32) (main_arg6 : FVec F S48x1x2 .f32) : IVec S_ 1 :=
  let main_v0 : FVec F S48x1x4096 .bf16 := Host.absf main_arg0
  let main_cst : FVec F S_ .bf16 := constant S_ .bf16 0x4980#16
  let main_v1 : FVec F S48x1x4096 .bf16 := broadcastInDim S48x1x4096 ![] bcast_S_S48x1x4096 main_cst
  let main_v2 : IVec S48x1x4096 1 := cmpf .ole main_v0 main_v1
  let main_c : IVec S_ 1 := constantI S_ 1 1#1
  let main_v3 : IVec S_ 1 := (fun x v => Host.reduce IntOp.andi x v reducesTo_S48x1x4096_S_d0_1_2 h_S_) main_v2 main_c
  let main_v4 : FVec F S7x32x12800 .bf16 := Host.absf main_arg2
  let main_cst_0 : FVec F S_ .bf16 := constant S_ .bf16 0x4480#16
  let main_v5 : FVec F S7x32x12800 .bf16 := broadcastInDim S7x32x12800 ![] bcast_S_S7x32x12800 main_cst_0
  let main_v6 : IVec S7x32x12800 1 := cmpf .ole main_v4 main_v5
  let main_c_1 : IVec S_ 1 := constantI S_ 1 1#1
  let main_v7 : IVec S_ 1 := (fun x v => Host.reduce IntOp.andi x v reducesTo_S7x32x12800_S_d0_1_2 h_S_) main_v6 main_c_1
  let main_v8 : IVec S_ 1 := andi main_v3 main_v7
  let main_v9 : FVec F S7x50x4096 .bf16 := Host.absf main_arg4
  let main_cst_2 : FVec F S_ .bf16 := constant S_ .bf16 0x4480#16
  let main_v10 : FVec F S7x50x4096 .bf16 := broadcastInDim S7x50x4096 ![] bcast_S_S7x50x4096 main_cst_2
  let main_v11 : IVec S7x50x4096 1 := cmpf .ole main_v9 main_v10
  let main_c_3 : IVec S_ 1 := constantI S_ 1 1#1
  let main_v12 : IVec S_ 1 := (fun x v => Host.reduce IntOp.andi x v reducesTo_S7x50x4096_S_d0_1_2 h_S_) main_v11 main_c_3
  let main_v13 : IVec S_ 1 := andi main_v8 main_v12
  let main_v14 : FVec F S48x1x2 .f32 := Host.absf main_arg6
  let main_cst_4 : FVec F S_ .f32 := constant S_ .f32 0x41000000#32
  let main_v15 : FVec F S48x1x2 .f32 := broadcastInDim S48x1x2 ![] bcast_S_S48x1x2 main_cst_4
  let main_v16 : IVec S48x1x2 1 := cmpf .ole main_v14 main_v15
  fn_part1 (F := F) main_v13 main_v16
-- ==== Kernel.lean ====
abbrev S48x1x4096 : Shape := ⟨3, ![48, 1, 4096]⟩
abbrev S7x2048x12800 : Shape := ⟨3, ![7, 2048, 12800]⟩
abbrev S7x32x12800 : Shape := ⟨3, ![7, 32, 12800]⟩
abbrev S7x3200x4096 : Shape := ⟨3, ![7, 3200, 4096]⟩
abbrev S7x50x4096 : Shape := ⟨3, ![7, 50, 4096]⟩
abbrev S48x1x2 : Shape := ⟨3, ![48, 1, 2]⟩
abbrev S48x2 : Shape := ⟨2, ![48, 2]⟩
abbrev S96x1 : Shape := ⟨2, ![96, 1]⟩
abbrev S7 : Shape := ⟨1, ![7]⟩
abbrev S1x7 : Shape := ⟨2, ![1, 7]⟩
abbrev S96x7 : Shape := ⟨2, ![96, 7]⟩
abbrev S_ : Shape := ⟨0, ![]⟩
abbrev S1 : Shape := ⟨1, ![1]⟩
abbrev S8 : Shape := ⟨1, ![8]⟩
abbrev S48x4096 : Shape := ⟨2, ![48, 4096]⟩
abbrev S48x32 : Shape := ⟨2, ![48, 32]⟩
abbrev S1x2048x1280 : Shape := ⟨3, ![1, 2048, 1280]⟩
abbrev S1x32x1280 : Shape := ⟨3, ![1, 32, 1280]⟩
abbrev S1x3200x1024 : Shape := ⟨3, ![1, 3200, 1024]⟩
abbrev S1x50x1024 : Shape := ⟨3, ![1, 50, 1024]⟩
abbrev S48x6400 : Shape := ⟨2, ![48, 6400]⟩
abbrev S1x2048x256 : Shape := ⟨3, ![1, 2048, 256]⟩
abbrev S2048x256 : Shape := ⟨2, ![2048, 256]⟩
abbrev S1x32x256 : Shape := ⟨3, ![1, 32, 256]⟩
abbrev S32x256 : Shape := ⟨2, ![32, 256]⟩
abbrev S4096x256 : Shape := ⟨2, ![4096, 256]⟩
abbrev S32x128x256 : Shape := ⟨3, ![32, 128, 256]⟩
abbrev S32x1x256 : Shape := ⟨3, ![32, 1, 256]⟩
abbrev S48x256 : Shape := ⟨2, ![48, 256]⟩
abbrev S48 : Shape := ⟨1, ![48]⟩
abbrev S48x1 : Shape := ⟨2, ![48, 1]⟩
abbrev S1x3200x256 : Shape := ⟨3, ![1, 3200, 256]⟩
abbrev S3200x256 : Shape := ⟨2, ![3200, 256]⟩
abbrev S1x50x256 : Shape := ⟨3, ![1, 50, 256]⟩
abbrev S50x256 : Shape := ⟨2, ![50, 256]⟩
abbrev S6400x256 : Shape := ⟨2, ![6400, 256]⟩
abbrev S50x128x256 : Shape := ⟨3, ![50, 128, 256]⟩
abbrev S50x1x256 : Shape := ⟨3, ![50, 1, 256]⟩
abbrev S48x128 : Shape := ⟨2, ![48, 128]⟩

abbrev nBuf : Space → Nat
  | .hbm => 44
  | .vmem => 19
  | .smem => 1
  | _ => 0

abbrev bufTy : (tb : Table) → Fin (tcTables nBuf tb) → BufTy
  | .hbm, ⟨0, _⟩ => ⟨S48x1x4096, .bf16⟩
  | .hbm, ⟨1, _⟩ => ⟨S7x2048x12800, .i8⟩
  | .hbm, ⟨2, _⟩ => ⟨S7x32x12800, .bf16⟩
  | .hbm, ⟨3, _⟩ => ⟨S7x3200x4096, .i8⟩
  | .hbm, ⟨4, _⟩ => ⟨S7x50x4096, .bf16⟩
  | .hbm, ⟨5, _⟩ => ⟨S48x1x2, .i32⟩
  | .hbm, ⟨6, _⟩ => ⟨S48x1x2, .f32⟩
  | .hbm, ⟨7, _⟩ => ⟨S48x2, .i32⟩
  | .hbm, ⟨8, _⟩ => ⟨S48x2, .f32⟩
  | .hbm, ⟨9, _⟩ => ⟨S96x1, .i32⟩
  | .hbm, ⟨10, _⟩ => ⟨S7, .i32⟩
  | .hbm, ⟨11, _⟩ => ⟨S1x7, .i32⟩
  | .hbm, ⟨12, _⟩ => ⟨S96x7, .i32⟩
  | .hbm, ⟨13, _⟩ => ⟨S96x7, .i32⟩
  | .hbm, ⟨14, _⟩ => ⟨S96x7, .i1⟩
  | .hbm, ⟨15, _⟩ => ⟨S_, .i1⟩
  | .hbm, ⟨16, _⟩ => ⟨S7, .i1⟩
  | .hbm, ⟨17, _⟩ => ⟨S7, .i32⟩
  | .hbm, ⟨18, _⟩ => ⟨S_, .i32⟩
  | .hbm, ⟨19, _⟩ => ⟨S_, .i32⟩
  | .hbm, ⟨20, _⟩ => ⟨S7, .i1⟩
  | .hbm, ⟨21, _⟩ => ⟨S7, .i32⟩
  | .hbm, ⟨22, _⟩ => ⟨S7, .i1⟩
  | .hbm, ⟨23, _⟩ => ⟨S7, .i32⟩
  | .hbm, ⟨24, _⟩ => ⟨S7, .i32⟩
  | .hbm, ⟨25, _⟩ => ⟨S7, .i32⟩
  | .hbm, ⟨26, _⟩ => ⟨S7, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S7, .i32⟩
  | .hbm, ⟨39, _⟩ => ⟨S7, .i32⟩
  | .hbm, ⟨40, _⟩ => ⟨S1, .i32⟩
  | .hbm, ⟨41, _⟩ => ⟨S48x4096, .bf16⟩
  | .hbm, ⟨42, _⟩ => ⟨S48x4096, .fp8e4m3⟩
  | .hbm, ⟨43, _⟩ => ⟨S48x32, .f32⟩
  | .local _ .vmem, ⟨0, _⟩ => ⟨S48x4096, .bf16⟩
  | .local _ .vmem, ⟨1, _⟩ => ⟨S1x2048x1280, .i8⟩
  | .local _ .vmem, ⟨2, _⟩ => ⟨S1x2048x1280, .i8⟩
  | .local _ .vmem, ⟨3, _⟩ => ⟨S1x2048x1280, .i8⟩
  | .local _ .vmem, ⟨4, _⟩ => ⟨S1x2048x1280, .i8⟩
  | .local _ .vmem, ⟨5, _⟩ => ⟨S1x32x1280, .bf16⟩
  | .local _ .vmem, ⟨6, _⟩ => ⟨S1x32x1280, .bf16⟩
  | .local _ .vmem, ⟨7, _⟩ => ⟨S1x32x1280, .bf16⟩
  | .local _ .vmem, ⟨8, _⟩ => ⟨S1x32x1280, .bf16⟩
  | .local _ .vmem, ⟨9, _⟩ => ⟨S1x3200x1024, .i8⟩
  | .local _ .vmem, ⟨10, _⟩ => ⟨S1x3200x1024, .i8⟩
  | .local _ .vmem, ⟨11, _⟩ => ⟨S1x50x1024, .bf16⟩
  | .local _ .vmem, ⟨12, _⟩ => ⟨S1x50x1024, .bf16⟩
  | .local _ .vmem, ⟨13, _⟩ => ⟨S48x2, .i32⟩
  | .local _ .vmem, ⟨14, _⟩ => ⟨S48x2, .f32⟩
  | .local _ .vmem, ⟨15, _⟩ => ⟨S48x4096, .fp8e4m3⟩
  | .local _ .vmem, ⟨16, _⟩ => ⟨S48x32, .f32⟩
  | .local _ .vmem, ⟨17, _⟩ => ⟨S48x6400, .bf16⟩
  | .local _ .vmem, ⟨18, _⟩ => ⟨S48x4096, .f32⟩
  | .local _ .smem, ⟨0, _⟩ => ⟨S8, .i32⟩
  | _, _ => ⟨S48x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_v1_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v25 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![7, 9], ![false, false]⟩

abbrev pre0 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_mult1 (i : grid0.Coords) : BitVec 32 :=
  let arg1 : BitVec 32 := BitVec.ofNat 32 (i 1).val
  let c1280_i32 : BitVec 32 := 1280#32
  let v78 : BitVec 32 := Scalar.muli arg1 c1280_i32
  let c0_i32_28 : BitVec 32 := 0#32
  let v79 : BitVec 32 := Scalar.addi v78 c0_i32_28
  v79
def k0_off3 (i : grid0.Coords) (c0_i32_28 : BitVec 32) : Fin 2 → Nat :=
  let c0_29 : Index := 0#32
  let arg1 : BitVec 32 := BitVec.ofNat 32 (i 1).val
  let c1280_i32 : BitVec 32 := 1280#32
  let v78 : BitVec 32 := Scalar.muli arg1 c1280_i32
  let v79 : BitVec 32 := Scalar.addi v78 c0_i32_28
  let v80 : BitVec 32 := v79
  let v81 : Index := Scalar.indexCast v80
  ![0, v81.toNat]
def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c5_i32 : BitVec 32 := 5#32
  let v7 : BitVec 1 := Scalar.cmpi .slt arg1 c5_i32
  let v8 : BitVec 1 := Scalar.andi v1 v7
  let v9 : BitVec 32 := Scalar.extui v8
  let c0_i32_2 : BitVec 32 := 0#32
  let v10 : BitVec 1 := Scalar.cmpi .ne v9 c0_i32_2
  v10

def k0_mult2 (i : grid0.Coords) : BitVec 32 :=
  let arg1 : BitVec 32 := BitVec.ofNat 32 (i 1).val
  let c1280_i32_55 : BitVec 32 := 1280#32
  let v141 : BitVec 32 := Scalar.muli arg1 c1280_i32_55
  let c256_i32 : BitVec 32 := 256#32
  let v142 : BitVec 32 := Scalar.addi v141 c256_i32
  v142
def k0_mult3 (i : grid0.Coords) : BitVec 32 :=
  let arg1 : BitVec 32 := BitVec.ofNat 32 (i 1).val
  let c1280_i32_82 : BitVec 32 := 1280#32
  let v204 : BitVec 32 := Scalar.muli arg1 c1280_i32_82
  let c512_i32 : BitVec 32 := 512#32
  let v205 : BitVec 32 := Scalar.addi v204 c512_i32
  v205
def k0_mult4 (i : grid0.Coords) : BitVec 32 :=
  let arg1 : BitVec 32 := BitVec.ofNat 32 (i 1).val
  let c1280_i32_109 : BitVec 32 := 1280#32
  let v267 : BitVec 32 := Scalar.muli arg1 c1280_i32_109
  let c768_i32 : BitVec 32 := 768#32
  let v268 : BitVec 32 := Scalar.addi v267 c768_i32
  v268
def k0_mult5 (i : grid0.Coords) : BitVec 32 :=
  let arg1 : BitVec 32 := BitVec.ofNat 32 (i 1).val
  let c1280_i32_136 : BitVec 32 := 1280#32
  let v330 : BitVec 32 := Scalar.muli arg1 c1280_i32_136
  let c1024_i32 : BitVec 32 := 1024#32
  let v331 : BitVec 32 := Scalar.addi v330 c1024_i32
  v331
def k0_off4 (i : grid0.Coords) : Fin 1 → Nat :=
  let arg0 : BitVec 32 := BitVec.ofNat 32 (i 0).val
  let v20 : Index := Scalar.indexCast arg0
  ![v20.toNat]
def k0_mult6 (i : grid0.Coords) : BitVec 32 :=
  let arg1 : BitVec 32 := BitVec.ofNat 32 (i 1).val
  let c5_i32_24 : BitVec 32 := 5#32
  let v66 : BitVec 32 := Scalar.subi arg1 c5_i32_24
  let c1024_i32 : BitVec 32 := 1024#32
  let v67 : BitVec 32 := Scalar.muli v66 c1024_i32
  let c0_i32_25 : BitVec 32 := 0#32
  let v68 : BitVec 32 := Scalar.addi v67 c0_i32_25
  v68
def k0_off5 (i : grid0.Coords) (c0_i32_25 : BitVec 32) : Fin 2 → Nat :=
  let c0_26 : Index := 0#32
  let arg1 : BitVec 32 := BitVec.ofNat 32 (i 1).val
  let c5_i32_24 : BitVec 32 := 5#32
  let v66 : BitVec 32 := Scalar.subi arg1 c5_i32_24
  let c1024_i32 : BitVec 32 := 1024#32
  let v67 : BitVec 32 := Scalar.muli v66 c1024_i32
  let v68 : BitVec 32 := Scalar.addi v67 c0_i32_25
  let v69 : BitVec 32 := v68
  let v70 : Index := Scalar.indexCast v69
  ![0, v70.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c5_i32_3 : BitVec 32 := 5#32
  let v11 : BitVec 1 := Scalar.cmpi .sge arg1 c5_i32_3
  let v12 : BitVec 1 := Scalar.andi v1 v11
  let v13 : BitVec 32 := Scalar.extui v12
  let c0_i32_4 : BitVec 32 := 0#32
  let v14 : BitVec 1 := Scalar.cmpi .ne v13 c0_i32_4
  v14

def k0_chk1 (i : grid0.Coords) (v0 : BitVec 32) : Prop :=
  (∀ (k0_h2 : k0_cond2 i v0 = 1#1), ∀ (r : Fin 5), ∀ a, (k0_off3 i (BitVec.ofNat 32 (256 * r.val))) a + S48x256.size a ≤ S48x6400.size a) ∧
  (∀ (k0_h2 : k0_cond2 i v0 = 1#1), ∀ (r : Fin 5), ∀ (hinb : ∀ a, (k0_off3 i (BitVec.ofNat 32 (256 * r.val))) a + S48x256.size a ≤ S48x6400.size a), (Rect.unit (s := S48x6400) (k0_off3 i (BitVec.ofNat 32 (256 * r.val))) S48x256.size hinb).PackedRows (EltTy.packing .bf16)) ∧
  (∀ (k0_h3 : k0_cond3 i v0 = 1#1), ∀ (r : Fin 4), ∀ a, (k0_off5 i (BitVec.ofNat 32 (256 * r.val))) a + S48x256.size a ≤ S48x4096.size a)
theorem k0_off3_inb : ∀ (i : grid0.Coords) (v0 : BitVec 32) (k0_hw1 : k0_chk1 i v0), ∀ (k0_h2 : k0_cond2 i v0 = 1#1), ∀ (r : Fin 5), ∀ a, (k0_off3 i (BitVec.ofNat 32 (256 * r.val))) a + S48x256.size a ≤ S48x6400.size a := fun i v0 k0_hw1 k0_h2 r => k0_hw1.1 k0_h2 r
theorem k0_off3_packedbf16 : ∀ (i : grid0.Coords) (v0 : BitVec 32) (k0_hw1 : k0_chk1 i v0), ∀ (k0_h2 : k0_cond2 i v0 = 1#1), ∀ (r : Fin 5), (Rect.unit (s := S48x6400) (k0_off3 i (BitVec.ofNat 32 (256 * r.val))) S48x256.size (k0_off3_inb i v0 k0_hw1 k0_h2 r)).PackedRows (EltTy.packing .bf16) := fun i v0 k0_hw1 k0_h2 r => k0_hw1.2.1 k0_h2 r (k0_off3_inb i v0 k0_hw1 k0_h2 r)
theorem k0_off5_inb : ∀ (i : grid0.Coords) (v0 : BitVec 32) (k0_hw1 : k0_chk1 i v0), ∀ (k0_h3 : k0_cond3 i v0 = 1#1), ∀ (r : Fin 4), ∀ a, (k0_off5 i (BitVec.ofNat 32 (256 * r.val))) a + S48x256.size a ≤ S48x4096.size a := fun i v0 k0_hw1 k0_h3 r => k0_hw1.2.2 k0_h3 r

def k0_mult7 (i : grid0.Coords) : BitVec 32 :=
  let arg1 : BitVec 32 := BitVec.ofNat 32 (i 1).val
  let c5_i32_41 : BitVec 32 := 5#32
  let v109 : BitVec 32 := Scalar.subi arg1 c5_i32_41
  let c1024_i32_42 : BitVec 32 := 1024#32
  let v110 : BitVec 32 := Scalar.muli v109 c1024_i32_42
  let c256_i32 : BitVec 32 := 256#32
  let v111 : BitVec 32 := Scalar.addi v110 c256_i32
  v111
def k0_mult8 (i : grid0.Coords) : BitVec 32 :=
  let arg1 : BitVec 32 := BitVec.ofNat 32 (i 1).val
  let c5_i32_58 : BitVec 32 := 5#32
  let v152 : BitVec 32 := Scalar.subi arg1 c5_i32_58
  let c1024_i32_59 : BitVec 32 := 1024#32
  let v153 : BitVec 32 := Scalar.muli v152 c1024_i32_59
  let c512_i32 : BitVec 32 := 512#32
  let v154 : BitVec 32 := Scalar.addi v153 c512_i32
  v154
def k0_mult9 (i : grid0.Coords) : BitVec 32 :=
  let arg1 : BitVec 32 := BitVec.ofNat 32 (i 1).val
  let c5_i32_75 : BitVec 32 := 5#32
  let v195 : BitVec 32 := Scalar.subi arg1 c5_i32_75
  let c1024_i32_76 : BitVec 32 := 1024#32
  let v196 : BitVec 32 := Scalar.muli v195 c1024_i32_76
  let c768_i32 : BitVec 32 := 768#32
  let v197 : BitVec 32 := Scalar.addi v196 c768_i32
  v197
def k0_cond4 (i : grid0.Coords) : BitVec 1 :=
  let arg0 : BitVec 32 := BitVec.ofNat 32 (i 0).val
  let c6_i32 : BitVec 32 := 6#32
  let v15 : BitVec 1 := Scalar.cmpi .eq arg0 c6_i32
  let arg1 : BitVec 32 := BitVec.ofNat 32 (i 1).val
  let c8_i32 : BitVec 32 := 8#32
  let v16 : BitVec 1 := Scalar.cmpi .eq arg1 c8_i32
  let v17 : BitVec 1 := Scalar.andi v15 v16
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (inb_S8_S1_7 : ∀ a, (![7] : Fin 1 → Nat) a + S1.size a ≤ S8.size a) (numel1_S1 : S1.numel = 1) (k0_off1_inb : ∀ i : grid0.Coords, ∀ a, (k0_off1 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c7 : Index := 7#32
  let v0 : BitVec 32 := pf.at 0 (Rect.unit (s := S8) ![7] S1.size inb_S8_S1_7) numel1_S1
  let v1 : BitVec 1 := Scalar.cmpi .slt arg0 v0
  let c4_i32 : BitVec 32 := 4#32
  let v2 : BitVec 32 := Scalar.minsi arg1 c4_i32
  let c4_i32_0 : BitVec 32 := 4#32
  let v3 : BitVec 32 := Scalar.select v1 v2 c4_i32_0
  let v4 : Index := Scalar.indexCast arg0
  let v5 : BitVec 32 := pf.at 0 (Rect.unit (s := S8) ![v4.toNat] S1.size (k0_off1_inb i)) numel1_S1
  let c0_i32 : BitVec 32 := 0#32
  let v6 : BitVec 32 := Scalar.addi v3 c0_i32
  let c0_i32_1 : BitVec 32 := 0#32
  let c0_i32_2 : BitVec 32 := 0#32
  ![v5.toNat, c0_i32_1.toNat, v6.toNat]

def cc0_transform_2 (inb_S8_S1_7 : ∀ a, (![7] : Fin 1 → Nat) a + S1.size a ≤ S8.size a) (numel1_S1 : S1.numel = 1) (k0_off1_inb : ∀ i : grid0.Coords, ∀ a, (k0_off1 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c7 : Index := 7#32
  let v0 : BitVec 32 := pf.at 0 (Rect.unit (s := S8) ![7] S1.size inb_S8_S1_7) numel1_S1
  let v1 : BitVec 1 := Scalar.cmpi .slt arg0 v0
  let c4_i32 : BitVec 32 := 4#32
  let v2 : BitVec 32 := Scalar.minsi arg1 c4_i32
  let c4_i32_0 : BitVec 32 := 4#32
  let v3 : BitVec 32 := Scalar.select v1 v2 c4_i32_0
  let v4 : Index := Scalar.indexCast arg0
  let v5 : BitVec 32 := pf.at 0 (Rect.unit (s := S8) ![v4.toNat] S1.size (k0_off1_inb i)) numel1_S1
  let c5_i32 : BitVec 32 := 5#32
  let v6 : BitVec 32 := Scalar.addi v3 c5_i32
  let c0_i32 : BitVec 32 := 0#32
  let c0_i32_1 : BitVec 32 := 0#32
  ![v5.toNat, c0_i32.toNat, v6.toNat]

def cc0_transform_3 (inb_S8_S1_7 : ∀ a, (![7] : Fin 1 → Nat) a + S1.size a ≤ S8.size a) (numel1_S1 : S1.numel = 1) (k0_off1_inb : ∀ i : grid0.Coords, ∀ a, (k0_off1 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c7 : Index := 7#32
  let v0 : BitVec 32 := pf.at 0 (Rect.unit (s := S8) ![7] S1.size inb_S8_S1_7) numel1_S1
  let v1 : BitVec 1 := Scalar.cmpi .slt arg0 v0
  let c4_i32 : BitVec 32 := 4#32
  let v2 : BitVec 32 := Scalar.minsi arg1 c4_i32
  let c4_i32_0 : BitVec 32 := 4#32
  let v3 : BitVec 32 := Scalar.select v1 v2 c4_i32_0
  let v4 : Index := Scalar.indexCast arg0
  let v5 : BitVec 32 := pf.at 0 (Rect.unit (s := S8) ![v4.toNat] S1.size (k0_off1_inb i)) numel1_S1
  let c0_i32 : BitVec 32 := 0#32
  let v6 : BitVec 32 := Scalar.addi v3 c0_i32
  let c0_i32_1 : BitVec 32 := 0#32
  let c0_i32_2 : BitVec 32 := 0#32
  ![v5.toNat, c0_i32_1.toNat, v6.toNat]

def cc0_transform_4 (inb_S8_S1_7 : ∀ a, (![7] : Fin 1 → Nat) a + S1.size a ≤ S8.size a) (numel1_S1 : S1.numel = 1) (k0_off1_inb : ∀ i : grid0.Coords, ∀ a, (k0_off1 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c7 : Index := 7#32
  let v0 : BitVec 32 := pf.at 0 (Rect.unit (s := S8) ![7] S1.size inb_S8_S1_7) numel1_S1
  let v1 : BitVec 1 := Scalar.cmpi .slt arg0 v0
  let c4_i32 : BitVec 32 := 4#32
  let v2 : BitVec 32 := Scalar.minsi arg1 c4_i32
  let c4_i32_0 : BitVec 32 := 4#32
  let v3 : BitVec 32 := Scalar.select v1 v2 c4_i32_0
  let v4 : Index := Scalar.indexCast arg0
  let v5 : BitVec 32 := pf.at 0 (Rect.unit (s := S8) ![v4.toNat] S1.size (k0_off1_inb i)) numel1_S1
  let c5_i32 : BitVec 32 := 5#32
  let v6 : BitVec 32 := Scalar.addi v3 c5_i32
  let c0_i32 : BitVec 32 := 0#32
  let c0_i32_1 : BitVec 32 := 0#32
  ![v5.toNat, c0_i32.toNat, v6.toNat]

def cc0_transform_5 (k0_off2_inb : ∀ i : grid0.Coords, ∀ a, (k0_off2 i) a + S1.size a ≤ S8.size a) (numel1_S1 : S1.numel = 1) (inb_S8_S1_7 : ∀ a, (![7] : Fin 1 → Nat) a + S1.size a ≤ S8.size a) (k0_off1_inb : ∀ i : grid0.Coords, ∀ a, (k0_off1 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S8) ![v2.toNat] S1.size (k0_off2_inb i)) numel1_S1
  let c4_i32 : BitVec 32 := 4#32
  let v4 : BitVec 1 := Scalar.cmpi .slt arg1 c4_i32
  let c0_i32_0 : BitVec 32 := 0#32
  let v5 : BitVec 1 := Scalar.cmpi .sgt arg0 c0_i32_0
  let v6 : BitVec 1 := Scalar.andi v4 v5
  let c7 : Index := 7#32
  let v7 : BitVec 32 := pf.at 0 (Rect.unit (s := S8) ![7] S1.size inb_S8_S1_7) numel1_S1
  let v8 : BitVec 1 := Scalar.cmpi .slt arg0 v7
  let v9 : BitVec 1 := Scalar.andi v6 v8
  let v10 : Index := Scalar.indexCast arg0
  let v11 : BitVec 32 := pf.at 0 (Rect.unit (s := S8) ![v10.toNat] S1.size (k0_off1_inb i)) numel1_S1
  let v12 : BitVec 32 := Scalar.select v9 v3 v11
  let c7_1 : Index := 7#32
  let v13 : BitVec 32 := pf.at 0 (Rect.unit (s := S8) ![7] S1.size inb_S8_S1_7) numel1_S1
  let v14 : BitVec 1 := Scalar.cmpi .slt arg0 v13
  let c5_i32 : BitVec 32 := 5#32
  let v15 : BitVec 32 := Scalar.subi arg1 c5_i32
  let c0_i32_2 : BitVec 32 := 0#32
  let v16 : BitVec 32 := Scalar.maxsi v15 c0_i32_2
  let c3_i32 : BitVec 32 := 3#32
  let v17 : BitVec 32 := Scalar.select v9 c3_i32 v16
  let c3_i32_3 : BitVec 32 := 3#32
  let v18 : BitVec 32 := Scalar.select v14 v17 c3_i32_3
  let c0_i32_4 : BitVec 32 := 0#32
  let c0_i32_5 : BitVec 32 := 0#32
  ![v12.toNat, c0_i32_4.toNat, v18.toNat]

def cc0_transform_6 (k0_off2_inb : ∀ i : grid0.Coords, ∀ a, (k0_off2 i) a + S1.size a ≤ S8.size a) (numel1_S1 : S1.numel = 1) (inb_S8_S1_7 : ∀ a, (![7] : Fin 1 → Nat) a + S1.size a ≤ S8.size a) (k0_off1_inb : ∀ i : grid0.Coords, ∀ a, (k0_off1 i) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  let v3 : BitVec 32 := pf.at 0 (Rect.unit (s := S8) ![v2.toNat] S1.size (k0_off2_inb i)) numel1_S1
  let c4_i32 : BitVec 32 := 4#32
  let v4 : BitVec 1 := Scalar.cmpi .slt arg1 c4_i32
  let c0_i32_0 : BitVec 32 := 0#32
  let v5 : BitVec 1 := Scalar.cmpi .sgt arg0 c0_i32_0
  let v6 : BitVec 1 := Scalar.andi v4 v5
  let c7 : Index := 7#32
  let v7 : BitVec 32 := pf.at 0 (Rect.unit (s := S8) ![7] S1.size inb_S8_S1_7) numel1_S1
  let v8 : BitVec 1 := Scalar.cmpi .slt arg0 v7
  let v9 : BitVec 1 := Scalar.andi v6 v8
  let v10 : Index := Scalar.indexCast arg0
  let v11 : BitVec 32 := pf.at 0 (Rect.unit (s := S8) ![v10.toNat] S1.size (k0_off1_inb i)) numel1_S1
  let v12 : BitVec 32 := Scalar.select v9 v3 v11
  let c7_1 : Index := 7#32
  let v13 : BitVec 32 := pf.at 0 (Rect.unit (s := S8) ![7] S1.size inb_S8_S1_7) numel1_S1
  let v14 : BitVec 1 := Scalar.cmpi .slt arg0 v13
  let c5_i32 : BitVec 32 := 5#32
  let v15 : BitVec 32 := Scalar.subi arg1 c5_i32
  let c0_i32_2 : BitVec 32 := 0#32
  let v16 : BitVec 32 := Scalar.maxsi v15 c0_i32_2
  let c3_i32 : BitVec 32 := 3#32
  let v17 : BitVec 32 := Scalar.select v9 c3_i32 v16
  let c3_i32_3 : BitVec 32 := 3#32
  let v18 : BitVec 32 := Scalar.select v14 v17 c3_i32_3
  let c0_i32_4 : BitVec 32 := 0#32
  let c0_i32_5 : BitVec 32 := 0#32
  ![v12.toNat, c0_i32_4.toNat, v18.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3200x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x50x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S48x2 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S48x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S48x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S48x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S48x1x4096 : Shape := ⟨3, ![48, 1, 4096]⟩
abbrev S7x2048x12800 : Shape := ⟨3, ![7, 2048, 12800]⟩
abbrev S7x32x12800 : Shape := ⟨3, ![7, 32, 12800]⟩
abbrev S7x3200x4096 : Shape := ⟨3, ![7, 3200, 4096]⟩
abbrev S7x50x4096 : Shape := ⟨3, ![7, 50, 4096]⟩
abbrev S48x1x2 : Shape := ⟨3, ![48, 1, 2]⟩
abbrev S253 : Shape := ⟨1, ![253]⟩
abbrev S48x4096 : Shape := ⟨2, ![48, 4096]⟩
abbrev S48x2 : Shape := ⟨2, ![48, 2]⟩
abbrev S7x32x64x12800 : Shape := ⟨4, ![7, 32, 64, 12800]⟩
abbrev S_ : Shape := ⟨0, ![]⟩
abbrev S7x50x64x4096 : Shape := ⟨4, ![7, 50, 64, 4096]⟩
abbrev S48x2048 : Shape := ⟨2, ![48, 2048]⟩
abbrev S48x7x12800 : Shape := ⟨3, ![48, 7, 12800]⟩
abbrev S48x7x6400 : Shape := ⟨3, ![48, 7, 6400]⟩
abbrev S48x7x3200 : Shape := ⟨3, ![48, 7, 3200]⟩
abbrev S7x48x4096 : Shape := ⟨3, ![7, 48, 4096]⟩
abbrev S1x48x2 : Shape := ⟨3, ![1, 48, 2]⟩
abbrev S7 : Shape := ⟨1, ![7]⟩
abbrev S7x1x1 : Shape := ⟨3, ![7, 1, 1]⟩
abbrev S7x48x2 : Shape := ⟨3, ![7, 48, 2]⟩
abbrev S7x48x2x1 : Shape := ⟨4, ![7, 48, 2, 1]⟩
abbrev S1x48x2x1 : Shape := ⟨4, ![1, 48, 2, 1]⟩
abbrev S7x48x1x4096 : Shape := ⟨4, ![7, 48, 1, 4096]⟩
abbrev S7x48x2x4096 : Shape := ⟨4, ![7, 48, 2, 4096]⟩
abbrev S48x32x128 : Shape := ⟨3, ![48, 32, 128]⟩
abbrev S48x32 : Shape := ⟨2, ![48, 32]⟩
abbrev S48x32x1 : Shape := ⟨3, ![48, 32, 1]⟩
abbrev S1x1x253 : Shape := ⟨3, ![1, 1, 253]⟩
abbrev S48x32x253 : Shape := ⟨3, ![48, 32, 253]⟩

abbrev nBuf : Space → Nat
  | .hbm => 138
  | .vmem => 2
  | .smem => 0
  | _ => 0

abbrev hbmTy0_0 (i : Nat) : BufTy := match i % 128 with
  | 0 => ⟨S48x1x4096, .bf16⟩
  | 1 => ⟨S7x2048x12800, .i8⟩
  | 2 => ⟨S7x32x12800, .bf16⟩
  | 3 => ⟨S7x3200x4096, .i8⟩
  | 4 => ⟨S7x50x4096, .bf16⟩
  | 5 => ⟨S48x1x2, .i32⟩
  | 6 => ⟨S48x1x2, .f32⟩
  | 7 => ⟨S253, .f32⟩
  | 8 => ⟨S48x4096, .bf16⟩
  | 9 => ⟨S48x2, .i32⟩
  | 10 => ⟨S48x2, .f32⟩
  | 11 => ⟨S7x32x64x12800, .bf16⟩
  | 12 => ⟨S7x2048x12800, .bf16⟩
  | 13 => ⟨S7x2048x12800, .i32⟩
  | 14 => ⟨S_, .i32⟩
  | 15 => ⟨S7x2048x12800, .i32⟩
  | 16 => ⟨S7x2048x12800, .i32⟩
  | 17 => ⟨S7x2048x12800, .bf16⟩
  | 18 => ⟨S_, .bf16⟩
  | 19 => ⟨S7x2048x12800, .bf16⟩
  | 20 => ⟨S7x2048x12800, .bf16⟩
  | 21 => ⟨S7x2048x12800, .bf16⟩
  | 22 => ⟨S_, .i32⟩
  | 23 => ⟨S7x2048x12800, .i32⟩
  | 24 => ⟨S7x2048x12800, .i32⟩
  | 25 => ⟨S7x2048x12800, .bf16⟩
  | 26 => ⟨S_, .bf16⟩
  | 27 => ⟨S7x2048x12800, .bf16⟩
  | 28 => ⟨S7x2048x12800, .bf16⟩
  | 29 => ⟨S7x2048x12800, .bf16⟩
  | 30 => ⟨S7x50x64x4096, .bf16⟩
  | 31 => ⟨S7x3200x4096, .bf16⟩
  | 32 => ⟨S7x3200x4096, .i32⟩
  | 33 => ⟨S_, .i32⟩
  | 34 => ⟨S7x3200x4096, .i32⟩
  | 35 => ⟨S7x3200x4096, .i32⟩
  | 36 => ⟨S7x3200x4096, .bf16⟩
  | 37 => ⟨S_, .bf16⟩
  | 38 => ⟨S7x3200x4096, .bf16⟩
  | 39 => ⟨S7x3200x4096, .bf16⟩
  | 40 => ⟨S7x3200x4096, .bf16⟩
  | 41 => ⟨S_, .i32⟩
  | 42 => ⟨S7x3200x4096, .i32⟩
  | 43 => ⟨S7x3200x4096, .i32⟩
  | 44 => ⟨S7x3200x4096, .bf16⟩
  | 45 => ⟨S_, .bf16⟩
  | 46 => ⟨S7x3200x4096, .bf16⟩
  | 47 => ⟨S7x3200x4096, .bf16⟩
  | 48 => ⟨S7x3200x4096, .bf16⟩
  | 49 => ⟨S48x2048, .bf16⟩
  | 50 => ⟨S48x7x12800, .f32⟩
  | 51 => ⟨S48x2048, .bf16⟩
  | 52 => ⟨S48x7x12800, .f32⟩
  | 53 => ⟨S48x7x12800, .f32⟩
  | 54 => ⟨S48x7x6400, .f32⟩
  | 55 => ⟨S48x7x6400, .f32⟩
  | 56 => ⟨S48x7x6400, .f32⟩
  | 57 => ⟨S48x7x6400, .f32⟩
  | 58 => ⟨S_, .f32⟩
  | 59 => ⟨S48x7x6400, .f32⟩
  | 60 => ⟨S48x7x6400, .f32⟩
  | 61 => ⟨S_, .f32⟩
  | 62 => ⟨S48x7x6400, .f32⟩
  | 63 => ⟨S48x7x6400, .f32⟩
  | 64 => ⟨S48x7x6400, .f32⟩
  | 65 => ⟨S48x7x6400, .f32⟩
  | 66 => ⟨S48x7x6400, .bf16⟩
  | 67 => ⟨S48x7x3200, .bf16⟩
  | 68 => ⟨S7x48x4096, .f32⟩
  | 69 => ⟨S48x7x3200, .bf16⟩
  | 70 => ⟨S7x48x4096, .f32⟩
  | 71 => ⟨S7x48x4096, .f32⟩
  | 72 => ⟨S1x48x2, .i32⟩
  | 73 => ⟨S7, .i32⟩
  | 74 => ⟨S7x1x1, .i32⟩
  | 75 => ⟨S7x48x2, .i32⟩
  | 76 => ⟨S7x48x2, .i32⟩
  | 77 => ⟨S7x48x2, .i1⟩
  | 78 => ⟨S7x48x2x1, .i1⟩
  | 79 => ⟨S1x48x2x1, .f32⟩
  | 80 => ⟨S7x48x1x4096, .f32⟩
  | 81 => ⟨S7x48x2x4096, .f32⟩
  | 82 => ⟨S7x48x2x4096, .f32⟩
  | 83 => ⟨S7x48x2x4096, .f32⟩
  | 84 => ⟨S_, .f32⟩
  | 85 => ⟨S_, .f32⟩
  | 86 => ⟨S7x48x2x4096, .i1⟩
  | 87 => ⟨S7x48x2x4096, .f32⟩
  | 88 => ⟨S7x48x2x4096, .f32⟩
  | 89 => ⟨S_, .f32⟩
  | 90 => ⟨S48x4096, .f32⟩
  | 91 => ⟨S48x32x128, .f32⟩
  | 92 => ⟨S48x32x128, .f32⟩
  | 93 => ⟨S_, .f32⟩
  | 94 => ⟨S48x32, .f32⟩
  | 95 => ⟨S_, .f32⟩
  | 96 => ⟨S48x32, .f32⟩
  | 97 => ⟨S48x32, .f32⟩
  | 98 => ⟨S_, .f32⟩
  | 99 => ⟨S253, .f32⟩
  | 100 => ⟨S253, .f32⟩
  | 101 => ⟨S48x32x1, .f32⟩
  | 102 => ⟨S1x1x253, .f32⟩
  | 103 => ⟨S48x32x253, .f32⟩
  | 104 => ⟨S48x32x253, .f32⟩
  | 105 => ⟨S48x32x253, .i1⟩
  | 106 => ⟨S48x32x1, .f32⟩
  | 107 => ⟨S1x1x253, .f32⟩
  | 108 => ⟨S48x32x253, .f32⟩
  | 109 => ⟨S48x32x253, .f32⟩
  | 110 => ⟨S48x32x253, .i1⟩
  | 111 => ⟨S48x32x253, .i1⟩
  | 112 => ⟨S_, .i1⟩
  | 113 => ⟨S48x32, .i1⟩
  | 114 => ⟨S_, .f32⟩
  | 115 => ⟨S_, .f32⟩
  | 116 => ⟨S48x32x253, .f32⟩
  | 117 => ⟨S48x32x253, .f32⟩
  | 118 => ⟨S48x32x253, .f32⟩
  | 119 => ⟨S_, .f32⟩
  | 120 => ⟨S48x32, .f32⟩
  | 121 => ⟨S_, .f32⟩
  | 122 => ⟨S_, .f32⟩
  | 123 => ⟨S48x32, .f32⟩
  | 124 => ⟨S48x32, .f32⟩
  | 125 => ⟨S48x32x1, .f32⟩
  | 126 => ⟨S48x32x128, .f32⟩
  | 127 => ⟨S48x32x128, .f32⟩
  | _ => ⟨S48x1x4096, .bf16⟩

abbrev hbmTy0_1 (i : Nat) : BufTy := match i % 128 with
  | 0 => ⟨S_, .f32⟩
  | 1 => ⟨S_, .f32⟩
  | 2 => ⟨S_, .f32⟩
  | 3 => ⟨S48x32x128, .f32⟩
  | 4 => ⟨S48x32x128, .f32⟩
  | 5 => ⟨S_, .f32⟩
  | 6 => ⟨S48x32x128, .f32⟩
  | 7 => ⟨S48x32x128, .f32⟩
  | 8 => ⟨S48x4096, .f32⟩
  | 9 => ⟨S48x4096, .fp8e4m3⟩
  | _ => ⟨S48x1x4096, .bf16⟩

abbrev hbmTy (i : Nat) : BufTy := match i / 128 with
  | 0 => hbmTy0_0 i
  | 1 => hbmTy0_1 i
  | _ => ⟨S48x1x4096, .bf16⟩

abbrev bufTy : (tb : Table) → Fin (tcTables nBuf tb) → BufTy
  | .hbm, ⟨i, _⟩ => hbmTy i
  | .local _ .vmem, ⟨0, _⟩ => ⟨S48x4096, .f32⟩
  | .local _ .vmem, ⟨1, _⟩ => ⟨S48x4096, .fp8e4m3⟩
  | _, _ => ⟨S48x1x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_14 : Ref sig .tc := ⟨.hbm, 112, rfl⟩
abbrev main_v86 : Ref sig .tc := ⟨.hbm, 113, rfl⟩
abbrev main_cst_15 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v87 : Ref sig .tc := ⟨.hbm, 118, rfl⟩
abbrev main_cst_16 : Ref sig .tc := ⟨.hbm, 119, rfl⟩
abbrev main_v88 : Ref sig .tc := ⟨.hbm, 120, rfl⟩
abbrev main_cst_17 : Ref sig .tc := ⟨.hbm, 121, rfl⟩
abbrev main_call2_v0 : Ref sig .tc := ⟨.hbm, 122, rfl⟩
abbrev main_call2_v1 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_18 : Ref sig .tc := ⟨.hbm, 128, rfl⟩
abbrev main_cst_19 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S48x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelBlocks.lean ====
/-
  The kernel body cut at its four `scf.if`s: the zeroing of the accumulator (`zeroB`), the first matrix product's
  columns (`fillB`), the second product's (`accB`) and the quantiser (`quantB`), each as the printed skeleton has it,
  and the body as their sequence (`body_eq`).
-/
module

public import proofs.«01_k».proof.Proof.Gen.Kernel.Skeleton

@[expose] public section

noncomputable section

namespace Cert.Kernel.Body

open Cert.Kernel Cert.Kernel.Gen
open Idealize.ShloMosaic Idealize.ShloMosaic.TcCoe
open Idealize.SL Idealize.SL.Sem

variable {F : FTy → Type} [FloatOps F]

set_option maxHeartbeats 4000000 in
/-- The accumulator is zeroed at the first point. -/
def zeroB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) :
    Prog (TpuEff nD τ sig (Elt F) Λ₀ .tc) PUnit := do
  let arg0 : BitVec 32 := BitVec.ofNat 32 (i 0).val
  let arg1 : BitVec 32 := BitVec.ofNat 32 (i 1).val
  let v2 : BitVec 1 := Scalar.cmpi .eq arg0 0#32
  let v3 : BitVec 1 := Scalar.cmpi .eq arg1 0#32
  let v4 : BitVec 1 := Scalar.andi v2 v3
  let v5 : BitVec 32 := Scalar.extui v4
  let v6 : BitVec 1 := Scalar.cmpi .ne v5 0#32
  if k0_h1 : v6 = 1#1 then do
    let v21 : Vec F S48x4096 .f32 ← Prog.lift (.load arg15 (Rect.unit (s := S48x4096) ![0, 0] S48x4096.size inb_S48x4096_S48x4096_0_0).toLoadRect (View.loadsAt_vmem h_S48x4096))
    Prog.lift (.store arg15 (Rect.unit (s := S48x4096) ![0, 0] S48x4096.size inb_S48x4096_S48x4096_0_0) (k0_pay1 (F := F)) Finset.univ (View.stores_vmem_bits_univ h_S48x4096 rfl) (.inl rfl))
    pure ⟨⟩
  else do
    pure ⟨⟩

set_option maxHeartbeats 4000000 in
/-- A live point of the first five columns: five chunks of `h` columns are stored. -/
def fillB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h2 : k0_cond2 i v0 = 1#1 then do
    let ⟨v21, v47, v51, v52, v56⟩ : Σ' (v21 : FVec F S48x4096 .bf16) (v47 : FVec F S48x256 .f32) (v51 : FVec F S32x256 .bf16) (v52 : IVec S2048x256 32), IVec S2048x256 32 ← k0_part1 i arg2 harg2 arg3 harg3 arg4 harg4 arg5 harg5 arg6 harg6 arg7 harg7 arg8 harg8 arg9 harg9 arg10 harg10 arg11 harg11 arg12 harg12 arg13 harg13 arg14 harg14 arg15 harg15
    let ⟨v88, v95, v97⟩ : Σ' (v88 : FVec F S32x256 .bf16) (v95 : IVec S2048x256 32), IVec S2048x256 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v47 v51 v52 v56
    let ⟨v140, c1280_i32_55⟩ : Σ' (v140 : FVec F S48x256 .bf16), BitVec 32 ← k0_part3 i arg2 harg2 arg3 harg3 arg4 harg4 arg5 harg5 arg6 harg6 arg7 harg7 arg8 harg8 arg9 harg9 arg10 harg10 arg11 harg11 arg12 harg12 arg13 harg13 arg14 harg14 arg15 harg15 v21 v88 v95 v97
    let ⟨v173, v177, v178⟩ : Σ' (v173 : FVec F S48x256 .f32) (v177 : FVec F S32x256 .bf16), IVec S2048x256 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v140 c1280_i32_55
    let ⟨v214, v215, v219⟩ : Σ' (v214 : FVec F S32x256 .bf16) (v215 : IVec S2048x256 32), IVec S2048x256 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v173 v177 v178
    let ⟨v236, v261, cst_108⟩ : Σ' (v236 : FVec F S48x256 .f32) (v261 : FVec F S4096x256 .bf16), FVec F S48x256 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 v21 v214 v215 v219
    let ⟨v299, v301⟩ : Σ' (v299 : FVec F S48x256 .f32), IVec S2048x256 8 ← k0_part7 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v236 v261 cst_108
    let v302 : Vec F S1x32x256 .bf16 ← Prog.lift (.load arg7 (Rect.unit (s := S1x32x1280) ![0, 0, 1024] S1x32x256.size inb_S1x32x1280_S1x32x256_0_0_1024).toLoadRect (View.loadsAt_vmem h_S1x32x256))
    let v334 : Vec F S48x256 .bf16 ← Prog.lift (.load arg14 (Rect.unit (s := S48x6400) (k0_off3 i 1024#32) S48x256.size (k0_off3_inb i v0 k0_hw1 k0_h2 4)).toLoadRect (View.loadsAt_vmem h_S48x256))
    Prog.lift (.store arg14 (Rect.unit (s := S48x6400) (k0_off3 i 1024#32) S48x256.size (k0_off3_inb i v0 k0_hw1 k0_h2 4)) (k0_pay2 v21 v299 v301 v302) Finset.univ (View.stores_vmem h_S48x256 (harg14.storeExact_slice rfl _ (k0_off3_packedbf16 i v0 k0_hw1 k0_h2 4)) (fun _ => rfl)) (.inl rfl))
    pure ⟨⟩
  else do
    pure ⟨⟩

set_option maxHeartbeats 4000000 in
/-- A live point of the last four columns: four chunks of output columns are added into the accumulator. -/
def accB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h3 : k0_cond3 i v0 = 1#1 then do
    let ⟨v31, v38, v39, v43, v50, v54, v55⟩ : Σ' (v31 : FVec F S48x1 .f32) (v38 : IVec S48x1 1) (v39 : Vec F S48x6400 .bf16) (v43 : FVec F S50x256 .bf16) (v50 : IVec S3200x256 32) (v54 : IVec S3200x256 32), IVec S3200x256 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg0
    let ⟨v86, v93, v95, v96⟩ : Σ' (v86 : FVec F S50x256 .bf16) (v93 : IVec S3200x256 32) (v95 : IVec S3200x256 32), IVec S3200x256 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h3 v31 v38 v39 v43 v50 v54 v55
    let ⟨v129, v130, v136, v137⟩ : Σ' (v129 : FVec F S50x256 .bf16) (v130 : IVec S3200x256 32) (v136 : IVec S3200x256 32), IVec S3200x256 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h3 v31 v38 v39 v86 v93 v95 v96
    let ⟨v172, v173, v177, v178⟩ : Σ' (v172 : FVec F S50x256 .bf16) (v173 : IVec S3200x256 32) (v177 : IVec S3200x256 32), IVec S3200x256 32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h3 v31 v38 v39 v129 v130 v136 v137
    let v200 : Vec F S48x256 .f32 ← Prog.lift (.load arg15 (Rect.unit (s := S48x4096) (k0_off5 i 768#32) S48x256.size (k0_off5_inb i v0 k0_hw1 k0_h3 3)).toLoadRect (View.loadsAt_vmem h_S48x256))
    let v209 : Vec F S48x256 .f32 ← Prog.lift (.load arg15 (Rect.unit (s := S48x4096) (k0_off5 i 768#32) S48x256.size (k0_off5_inb i v0 k0_hw1 k0_h3 3)).toLoadRect (View.loadsAt_vmem h_S48x256))
    Prog.lift (.store arg15 (Rect.unit (s := S48x4096) (k0_off5 i 768#32) S48x256.size (k0_off5_inb i v0 k0_hw1 k0_h3 3)) (k0_pay3 v31 v38 v39 v172 v173 v177 v178 v200) Finset.univ (View.stores_vmem_bits_univ h_S48x256 rfl) (.inl rfl))
    pure ⟨⟩
  else do
    pure ⟨⟩

set_option maxHeartbeats 4000000 in
/-- The last point: the 32 column blocks of the accumulator are quantised. -/
def quantB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) :
    Prog (TpuEff nD τ sig (Elt F) Λ₀ .tc) PUnit := do
  let arg0 : BitVec 32 := BitVec.ofNat 32 (i 0).val
  let arg1 : BitVec 32 := BitVec.ofNat 32 (i 1).val
  if k0_h4 : k0_cond4 i = 1#1 then do
    let v1509 : FVec F S48x1 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15
    let v1523 : Vec F S48x1 .f32 ← Prog.lift (.load arg13 (Rect.unit (s := S48x32) ![0, 31] S48x1.size inb_S48x32_S48x1_0_31).toLoadRect (View.loadsAt_vmem h_S48x1))
    Prog.lift (.store arg13 (Rect.unit (s := S48x32) ![0, 31] S48x1.size inb_S48x32_S48x1_0_31) v1509 Finset.univ (View.stores_vmem_bits_univ h_S48x1 rfl) (.inl rfl))
    pure ⟨⟩
  else do
    pure ⟨⟩

/-- The body as the sequence of its blocks. -/
def blocks (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) :
    Prog (TpuEff nD τ sig (Elt F) Λ₀ .tc) PUnit := do
  let v0 : Elt F .i32 ← smemLoad arg2 (Rect.unit (s := S8) ![7] S1.size inb_S8_S1_7) numel1_S1 rfl
  have k0_hw1 : k0_chk1 i v0 := (← Prog.lift (TpuEff.assume (k0_chk1 i v0) (k0_chk1.dec i v0))).down
  zeroB i arg2 harg2 arg3 harg3 arg4 harg4 arg5 harg5 arg6 harg6 arg7 harg7 arg8 harg8 arg9 harg9 arg10 harg10 arg11 harg11 arg12 harg12 arg13 harg13 arg14 harg14 arg15 harg15
  fillB i arg2 harg2 arg3 harg3 arg4 harg4 arg5 harg5 arg6 harg6 arg7 harg7 arg8 harg8 arg9 harg9 arg10 harg10 arg11 harg11 arg12 harg12 arg13 harg13 arg14 harg14 arg15 harg15 v0 k0_hw1
  accB i arg2 harg2 arg3 harg3 arg4 harg4 arg5 harg5 arg6 harg6 arg7 harg7 arg8 harg8 arg9 harg9 arg10 harg10 arg11 harg11 arg12 harg12 arg13 harg13 arg14 harg14 arg15 harg15 v0 k0_hw1
  quantB i arg2 harg2 arg3 harg3 arg4 harg4 arg5 harg5 arg6 harg6 arg7 harg7 arg8 harg8 arg9 harg9 arg10 harg10 arg11 harg11 arg12 harg12 arg13 harg13 arg14 harg14 arg15 harg15

set_option maxHeartbeats 4000000 in
/-- The printed body is the sequence of its blocks. -/
theorem body_eq : cc0_moe_int4 (F := F) = blocks (F := F) := by
  rw [cc0_moe_int4_eq_skeleton]
  funext i arg2 harg2 arg3 harg3 arg4 harg4 arg5 harg5 arg6 harg6 arg7 harg7 arg8 harg8 arg9 harg9 arg10 harg10 arg11 harg11 arg12 harg12 arg13 harg13 arg14 harg14 arg15 harg15
  unfold cc0_moe_int4_skel blocks zeroB fillB accB quantB
  dsimp only
  congr 1; funext v0
  congr 1; funext hw
  split <;> split <;> split <;> split <;> simp only [bind_assoc, pure_bind, bind_pure]

end Cert.Kernel.Body

end
-- ==== Proof.KernelPoints.lean ====
/-
  The schedule of the pipeline of `Kernel`: at which grid points each window is fetched or written back, the staging
  buffer each window is on at a point, and the kernel body as the pipeline calls it there.
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%26)) is fetched at the first point only, at any contents of the tables (its index map reads none). -/
theorem fetch0_0 (a : (pcfg0 (F := F)).Adm) : ∀ t : Fin (cfg0 a).N, ((cfg0 a).win 0).fetch t = true ↔ t.val % 63 = 0 :=
  (fun t => Pipeline.Window.fetchOf_const cc0_transform_0 (fun _ _ => rfl) (n := 63) (by decide) t : ∀ t : Fin grid0.N, Pipeline.Window.fetchOf grid0 false cc0_transform_0 t = true ↔ t.val % 63 = 0)
/-- Window 7 (operand 8 (%0)) is fetched at the first point only, at any contents of the tables (its index map reads none). -/
theorem fetch0_7 (a : (pcfg0 (F := F)).Adm) : ∀ t : Fin (cfg0 a).N, ((cfg0 a).win 7).fetch t = true ↔ t.val % 63 = 0 :=
  (fun t => Pipeline.Window.fetchOf_const cc0_transform_7 (fun _ _ => rfl) (n := 63) (by decide) t : ∀ t : Fin grid0.N, Pipeline.Window.fetchOf grid0 false cc0_transform_7 t = true ↔ t.val % 63 = 0)
/-- Window 8 (operand 9 (%1)) is fetched at the first point only, at any contents of the tables (its index map reads none). -/
theorem fetch0_8 (a : (pcfg0 (F := F)).Adm) : ∀ t : Fin (cfg0 a).N, ((cfg0 a).win 8).fetch t = true ↔ t.val % 63 = 0 :=
  (fun t => Pipeline.Window.fetchOf_const cc0_transform_8 (fun _ _ => rfl) (n := 63) (by decide) t : ∀ t : Fin grid0.N, Pipeline.Window.fetchOf grid0 false cc0_transform_8 t = true ↔ t.val % 63 = 0)
/-- Window 9 (result 0 (%27#0)) is written back at the last point only, at any contents of the tables (its index map reads none). -/
theorem flush0_9 (a : (pcfg0 (F := F)).Adm) : ∀ t : Fin (cfg0 a).N, ((cfg0 a).win 9).flush t = true ↔ t.val % 63 = 62 :=
  (fun t => Pipeline.Window.flushOf_const cc0_transform_9 (fun _ _ => rfl) (n := 63) (by decide) rfl t : ∀ t : Fin grid0.N, Pipeline.Window.flushOf grid0 true cc0_transform_9 t = true ↔ t.val % 63 = 62)
/-- Window 10 (result 1 (%27#1)) is written back at the last point only, at any contents of the tables (its index map reads none). -/
theorem flush0_10 (a : (pcfg0 (F := F)).Adm) : ∀ t : Fin (cfg0 a).N, ((cfg0 a).win 10).flush t = true ↔ t.val % 63 = 62 :=
  (fun t => Pipeline.Window.flushOf_const cc0_transform_10 (fun _ _ => rfl) (n := 63) (by decide) rfl t : ∀ t : Fin grid0.N, Pipeline.Window.flushOf grid0 true cc0_transform_10 t = true ↔ t.val % 63 = 62)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_int4 (grid0.coords t) (Memref.whole main_v25) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _)

end Cert.Kernel.Gen

end
-- ==== Proof.KernelKit.lean ====
/-
  The frame kit of `Kernel`: @main up to its pallas_call, the arrays' contents there (`V`), the prefetched table,
  each window's block at a point (`iblk`), and the frame claim from any proof data's run (`frame_of`).
-/
module

public import proofs.«01_k».proof.Proof.Gen.Kernel.Launch
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_v25
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

end Cert.Kernel.Gen

end
-- ==== Proof.KernelFill.lean ====
/-
  The first matrix product's block (`fillB`): what it leaves in the scratch of `h` columns, as a function of the blocks
  it reads, and its triple.
-/
module

public import proofs.«01_k».proof.Proof.KernelBlocks
public import proofs.«01_k».proof.Proof.KernelKit
public import Idealize.ShloMosaic.Lib.VecWindow

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One chunk of 256 `h` columns: the gate's and the up projection's product with the activations, `silu(gate)·up`. -/
def hchunk (x : Vec F S48x4096 .bf16) (wg wu : Vec F S1x2048x256 .i8) (sg su : Vec F S1x32x256 .bf16) : Vec F S48x256 .bf16 :=
  k0_pay9 (k0_pay4 x) (k0_pay5 x wg sg) (k0_pay6 su) (k0_pay7 wu) (k0_pay8 wu)

/-- A whole [48, 4096] block, as a load at zero offsets reads it. -/
abbrev ldX {e : EltTy} (x : Vec F S48x4096 e) : Vec F S48x4096 e := View.ld x (Rect.unit (s := S48x4096) ![0, 0] S48x4096.size inb_S48x4096_S48x4096_0_0)

/-- A store over earlier ones, the contents, the offsets and the payload each replaced by an equal. -/
theorem put_step {sig : RefSig} {κ : Kind} {sp : Space} {s : Shape} {e : EltTy} {Val : EltTy → Type} (v : View sig κ sp s e)
    (f : v.ty.Contents Val) {off off' size : Fin s.rank → ℕ} (inb : ∀ a, off a + size a ≤ s.size a)
    (w w' : (Rect.unit off size inb).shape.Idx → Val e) (L : List (View.Piece Val s e)) (x : s.Idx → Val e)
    (h : off = off') (hw : w = w') (hx : v.read Val (v.writes Val f L) = x) :
    v.read Val (v.writes Val f (⟨Rect.unit off size inb, w⟩ :: L)) = VecWindow.put x off' size w' := by
  rw [View.read_writes_cons_put v f inb w L h, hx, hw]

/-- 256 columns of a weight block, from column `k`. -/
abbrev colW (w : Vec F S1x2048x1280 .i8) (k : ℕ) (h : ∀ a, ![0, 0, k] a + S1x2048x256.size a ≤ S1x2048x1280.size a) :
    Vec F S1x2048x256 .i8 := View.ld w (Rect.unit (s := S1x2048x1280) ![0, 0, k] S1x2048x256.size h)

/-- 256 columns of a scale block, from column `k`. -/
abbrev colS (s : Vec F S1x32x1280 .bf16) (k : ℕ) (h : ∀ a, ![0, 0, k] a + S1x32x256.size a ≤ S1x32x1280.size a) :
    Vec F S1x32x256 .bf16 := View.ld s (Rect.unit (s := S1x32x1280) ![0, 0, k] S1x32x256.size h)

/-- The `h` scratch after a live point of the first product. -/
def fillV (i : grid0.Coords) (x : Vec F S48x4096 .bf16) (wg wu : Vec F S1x2048x1280 .i8) (sg su : Vec F S1x32x1280 .bf16)
    (H : Vec F S48x6400 .bf16) : Vec F S48x6400 .bf16 :=
  VecWindow.put (VecWindow.put (VecWindow.put (VecWindow.put (VecWindow.put (H) (k0_off3 i 0#32) S48x256.size
    (hchunk (ldX x) (colW wg 0 inb_S1x2048x1280_S1x2048x256_0_0_0) (colW wu 0 inb_S1x2048x1280_S1x2048x256_0_0_0)
      (colS sg 0 inb_S1x32x1280_S1x32x256_0_0_0) (colS su 0 inb_S1x32x1280_S1x32x256_0_0_0))) (k0_off3 i 256#32) S48x256.size
    (hchunk (ldX x) (colW wg 256 inb_S1x2048x1280_S1x2048x256_0_0_256) (colW wu 256 inb_S1x2048x1280_S1x2048x256_0_0_256)
      (colS sg 256 inb_S1x32x1280_S1x32x256_0_0_256) (colS su 256 inb_S1x32x1280_S1x32x256_0_0_256))) (k0_off3 i 512#32) S48x256.size
    (hchunk (ldX x) (colW wg 512 inb_S1x2048x1280_S1x2048x256_0_0_512) (colW wu 512 inb_S1x2048x1280_S1x2048x256_0_0_512)
      (colS sg 512 inb_S1x32x1280_S1x32x256_0_0_512) (colS su 512 inb_S1x32x1280_S1x32x256_0_0_512))) (k0_off3 i 768#32) S48x256.size
    (hchunk (ldX x) (colW wg 768 inb_S1x2048x1280_S1x2048x256_0_0_768) (colW wu 768 inb_S1x2048x1280_S1x2048x256_0_0_768)
      (colS sg 768 inb_S1x32x1280_S1x32x256_0_0_768) (colS su 768 inb_S1x32x1280_S1x32x256_0_0_768))) (k0_off3 i 1024#32) S48x256.size
    (hchunk (ldX x) (colW wg 1024 inb_S1x2048x1280_S1x2048x256_0_0_1024) (colW wu 1024 inb_S1x2048x1280_S1x2048x256_0_0_1024)
      (colS sg 1024 inb_S1x32x1280_S1x32x256_0_0_1024) (colS su 1024 inb_S1x32x1280_S1x32x256_0_0_1024))

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 4000000 in
/-- The block's triple at a live point. -/
theorem fill_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h2 : k0_cond2 i v0 = 1#1)
    (x : Vec F S48x4096 .bf16) (wg wu : Vec F S1x2048x1280 .i8) (sg su : Vec F S1x32x1280 .bf16) (H : Vec F S48x6400 .bf16)
    (K : PUnit → sProp 𝕄) :
    iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare H
        ∗ (iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare (fillV i x wg wu sg su H)) -∗ K ⟨⟩))
      ⊢ wp frame (wpE (defs₀ (F := F)) Variants.none c none) E (fillB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  unfold fillB
  unfold owns
  iintro ⟨⟨%f3, %hf3, H3⟩, ⟨%f4, %hf4, H4⟩, ⟨%f5, %hf5, H5⟩, ⟨%f6, %hf6, H6⟩, ⟨%f7, %hf7, H7⟩, ⟨%f14, %hf14, H14⟩, Hk⟩
  subst hf3 hf4 hf5 hf6 hf7 hf14
  sl_exec_parts
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H14
  ipureintro
  sl_unfold_words
  unfold fillV
  exact put_step _ _ _ _ _ _ _ rfl rfl (put_step _ _ _ _ _ _ _ rfl rfl (put_step _ _ _ _ _ _ _ rfl rfl
    (put_step _ _ _ _ _ _ _ rfl rfl (put_step _ _ _ _ _ _ _ rfl rfl rfl))))

/-- The block does nothing elsewhere. -/
theorem fill_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h2 : ¬ k0_cond2 i v0 = 1#1) (K : PUnit → sProp 𝕄) :
    K ⟨⟩ ⊢ wp frame (wpE (defs₀ (F := F)) Variants.none c none) E (fillB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  unfold fillB
  iintro Hk
  sl_exec_parts
  sl_step
  iexact Hk

end Cert.Kernel.Body
end
-- ==== Proof.KernelAcc.lean ====
/-
  The second matrix product's block (`accB`): what it leaves in the accumulator, as a function of the blocks it reads, and
  its triple.
-/
module

public import proofs.«01_k».proof.Proof.KernelFill
public import Idealize.ShloMosaic.Lib.VecWindow

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One chunk of 256 output columns: the accumulator plus the tokens' weights times the `h` columns' product with the
    dequantised weights, on the tokens that chose the expert `e`. -/
def achunk (e : Elt F .i32) (ids : Vec F S48x2 .i32) (ew : Vec F S48x2 .f32) (h : Vec F S48x6400 .bf16)
    (w : Vec F S1x3200x256 .i8) (s : Vec F S1x50x256 .bf16) (a : Vec F S48x256 .f32) : Vec F S48x256 .f32 :=
  k0_pay36 (k0_pay29 e ids ew) (k0_pay30 e ids) h (k0_pay31 s) (k0_pay33 w) (k0_pay34 w) k0_pay35 a

/-- 256 columns of a block of the second weights, from column `k`. -/
abbrev colW2 (w : Vec F S1x3200x1024 .i8) (k : ℕ) (h : ∀ a, ![0, 0, k] a + S1x3200x256.size a ≤ S1x3200x1024.size a) :
    Vec F S1x3200x256 .i8 := View.ld w (Rect.unit (s := S1x3200x1024) ![0, 0, k] S1x3200x256.size h)

/-- 256 columns of a block of the second scales, from column `k`. -/
abbrev colS2 (s : Vec F S1x50x1024 .bf16) (k : ℕ) (h : ∀ a, ![0, 0, k] a + S1x50x256.size a ≤ S1x50x1024.size a) :
    Vec F S1x50x256 .bf16 := View.ld s (Rect.unit (s := S1x50x1024) ![0, 0, k] S1x50x256.size h)

/-- The table's word at offsets `off`. -/
abbrev tword (T : Vec F S8 .i32) (off : Fin 1 → ℕ) (inb : ∀ a, off a + S1.size a ≤ S8.size a) : Elt F .i32 :=
  View.ld T (Rect.unit (s := S8) off S1.size inb) (Shape.Idx.first (numel1_S1.symm ▸ Nat.one_pos))

abbrev ldI (x : Vec F S48x2 .i32) : Vec F S48x2 .i32 := View.ld x (Rect.unit (s := S48x2) ![0, 0] S48x2.size inb_S48x2_S48x2_0_0)
abbrev ldE (x : Vec F S48x2 .f32) : Vec F S48x2 .f32 := View.ld x (Rect.unit (s := S48x2) ![0, 0] S48x2.size inb_S48x2_S48x2_0_0)
abbrev ldH (x : Vec F S48x6400 .bf16) : Vec F S48x6400 .bf16 :=
  View.ld x (Rect.unit (s := S48x6400) ![0, 0] S48x6400.size inb_S48x6400_S48x6400_0_0)

/-- A live point of the second product lies in the last four columns. -/
theorem cond3_col (i : grid0.Coords) (v0 : BitVec 32) (h3 : k0_cond3 i v0 = 1#1) : 5 ≤ (i 1).val := by
  by_contra hlt
  have key : ∀ (p : BitVec 1) (n : Fin 5), ¬ Scalar.cmpi .ne (Scalar.extui (Scalar.andi p (Scalar.cmpi .sge (BitVec.ofNat 32 n.val) 5#32)) : BitVec 32) 0#32 = 1#1 := by
    decide
  exact key _ ⟨(i 1).val, by omega⟩ h3

/-- The columns a live point adds into, from chunk offset `k`. -/
theorem off5_eq (i : grid0.Coords) (h : 5 ≤ (i 1).val) (k : Fin 4) :
    k0_off5 i (BitVec.ofNat 32 (256 * k.val)) = ![0, 1024 * ((i 1).val - 5) + 256 * k.val] := by
  have key : ∀ (k : Fin 4) (n : Fin 9), 5 ≤ n.val →
      (Scalar.indexCast (Scalar.addi (Scalar.muli (Scalar.subi (BitVec.ofNat 32 n.val) 5#32) 1024#32) (BitVec.ofNat 32 (256 * k.val))) : Index).toNat
        = 1024 * (n.val - 5) + 256 * k.val := by decide
  show ![0, _] = _
  exact congrArg (fun z : ℕ => ![0, z]) (key k ⟨(i 1).val, (i 1).isLt⟩ h)

/-- The accumulator after a live point of the second product. -/
def accV (i : grid0.Coords) (v0 : Elt F .i32) (hw : k0_chk1 i v0) (h3 : k0_cond3 i v0 = 1#1) (e : Elt F .i32)
    (ids : Vec F S48x2 .i32) (ew : Vec F S48x2 .f32) (H : Vec F S48x6400 .bf16)
    (w : Vec F S1x3200x1024 .i8) (s : Vec F S1x50x1024 .bf16) (A : Vec F S48x4096 .f32) : Vec F S48x4096 .f32 :=
  VecWindow.put (s := S48x4096) (
    VecWindow.put (s := S48x4096) (
    VecWindow.put (s := S48x4096) (
    VecWindow.put (s := S48x4096) (A) (k0_off5 i 0#32) S48x256.size (achunk e (ldI ids) (ldE ew) (ldH H) (colW2 w 0 inb_S1x3200x1024_S1x3200x256_0_0_0) (colS2 s 0 inb_S1x50x1024_S1x50x256_0_0_0)
      (View.ld A (Rect.unit (s := S48x4096) (k0_off5 i 0#32) S48x256.size (k0_off5_inb i v0 hw h3 0))))) (k0_off5 i 256#32) S48x256.size (achunk e (ldI ids) (ldE ew) (ldH H) (colW2 w 256 inb_S1x3200x1024_S1x3200x256_0_0_256) (colS2 s 256 inb_S1x50x1024_S1x50x256_0_0_256)
      (View.ld A (Rect.unit (s := S48x4096) (k0_off5 i 256#32) S48x256.size (k0_off5_inb i v0 hw h3 1))))) (k0_off5 i 512#32) S48x256.size (achunk e (ldI ids) (ldE ew) (ldH H) (colW2 w 512 inb_S1x3200x1024_S1x3200x256_0_0_512) (colS2 s 512 inb_S1x50x1024_S1x50x256_0_0_512)
      (View.ld A (Rect.unit (s := S48x4096) (k0_off5 i 512#32) S48x256.size (k0_off5_inb i v0 hw h3 2))))) (k0_off5 i 768#32) S48x256.size (achunk e (ldI ids) (ldE ew) (ldH H) (colW2 w 768 inb_S1x3200x1024_S1x3200x256_0_0_768) (colS2 s 768 inb_S1x50x1024_S1x50x256_0_0_768)
      (View.ld A (Rect.unit (s := S48x4096) (k0_off5 i 768#32) S48x256.size (k0_off5_inb i v0 hw h3 3))))

set_option maxHeartbeats 400000 in
/-- The block's triple at a live point. -/
theorem acc_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h3 : k0_cond3 i v0 = 1#1) (T : Vec F S8 .i32) (w : Vec F S1x3200x1024 .i8) (s : Vec F S1x50x1024 .bf16)
    (ids : Vec F S48x2 .i32) (ew : Vec F S48x2 .f32) (H : Vec F S48x6400 .bf16) (A : Vec F S48x4096 .f32)
    (K : PUnit → sProp 𝕄) :
    iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare A
        ∗ (iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare (accV i v0 hw h3 (tword T (k0_off4 i) (k0_off4_inb i)) ids ew H w s A)) -∗ K ⟨⟩))
      ⊢ wp frame (wpE (defs₀ (F := F)) Variants.none c none) E (accB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  have hj := cond3_col i v0 h3
  letI : ClosedOff (k0_off5 i 0#32) := ⟨![0, 1024 * ((i 1).val - 5) + 0], off5_eq i hj 0⟩
  letI : ClosedOff (k0_off5 i 256#32) := ⟨![0, 1024 * ((i 1).val - 5) + 256], off5_eq i hj 1⟩
  letI : ClosedOff (k0_off5 i 512#32) := ⟨![0, 1024 * ((i 1).val - 5) + 512], off5_eq i hj 2⟩
  letI : ClosedOff (k0_off5 i 768#32) := ⟨![0, 1024 * ((i 1).val - 5) + 768], off5_eq i hj 3⟩
  unfold accB
  unfold owns
  iintro ⟨⟨%f2, %hf2, H2⟩, ⟨%f8, %hf8, H8⟩, ⟨%f9, %hf9, H9⟩, ⟨%f10, %hf10, H10⟩, ⟨%f11, %hf11, H11⟩, ⟨%f14, %hf14, H14⟩, ⟨%f15, %hf15, H15⟩, Hk⟩
  subst hf2 hf8 hf9 hf10 hf11 hf14 hf15
  sl_exec_parts
  sl_step
  iapply Hk
  isplitl [H2]
  · iexists f2; isplitr; · ipureintro; rfl
    iexact H2
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists f14; isplitr; · ipureintro; rfl
    iexact H14
  iexists _; isplitr
  swap; · iexact H15
  ipureintro
  sl_unfold_words
  unfold accV

  exact put_step _ _ _ _ _ _ _ rfl rfl (put_step _ _ _ _ _ _ _ rfl rfl (put_step _ _ _ _ _ _ _ rfl rfl
    (put_step _ _ _ _ _ _ _ rfl rfl rfl)))

/-- The block does nothing elsewhere. -/
theorem acc_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h3 : ¬ k0_cond3 i v0 = 1#1) (K : PUnit → sProp 𝕄) :
    K ⟨⟩ ⊢ wp frame (wpE (defs₀ (F := F)) Variants.none c none) E (accB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  unfold accB
  iintro Hk
  sl_exec_parts
  sl_step
  iexact Hk

/-- The first point's block: the accumulator is zeroed. -/
theorem zero_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (A : Vec F S48x4096 .f32) (K : PUnit → sProp 𝕄) :
    iprop(owns (c : Thread nD τ) arg15 fullShare A ∗ (iprop(owns (c : Thread nD τ) arg15 fullShare (k0_pay1 (F := F))) -∗ K ⟨⟩))
      ⊢ wp frame (wpE (defs₀ (F := F)) Variants.none c none) E (zeroB i arg2 harg2 arg3 harg3 arg4 harg4 arg5 harg5 arg6 harg6 arg7 harg7 arg8 harg8 arg9 harg9 arg10 harg10 arg11 harg11 arg12 harg12 arg13 harg13 arg14 harg14 arg15 harg15) K := by
  unfold zeroB
  unfold owns
  iintro ⟨⟨%f15, %hf15, H15⟩, Hk⟩
  subst hf15
  sl_exec_parts
  sl_step
  iapply Hk
  iexists _; isplitr
  swap; · iexact H15
  ipureintro
  sl_unfold_words
  rw [View.read_writes_cons_put _ _ _ _ _ rfl]
  funext y
  exact dif_pos (fun a => by constructor <;> [exact le_of_eq_of_le (congrFun hz2 a) (Nat.zero_le _); exact (y a).isLt.trans_le (Nat.le_add_left _ _)])

/-- The zeroing does nothing elsewhere. -/
theorem zero_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (K : PUnit → sProp 𝕄) :
    K ⟨⟩ ⊢ wp frame (wpE (defs₀ (F := F)) Variants.none c none) E (zeroB i arg2 harg2 arg3 harg3 arg4 harg4 arg5 harg5 arg6 harg6 arg7 harg7 arg8 harg8 arg9 harg9 arg10 harg10 arg11 harg11 arg12 harg12 arg13 harg13 arg14 harg14 arg15 harg15) K := by
  unfold zeroB
  iintro Hk
  sl_exec_parts
  sl_step
  iexact Hk

end Cert.Kernel.Body
end
-- ==== Proof.KernelQuant.lean ====
/-
  The quantiser's block (`quantB`): the codes and the scales it leaves, each a function of the accumulator by blocks of 128
  columns, and its triple.
-/
module

public import proofs.«01_k».proof.Proof.KernelFill
public import Idealize.ShloMosaic.Lib.VecWindow
public import Idealize.ShloMosaic.Lib.ValueIdxCore

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- The codes of one block of 128 columns. -/
def qcodes (v : Vec F S48x128 .f32) : Vec F S48x128 .fp8e4m3 := k0_pay59 v (k0_pay57 v)

/-- The scales of one block of 128 columns. -/
def qscale (v : Vec F S48x128 .f32) : Vec F S48x1 .f32 := k0_pay58 v

/-- Block `b` of 128 columns. -/
def cblk (A : Vec F S48x4096 .f32) (b : Fin 32) : Vec F S48x128 .f32 :=
  View.ld A (Rect.unit (s := S48x4096) ![0, 128 * b.val] S48x128.size (fun a => by
    revert a; intro a; have := b.isLt; match a with
    | ⟨0, _⟩ => exact Nat.le_refl 48
    | ⟨1, _⟩ => show 128 * b.val + 128 ≤ 4096; omega))

/-- All codes. -/
def codesV (A : Vec F S48x4096 .f32) : Vec F S48x4096 .fp8e4m3 := fun y =>
  qcodes (cblk A ⟨(y 1).val / 128, Nat.div_lt_of_lt_mul (y 1).isLt⟩)
    (ix2 (y 0) ⟨(y 1).val % 128, Nat.mod_lt _ (by decide)⟩)

/-- All scales. -/
def scalesV (A : Vec F S48x4096 .f32) : Vec F S48x32 .f32 := fun y =>
  qscale (cblk A (y 1)) (ix2 (y 0) 0)

/-- A stored block of codes is the codes' block. -/
theorem codes_piece (A : Vec F S48x4096 .f32) (o : ℕ) (hb : o / 128 < 32) (h : 128 * (o / 128) = o)
    (inb : ∀ a, ![0, o] a + S48x128.size a ≤ S48x4096.size a) (w : Vec F S48x128 .fp8e4m3)
    (hw : w = qcodes (cblk A ⟨o / 128, hb⟩)) (x : S48x128.Idx) :
    w x = codesV A ((Rect.unit (s := S48x4096) ![0, o] S48x128.size inb).emb x) := by
  subst hw
  have hx : (x 1).val < 128 := (x 1).isLt
  have e1 : ((Rect.unit (s := S48x4096) ![0, o] S48x128.size inb).emb x 1).val = o + 1 * (x 1).val := rfl
  have e0 : ((Rect.unit (s := S48x4096) ![0, o] S48x128.size inb).emb x 0).val = 0 + 1 * (x 0).val := rfl
  have hd : ((Rect.unit (s := S48x4096) ![0, o] S48x128.size inb).emb x 1).val / 128 = o / 128 := by rw [e1]; omega
  have hm : ((Rect.unit (s := S48x4096) ![0, o] S48x128.size inb).emb x 1).val % 128 = (x 1).val := by rw [e1]; omega
  unfold codesV
  simp only [hd]
  refine congrArg _ ?_
  funext a
  match a with
  | ⟨0, _⟩ => exact Fin.ext (by show (x 0).val = _; exact (by omega : (x 0).val = 0 + 1 * (x 0).val))
  | ⟨1, _⟩ => exact Fin.ext hm.symm

/-- A stored column of scales is the scales' column. -/
theorem scale_piece (A : Vec F S48x4096 .f32) (b : ℕ) (hb : b < 32)
    (inb' : ∀ a, ![0, b] a + S48x1.size a ≤ S48x32.size a) (w : Vec F S48x1 .f32) (hw : w = qscale (cblk A ⟨b, hb⟩)) (x : S48x1.Idx) :
    w x = scalesV A ((Rect.unit (s := S48x32) ![0, b] S48x1.size inb').emb x) := by
  subst hw
  have hx : (x 1).val < 1 := (x 1).isLt
  have e1 : ((Rect.unit (s := S48x32) ![0, b] S48x1.size inb').emb x 1).val = b + 1 * (x 1).val := rfl
  have hd : (Rect.unit (s := S48x32) ![0, b] S48x1.size inb').emb x 1 = ⟨b, hb⟩ := Fin.ext (by rw [e1]; show b + 1 * (x 1).val = b; omega)
  unfold scalesV
  rw [hd]
  refine congrArg _ ?_
  funext a
  match a with
  | ⟨0, _⟩ => exact Fin.ext (by show (x 0).val = _; exact (by omega : (x 0).val = 0 + 1 * (x 0).val))
  | ⟨1, _⟩ => exact Fin.ext (by show (x 1).val = 0; omega)

set_option maxHeartbeats 2000000 in
/-- The block's triple at the last point. -/
theorem quant_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h4 : k0_cond4 i = 1#1) (C : Vec F S48x4096 .fp8e4m3) (S : Vec F S48x32 .f32) (A : Vec F S48x4096 .f32)
    (K : PUnit → sProp 𝕄) :
    iprop(owns (c : Thread nD τ) arg12 fullShare C ∗ owns (c : Thread nD τ) arg13 fullShare S ∗ owns (c : Thread nD τ) arg15 fullShare A
        ∗ (iprop(owns (c : Thread nD τ) arg12 fullShare (codesV A) ∗ owns (c : Thread nD τ) arg13 fullShare (scalesV A) ∗ owns (c : Thread nD τ) arg15 fullShare A) -∗ K ⟨⟩))
      ⊢ wp frame (wpE (defs₀ (F := F)) Variants.none c none) E (quantB i arg2 harg2 arg3 harg3 arg4 harg4 arg5 harg5 arg6 harg6 arg7 harg7 arg8 harg8 arg9 harg9 arg10 harg10 arg11 harg11 arg12 harg12 arg13 harg13 arg14 harg14 arg15 harg15) K := by
  unfold quantB
  unfold owns
  iintro ⟨⟨%f12, %hf12, H12⟩, ⟨%f13, %hf13, H13⟩, ⟨%f15, %hf15, H15⟩, Hk⟩
  subst hf12 hf13 hf15
  sl_exec_parts
  sl_step
  iapply Hk
  isplitl [H12]
  · iexists _; isplitr
    swap; · iexact H12
    ipureintro
    sl_unfold_words
    funext y
    refine View.read_writes_apply_of_pieces _ _ (codesV _) _ ?_ y (View.cover_of_tiled (s := S48x4096) _ ![48, 128] rfl y)
    repeat' refine List.forall_mem_cons.2 ⟨?_, ?_⟩
    all_goals first | exact fun p hp => absurd hp List.not_mem_nil | (refine fun x => codes_piece _ _ (by decide) (by decide) (by decide) _ ?_ x; rfl)
  isplitl [H13]
  · iexists _; isplitr
    swap; · iexact H13
    ipureintro
    sl_unfold_words
    funext y
    refine View.read_writes_apply_of_pieces _ _ (scalesV _) _ ?_ y (View.cover_of_tiled (s := S48x32) _ ![48, 1] rfl y)
    repeat' refine List.forall_mem_cons.2 ⟨?_, ?_⟩
    all_goals first | exact fun p hp => absurd hp List.not_mem_nil | (refine fun x => scale_piece _ _ (by decide) (by decide) _ ?_ x; rfl)
  iexists f15; isplitr; · ipureintro; rfl
  iexact H15

/-- The quantiser does nothing before the last point. -/
theorem quant_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h4 : ¬ k0_cond4 i = 1#1) (K : PUnit → sProp 𝕄) :
    K ⟨⟩ ⊢ wp frame (wpE (defs₀ (F := F)) Variants.none c none) E (quantB i arg2 harg2 arg3 harg3 arg4 harg4 arg5 harg5 arg6 harg6 arg7 harg7 arg8 harg8 arg9 harg9 arg10 harg10 arg11 harg11 arg12 harg12 arg13 harg13 arg14 harg14 arg15 harg15) K := by
  unfold quantB
  iintro Hk
  sl_exec_parts
  sl_step
  iexact Hk

end Cert.Kernel.Body
end
-- ==== Proof.KernelBody.lean ====
/-
  The body's triple: the four blocks in sequence, each taking its step or doing nothing.
-/
module

public import proofs.«01_k».proof.Proof.KernelAcc
public import proofs.«01_k».proof.Proof.KernelQuant
public import Idealize.ShloMosaic.Lib.VecWindow

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A live point of the first product lies in the first five columns. -/
theorem cond2_col (i : grid0.Coords) (v0 : BitVec 32) (h2 : k0_cond2 i v0 = 1#1) : (i 1).val < 5 := by
  by_contra hlt
  have key : ∀ (p : BitVec 1) (n : Fin 9), 5 ≤ n.val →
      ¬ Scalar.cmpi .ne (Scalar.extui (Scalar.andi p (Scalar.cmpi .slt (BitVec.ofNat 32 n.val) 5#32)) : BitVec 32) 0#32 = 1#1 := by
    decide
  exact key _ ⟨(i 1).val, (i 1).isLt⟩ (Nat.le_of_not_lt hlt) h2

/-- The columns a live point of the first product writes, from chunk offset `k`. -/
theorem off3_eq (i : grid0.Coords) (k : Fin 5) :
    k0_off3 i (BitVec.ofNat 32 (256 * k.val)) = ![0, 1280 * (i 1).val + 256 * k.val] := by
  have key : ∀ (k : Fin 5) (n : Fin 9),
      (Scalar.indexCast (Scalar.addi (Scalar.muli (BitVec.ofNat 32 n.val) 1280#32) (BitVec.ofNat 32 (256 * k.val))) : Index).toNat
        = 1280 * n.val + 256 * k.val := by decide
  show ![0, _] = _
  exact congrArg (fun z : ℕ => ![0, z]) (key k ⟨(i 1).val, (i 1).isLt⟩)

/-- What the body assumes holds at every point, whatever the number of live experts. -/
theorem chk_all (i : grid0.Coords) (v0 : BitVec 32) : k0_chk1 i v0 := by
  refine ⟨fun h2 r a => ?_, fun h2 r hinb => Or.inr ⟨by decide, rfl, .inl ⟨?_, ?_⟩⟩, fun h3 r a => ?_⟩
  · have := cond2_col i v0 h2
    have hr := r.isLt
    rw [off3_eq]
    match a with
    | ⟨0, _⟩ => exact Nat.le_refl 48
    | ⟨1, _⟩ => show 1280 * (i 1).val + 256 * r.val + 256 ≤ 6400; omega
  · exact ⟨0, rfl⟩
  · exact (by decide : 2 ∣ 48)
  · have := cond3_col i v0 h3
    have h9 : (i 1).val < 9 := (i 1).isLt
    have hr := r.isLt
    rw [off5_eq i this]
    match a with
    | ⟨0, _⟩ => exact Nat.le_refl 48
    | ⟨1, _⟩ => show 1024 * ((i 1).val - 5) + 256 * r.val + 256 ≤ 4096; omega

/-- The first point, as the body computes it. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The accumulator after the zeroing. -/
def stepZ (i : grid0.Coords) (A : Vec F S48x4096 .f32) : Vec F S48x4096 .f32 := if isFirst i then k0_pay1 (F := F) else A
/-- The `h` columns after the first product's block. -/
def stepH (i : grid0.Coords) (v0 : Elt F .i32) (x : Vec F S48x4096 .bf16) (wg wu : Vec F S1x2048x1280 .i8) (sg su : Vec F S1x32x1280 .bf16)
    (H : Vec F S48x6400 .bf16) : Vec F S48x6400 .bf16 := if k0_cond2 i v0 = 1#1 then fillV i x wg wu sg su H else H
/-- The accumulator after the second product's block. -/
def stepA (i : grid0.Coords) (v0 : Elt F .i32) (e : Elt F .i32)
    (ids : Vec F S48x2 .i32) (ew : Vec F S48x2 .f32) (H : Vec F S48x6400 .bf16)
    (w : Vec F S1x3200x1024 .i8) (s : Vec F S1x50x1024 .bf16) (A : Vec F S48x4096 .f32) : Vec F S48x4096 .f32 :=
  if h3 : k0_cond3 i v0 = 1#1 then accV i v0 (chk_all i v0) h3 e ids ew H w s A else A
/-- The codes after the quantiser's block. -/
def stepC (i : grid0.Coords) (A : Vec F S48x4096 .f32) (C : Vec F S48x4096 .fp8e4m3) : Vec F S48x4096 .fp8e4m3 :=
  if k0_cond4 i = 1#1 then codesV A else C
/-- The scales after the quantiser's block. -/
def stepS (i : grid0.Coords) (A : Vec F S48x4096 .f32) (S : Vec F S48x32 .f32) : Vec F S48x32 .f32 :=
  if k0_cond4 i = 1#1 then scalesV A else S

theorem zero_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (A : Vec F S48x4096 .f32) (K : PUnit → sProp 𝕄) :
    iprop(owns (c : Thread nD τ) arg15 fullShare A ∗ (iprop(owns (c : Thread nD τ) arg15 fullShare (stepZ i A)) -∗ K ⟨⟩)) ⊢ wp frame (wpE (defs₀ (F := F)) Variants.none c none) E (zeroB i arg2 harg2 arg3 harg3 arg4 harg4 arg5 harg5 arg6 harg6 arg7 harg7 arg8 harg8 arg9 harg9 arg10 harg10 arg11 harg11 arg12 harg12 arg13 harg13 arg14 harg14 arg15 harg15) K := by
  by_cases h : isFirst i
  · rw [stepZ, if_pos h]; exact zero_run c E i arg2 harg2 arg3 harg3 arg4 harg4 arg5 harg5 arg6 harg6 arg7 harg7 arg8 harg8 arg9 harg9 arg10 harg10 arg11 harg11 arg12 harg12 arg13 harg13 arg14 harg14 arg15 harg15 h A K
  · rw [stepZ, if_neg h]
    iintro ⟨H15, Hk⟩
    iapply (zero_skip c E i arg2 harg2 arg3 harg3 arg4 harg4 arg5 harg5 arg6 harg6 arg7 harg7 arg8 harg8 arg9 harg9 arg10 harg10 arg11 harg11 arg12 harg12 arg13 harg13 arg14 harg14 arg15 harg15 h K)
    iapply Hk
    iexact H15

theorem fill_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (x : Vec F S48x4096 .bf16) (wg wu : Vec F S1x2048x1280 .i8) (sg su : Vec F S1x32x1280 .bf16) (H : Vec F S48x6400 .bf16) (K : PUnit → sProp 𝕄) :
    iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare H ∗ (iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare (stepH i v0 x wg wu sg su H)) -∗ K ⟨⟩)) ⊢ wp frame (wpE (defs₀ (F := F)) Variants.none c none) E (fillB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  by_cases h : k0_cond2 i v0 = 1#1
  · rw [stepH, if_pos h]; exact fill_run c E i arg2 harg2 arg3 harg3 arg4 harg4 arg5 harg5 arg6 harg6 arg7 harg7 arg8 harg8 arg9 harg9 arg10 harg10 arg11 harg11 arg12 harg12 arg13 harg13 arg14 harg14 arg15 harg15 v0 hw h x wg wu sg su H K
  · rw [stepH, if_neg h]
    iintro ⟨H3, H4, H5, H6, H7, H14, Hk⟩
    iapply (fill_skip c E i arg2 harg2 arg3 harg3 arg4 harg4 arg5 harg5 arg6 harg6 arg7 harg7 arg8 harg8 arg9 harg9 arg10 harg10 arg11 harg11 arg12 harg12 arg13 harg13 arg14 harg14 arg15 harg15 v0 hw h K)
    iapply Hk
    isplitl [H3]; · iexact H3
    isplitl [H4]; · iexact H4
    isplitl [H5]; · iexact H5
    isplitl [H6]; · iexact H6
    isplitl [H7]; · iexact H7
    iexact H14

theorem acc_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (T : Vec F S8 .i32) (w : Vec F S1x3200x1024 .i8) (s : Vec F S1x50x1024 .bf16) (ids : Vec F S48x2 .i32) (ew : Vec F S48x2 .f32) (H : Vec F S48x6400 .bf16) (A : Vec F S48x4096 .f32) (K : PUnit → sProp 𝕄) :
    iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare A ∗ (iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare (stepA i v0 (tword T (k0_off4 i) (k0_off4_inb i)) ids ew H w s A)) -∗ K ⟨⟩)) ⊢ wp frame (wpE (defs₀ (F := F)) Variants.none c none) E (accB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  by_cases h : k0_cond3 i v0 = 1#1
  · rw [stepA, dif_pos h]; exact acc_run c E i arg2 harg2 arg3 harg3 arg4 harg4 arg5 harg5 arg6 harg6 arg7 harg7 arg8 harg8 arg9 harg9 arg10 harg10 arg11 harg11 arg12 harg12 arg13 harg13 arg14 harg14 arg15 harg15 v0 hw h T w s ids ew H A K
  · rw [stepA, dif_neg h]
    iintro ⟨H2, H8, H9, H10, H11, H14, H15, Hk⟩
    iapply (acc_skip c E i arg2 harg2 arg3 harg3 arg4 harg4 arg5 harg5 arg6 harg6 arg7 harg7 arg8 harg8 arg9 harg9 arg10 harg10 arg11 harg11 arg12 harg12 arg13 harg13 arg14 harg14 arg15 harg15 v0 hw h K)
    iapply Hk
    isplitl [H2]; · iexact H2
    isplitl [H8]; · iexact H8
    isplitl [H9]; · iexact H9
    isplitl [H10]; · iexact H10
    isplitl [H11]; · iexact H11
    isplitl [H14]; · iexact H14
    iexact H15

theorem quant_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (C : Vec F S48x4096 .fp8e4m3) (S : Vec F S48x32 .f32) (A : Vec F S48x4096 .f32) (K : PUnit → sProp 𝕄) :
    iprop(owns (c : Thread nD τ) arg12 fullShare C ∗ owns (c : Thread nD τ) arg13 fullShare S ∗ owns (c : Thread nD τ) arg15 fullShare A ∗ (iprop(owns (c : Thread nD τ) arg12 fullShare (stepC i A C) ∗ owns (c : Thread nD τ) arg13 fullShare (stepS i A S) ∗ owns (c : Thread nD τ) arg15 fullShare A) -∗ K ⟨⟩)) ⊢ wp frame (wpE (defs₀ (F := F)) Variants.none c none) E (quantB i arg2 harg2 arg3 harg3 arg4 harg4 arg5 harg5 arg6 harg6 arg7 harg7 arg8 harg8 arg9 harg9 arg10 harg10 arg11 harg11 arg12 harg12 arg13 harg13 arg14 harg14 arg15 harg15) K := by
  by_cases h : k0_cond4 i = 1#1
  · rw [stepC, stepS, if_pos h, if_pos h]; exact quant_run c E i arg2 harg2 arg3 harg3 arg4 harg4 arg5 harg5 arg6 harg6 arg7 harg7 arg8 harg8 arg9 harg9 arg10 harg10 arg11 harg11 arg12 harg12 arg13 harg13 arg14 harg14 arg15 harg15 h C S A K
  · rw [stepC, stepS, if_neg h, if_neg h]
    iintro ⟨H12, H13, H15, Hk⟩
    iapply (quant_skip c E i arg2 harg2 arg3 harg3 arg4 harg4 arg5 harg5 arg6 harg6 arg7 harg7 arg8 harg8 arg9 harg9 arg10 harg10 arg11 harg11 arg12 harg12 arg13 harg13 arg14 harg14 arg15 harg15 h K)
    iapply Hk
    isplitl [H12]; · iexact H12
    isplitl [H13]; · iexact H13
    iexact H15

/-- Reading the table's last word. -/
theorem word_st (c : Dev nD) (E : Set ℕ) (arg2 : Memref sig .tc .smem S8 .i32) (T : Vec F S8 .i32) (K : Elt F .i32 → sProp 𝕄) :
    iprop(owns (c : Thread nD τ) arg2 fullShare.right T ∗ (iprop(owns (c : Thread nD τ) arg2 fullShare.right T) -∗ K (tword T ![7] inb_S8_S1_7)))
      ⊢ wp frame (wpE (defs₀ (F := F)) Variants.none c none) E (smemLoad arg2 (Rect.unit (s := S8) ![7] S1.size inb_S8_S1_7) numel1_S1 rfl) K := by
  unfold owns smemLoad smemLoadElt
  iintro ⟨⟨%f2, %hf2, H2⟩, Hk⟩
  subst hf2
  sl_step
  sl_step
  rw [show View.readAt (Elt F) arg2.view (Rect.unit (s := S8) ![7] S1.size inb_S8_S1_7).toLoadRect f2 (Shape.Idx.first (numel1_S1.symm ▸ Nat.one_pos))
    = tword (arg2.view.read (Elt F) f2) ![7] inb_S8_S1_7 from rfl]
  iapply Hk
  iexists f2; isplitr; · ipureintro; rfl
  iexact H2

set_option maxHeartbeats 1000000 in
/-- The body's triple: what every buffer holds after a point, given what it held before. -/
theorem body_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (x : Vec F S48x4096 .bf16) (wg wu : Vec F S1x2048x1280 .i8) (sg su : Vec F S1x32x1280 .bf16) (H : Vec F S48x6400 .bf16) (T : Vec F S8 .i32) (w : Vec F S1x3200x1024 .i8) (s : Vec F S1x50x1024 .bf16) (ids : Vec F S48x2 .i32) (ew : Vec F S48x2 .f32) (A : Vec F S48x4096 .f32)
    (C : Vec F S48x4096 .fp8e4m3) (S : Vec F S48x32 .f32) (K : PUnit → sProp 𝕄) :
    iprop(owns (c : Thread nD τ) arg2 fullShare.right T ∗ owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg12 fullShare C ∗ owns (c : Thread nD τ) arg13 fullShare S ∗ owns (c : Thread nD τ) arg14 fullShare H ∗ owns (c : Thread nD τ) arg15 fullShare A ∗ (iprop(owns (c : Thread nD τ) arg2 fullShare.right T ∗ owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg12 fullShare (stepC i (stepA i (tword T ![7] inb_S8_S1_7) (tword T (k0_off4 i) (k0_off4_inb i)) ids ew (stepH i (tword T ![7] inb_S8_S1_7) x wg wu sg su H) w s (stepZ i A)) C) ∗ owns (c : Thread nD τ) arg13 fullShare (stepS i (stepA i (tword T ![7] inb_S8_S1_7) (tword T (k0_off4 i) (k0_off4_inb i)) ids ew (stepH i (tword T ![7] inb_S8_S1_7) x wg wu sg su H) w s (stepZ i A)) S) ∗ owns (c : Thread nD τ) arg14 fullShare (stepH i (tword T ![7] inb_S8_S1_7) x wg wu sg su H) ∗ owns (c : Thread nD τ) arg15 fullShare (stepA i (tword T ![7] inb_S8_S1_7) (tword T (k0_off4 i) (k0_off4_inb i)) ids ew (stepH i (tword T ![7] inb_S8_S1_7) x wg wu sg su H) w s (stepZ i A))) -∗ K ⟨⟩))
      ⊢ wp frame (wpE (defs₀ (F := F)) Variants.none c none) E (cc0_moe_int4 i arg2 harg2 arg3 harg3 arg4 harg4 arg5 harg5 arg6 harg6 arg7 harg7 arg8 harg8 arg9 harg9 arg10 harg10 arg11 harg11 arg12 harg12 arg13 harg13 arg14 harg14 arg15 harg15) K := by
  rw [body_eq]
  unfold blocks
  iintro ⟨H2, H3, H4, H5, H6, H7, H8, H9, H10, H11, H12, H13, H14, H15, Hk⟩
  rw [wp_bind]
  iapply word_st
  isplitl [H2]; · iexact H2
  iintro H2
  rw [wp_bind]
  have hw := chk_all i (tword T ![7] inb_S8_S1_7)
  unfold Prog.lift
  iapply (wp_assume _ _ _ _ hw)
  sl_step
  rw [wp_bind]
  iapply zero_st
  isplitl [H15]; · iexact H15
  iintro H15
  rw [wp_bind]
  iapply fill_st
  isplitl [H3]; · iexact H3
  isplitl [H4]; · iexact H4
  isplitl [H5]; · iexact H5
  isplitl [H6]; · iexact H6
  isplitl [H7]; · iexact H7
  isplitl [H14]; · iexact H14
  iintro ⟨H3, H4, H5, H6, H7, H14⟩
  rw [wp_bind]
  iapply acc_st
  isplitl [H2]; · iexact H2
  isplitl [H8]; · iexact H8
  isplitl [H9]; · iexact H9
  isplitl [H10]; · iexact H10
  isplitl [H11]; · iexact H11
  isplitl [H14]; · iexact H14
  isplitl [H15]; · iexact H15
  iintro ⟨H2, H8, H9, H10, H11, H14, H15⟩
  iapply quant_st
  isplitl [H12]; · iexact H12
  isplitl [H13]; · iexact H13
  isplitl [H15]; · iexact H15
  iintro ⟨H12, H13, H15⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Kernel.Body
end
-- ==== Proof.KernelCols.lean ====
/-
  The two blocks' results at an index: a live point of the first product writes one block of 1280 `h` columns, one
  of the second product one block of 1024 accumulator columns, and each leaves the other columns as they were.
-/
module

public import proofs.«01_k».proof.Proof.KernelBody
public import Idealize.ShloMosaic.Lib.ValueIdxCore

@[expose] public section

set_option maxRecDepth 16384

noncomputable section

namespace Cert.Kernel.Body

open Cert.Kernel Cert.Kernel.Gen
open Idealize.ShloMosaic Idealize.ShloMosaic.TcCoe Idealize.ShloMosaic.ValueIdx

variable {F : FTy → Type} [FloatOps F]

/-- A write of 256 columns, at an index. -/
theorem put_cols {N : ℕ} {α : Type} (x : (⟨2, ![48, N]⟩ : Shape).Idx → α) (off : Fin 2 → ℕ) (b : ℕ) (hoff : off = ![0, b])
    (w : S48x256.Idx → α) (y : (⟨2, ![48, N]⟩ : Shape).Idx) :
    VecWindow.put (s := ⟨2, ![48, N]⟩) x off S48x256.size w y
      = if h : b ≤ (y 1).val ∧ (y 1).val < b + 256 then w (ix2 ⟨(y 0).val, (y 0).isLt⟩ ⟨(y 1).val - b, by omega⟩) else x y := by
  subst hoff
  unfold VecWindow.put
  by_cases h : b ≤ (y 1).val ∧ (y 1).val < b + 256
  · have h' : ∀ a : Fin 2, (![0, b] : Fin 2 → ℕ) a ≤ (y a).val ∧ (y a).val < (![0, b] : Fin 2 → ℕ) a + S48x256.size a := by
      intro a
      match a with
      | ⟨0, _⟩ => exact ⟨Nat.zero_le _, by have h48 : (y 0).val < 48 := (y 0).isLt; show (y 0).val < 0 + 48; omega⟩
      | ⟨1, _⟩ => exact h
    rw [dif_pos h, dif_pos h']
    refine congrArg w (funext fun a => Fin.ext ?_)
    match a with
    | ⟨0, _⟩ => rfl
    | ⟨1, _⟩ => rfl
  · rw [dif_neg h, dif_neg]
    exact fun h' => h (h' 1)

/-- A chunk of a block, by its number and by the column. -/
theorem chunk_eq {n : ℕ} {α : Type} (W : Fin n → S48x256.Idx → α) (t : Fin 48) (k : ℕ) (hk : k / 256 < n) (o : Fin n) (r : ℕ) (hr : r < 256)
    (h : k = 256 * o.val + r) : W o (ix2 t ⟨r, hr⟩) = W ⟨k / 256, hk⟩ (ix2 t ⟨k % 256, Nat.mod_lt _ (by omega)⟩) := by
  have e1 : o = ⟨k / 256, hk⟩ := Fin.ext (by show o.val = k / 256; omega)
  have e2 : (⟨r, hr⟩ : Fin 256) = ⟨k % 256, Nat.mod_lt _ (by omega)⟩ := Fin.ext (by show r = k % 256; omega)
  rw [← e1, ← e2]

/-- Five chunks written side by side are one block. -/
theorem put5 {N : ℕ} {α : Type} (x : (⟨2, ![48, N]⟩ : Shape).Idx → α) (off : Fin 5 → Fin 2 → ℕ) (b : ℕ)
    (hoff : ∀ o : Fin 5, off o = ![0, b + 256 * o.val]) (W : Fin 5 → S48x256.Idx → α) (y : (⟨2, ![48, N]⟩ : Shape).Idx) :
    VecWindow.put (s := ⟨2, ![48, N]⟩) (VecWindow.put (s := ⟨2, ![48, N]⟩) (VecWindow.put (s := ⟨2, ![48, N]⟩) (VecWindow.put (s := ⟨2, ![48, N]⟩)
      (VecWindow.put (s := ⟨2, ![48, N]⟩) x (off 0) S48x256.size (W 0)) (off 1) S48x256.size (W 1)) (off 2) S48x256.size (W 2))
      (off 3) S48x256.size (W 3)) (off 4) S48x256.size (W 4) y
      = if h : b ≤ (y 1).val ∧ (y 1).val < b + 1280
        then W ⟨((y 1).val - b) / 256, by omega⟩ (ix2 ⟨(y 0).val, (y 0).isLt⟩ ⟨((y 1).val - b) % 256, Nat.mod_lt _ (by omega)⟩) else x y := by
  rw [put_cols _ _ _ (hoff 4), put_cols _ _ _ (hoff 3), put_cols _ _ _ (hoff 2), put_cols _ _ _ (hoff 1), put_cols _ _ _ (hoff 0)]
  have v0 : (0 : Fin 5).val = 0 := rfl
  have v1 : (1 : Fin 5).val = 1 := rfl
  have v2 : (2 : Fin 5).val = 2 := rfl
  have v3 : (3 : Fin 5).val = 3 := rfl
  have v4 : (4 : Fin 5).val = 4 := rfl
  split_ifs <;> first
    | (exfalso; omega)
    | exact chunk_eq W _ _ _ _ _ _ (by omega)
    | rfl

/-- Four chunks written side by side are one block. -/
theorem put4 {N : ℕ} {α : Type} (x : (⟨2, ![48, N]⟩ : Shape).Idx → α) (off : Fin 4 → Fin 2 → ℕ) (b : ℕ)
    (hoff : ∀ o : Fin 4, off o = ![0, b + 256 * o.val]) (W : Fin 4 → S48x256.Idx → α) (y : (⟨2, ![48, N]⟩ : Shape).Idx) :
    VecWindow.put (s := ⟨2, ![48, N]⟩) (VecWindow.put (s := ⟨2, ![48, N]⟩) (VecWindow.put (s := ⟨2, ![48, N]⟩)
      (VecWindow.put (s := ⟨2, ![48, N]⟩) x (off 0) S48x256.size (W 0)) (off 1) S48x256.size (W 1)) (off 2) S48x256.size (W 2))
      (off 3) S48x256.size (W 3) y
      = if h : b ≤ (y 1).val ∧ (y 1).val < b + 1024
        then W ⟨((y 1).val - b) / 256, by omega⟩ (ix2 ⟨(y 0).val, (y 0).isLt⟩ ⟨((y 1).val - b) % 256, Nat.mod_lt _ (by omega)⟩) else x y := by
  rw [put_cols _ _ _ (hoff 3), put_cols _ _ _ (hoff 2), put_cols _ _ _ (hoff 1), put_cols _ _ _ (hoff 0)]
  have v0 : (0 : Fin 4).val = 0 := rfl
  have v1 : (1 : Fin 4).val = 1 := rfl
  have v2 : (2 : Fin 4).val = 2 := rfl
  have v3 : (3 : Fin 4).val = 3 := rfl
  split_ifs <;> first
    | (exfalso; omega)
    | exact chunk_eq W _ _ _ _ _ _ (by omega)
    | rfl

/-- 256 columns of a block of the first weights, from any column. -/
theorem colW_inb (o : Fin 5) : ∀ a, ![0, 0, 256 * o.val] a + S1x2048x256.size a ≤ S1x2048x1280.size a := by
  revert o; decide
theorem colS_inb (o : Fin 5) : ∀ a, ![0, 0, 256 * o.val] a + S1x32x256.size a ≤ S1x32x1280.size a := by
  revert o; decide
theorem colW2_inb (o : Fin 4) : ∀ a, ![0, 0, 256 * o.val] a + S1x3200x256.size a ≤ S1x3200x1024.size a := by
  revert o; decide
theorem colS2_inb (o : Fin 4) : ∀ a, ![0, 0, 256 * o.val] a + S1x50x256.size a ≤ S1x50x1024.size a := by
  revert o; decide

/-- The `h` columns of chunk `o` of a block. -/
def hcol (x : Vec F S48x4096 .bf16) (wg wu : Vec F S1x2048x1280 .i8) (sg su : Vec F S1x32x1280 .bf16) (o : Fin 5) :
    Vec F S48x256 .bf16 :=
  hchunk (ldX x) (colW wg _ (colW_inb o)) (colW wu _ (colW_inb o)) (colS sg _ (colS_inb o)) (colS su _ (colS_inb o))

/-- The block of 1280 `h` columns. -/
def hblock (x : Vec F S48x4096 .bf16) (wg wu : Vec F S1x2048x1280 .i8) (sg su : Vec F S1x32x1280 .bf16) (t : Fin 48)
    (k : ℕ) (hk : k < 1280) : Elt F .bf16 :=
  hcol x wg wu sg su ⟨k / 256, by omega⟩ (ix2 t ⟨k % 256, by omega⟩)

set_option maxHeartbeats 1000000 in
/-- A live point of the first product at an index. -/
theorem fillV_apply (i : grid0.Coords) (x : Vec F S48x4096 .bf16) (wg wu : Vec F S1x2048x1280 .i8) (sg su : Vec F S1x32x1280 .bf16)
    (H : Vec F S48x6400 .bf16) (y : S48x6400.Idx) :
    fillV i x wg wu sg su H y
      = if h : 1280 * (i 1).val ≤ (y 1).val ∧ (y 1).val < 1280 * (i 1).val + 1280
        then hblock x wg wu sg su ⟨(y 0).val, (y 0).isLt⟩ ((y 1).val - 1280 * (i 1).val) (by omega) else H y := by
  exact put5 H (fun o => k0_off3 i (BitVec.ofNat 32 (256 * o.val))) (1280 * (i 1).val) (off3_eq i) (hcol x wg wu sg su) y

theorem ldA_inb (j : ℕ) (hj : j < 4) (o : Fin 4) : ∀ a, ![0, 1024 * j + 256 * o.val] a + S48x256.size a ≤ S48x4096.size a := by
  intro a
  have := o.isLt
  match a with
  | ⟨0, _⟩ => exact Nat.le_refl 48
  | ⟨1, _⟩ => show 1024 * j + 256 * o.val + 256 ≤ 4096; omega

/-- 256 columns of the accumulator. -/
abbrev ldA (A : Vec F S48x4096 .f32) (off : Fin 2 → ℕ) (h : ∀ a, off a + S48x256.size a ≤ S48x4096.size a) : Vec F S48x256 .f32 :=
  View.ld A (Rect.unit (s := S48x4096) off S48x256.size h)

theorem ldA_congr (A : Vec F S48x4096 .f32) (off off' : Fin 2 → ℕ) (e : off = off') (h h') : ldA A off h = ldA A off' h' := by
  subst e; rfl

/-- The accumulator columns of chunk `o` of block `j`. -/
def acol (e : Elt F .i32) (ids : Vec F S48x2 .i32) (ew : Vec F S48x2 .f32) (H : Vec F S48x6400 .bf16)
    (w : Vec F S1x3200x1024 .i8) (s : Vec F S1x50x1024 .bf16) (A : Vec F S48x4096 .f32) (j : ℕ) (hj : j < 4) (o : Fin 4) :
    Vec F S48x256 .f32 :=
  achunk e (ldI ids) (ldE ew) (ldH H) (colW2 w _ (colW2_inb o)) (colS2 s _ (colS2_inb o)) (ldA A _ (ldA_inb j hj o))

/-- The block of 1024 accumulator columns. -/
def ablock (e : Elt F .i32) (ids : Vec F S48x2 .i32) (ew : Vec F S48x2 .f32) (H : Vec F S48x6400 .bf16)
    (w : Vec F S1x3200x1024 .i8) (s : Vec F S1x50x1024 .bf16) (A : Vec F S48x4096 .f32) (j : ℕ) (hj : j < 4) (t : Fin 48)
    (k : ℕ) (hk : k < 1024) : Elt F .f32 :=
  acol e ids ew H w s A j hj ⟨k / 256, by omega⟩ (ix2 t ⟨k % 256, by omega⟩)

set_option maxHeartbeats 1000000 in
/-- A live point of the second product at an index. -/
theorem accV_apply (i : grid0.Coords) (v0 : Elt F .i32) (hw : k0_chk1 i v0) (h3 : k0_cond3 i v0 = 1#1) (e : Elt F .i32)
    (ids : Vec F S48x2 .i32) (ew : Vec F S48x2 .f32) (H : Vec F S48x6400 .bf16)
    (w : Vec F S1x3200x1024 .i8) (s : Vec F S1x50x1024 .bf16) (A : Vec F S48x4096 .f32) (y : S48x4096.Idx)
    (j : ℕ) (hj : j < 4) (hij : (i 1).val = 5 + j) :
    accV i v0 hw h3 e ids ew H w s A y
      = if h : 1024 * j ≤ (y 1).val ∧ (y 1).val < 1024 * j + 1024
        then ablock e ids ew H w s A j hj ⟨(y 0).val, (y 0).isLt⟩ ((y 1).val - 1024 * j) (by omega) else A y := by
  have hi : 5 ≤ (i 1).val := by omega
  have off (o : Fin 4) : k0_off5 i (BitVec.ofNat 32 (256 * o.val)) = ![0, 1024 * j + 256 * o.val] := by
    rw [off5_eq i hi, hij, Nat.add_sub_cancel_left]
  have inb (o : Fin 4) : ∀ a, k0_off5 i (BitVec.ofNat 32 (256 * o.val)) a + S48x256.size a ≤ S48x4096.size a := by
    rw [off o]; exact ldA_inb j hj o
  have g (o : Fin 4) : achunk e (ldI ids) (ldE ew) (ldH H) (colW2 w _ (colW2_inb o)) (colS2 s _ (colS2_inb o))
      (ldA A (k0_off5 i (BitVec.ofNat 32 (256 * o.val))) (inb o)) = acol e ids ew H w s A j hj o := by
    unfold acol; rw [ldA_congr A _ _ (off o) (inb o) (ldA_inb j hj o)]
  have key := put4 A (fun o => k0_off5 i (BitVec.ofNat 32 (256 * o.val))) (1024 * j) off
    (fun o => achunk e (ldI ids) (ldE ew) (ldH H) (colW2 w _ (colW2_inb o)) (colS2 s _ (colS2_inb o))
      (ldA A (k0_off5 i (BitVec.ofNat 32 (256 * o.val))) (inb o))) y
  refine Eq.trans key ?_
  by_cases h : 1024 * j ≤ (y 1).val ∧ (y 1).val < 1024 * j + 1024
  · rw [dif_pos h, dif_pos h]
    exact congrFun (g _) _
  · rw [dif_neg h, dif_neg h]

end Cert.Kernel.Body
end
-- ==== Proof.Order.lean ====
/-
  A stable sort of seven flags, the raised ones first: the places below the number of raised flags hold exactly the
  raised ones.
-/
module

public import Idealize.ShloMosaic.Lib.SortFacts
public import Idealize.ShloMosaic.Lib.IndicatorCount
public import Idealize.ShloMosaic.PureOps.Reduce

@[expose] public section

set_option maxRecDepth 16384

namespace Cert.Order

open Idealize.ShloMosaic

/-- The flag that comes to place `k` when the raised flags are put first. -/
def sig (b : Fin 7 → BitVec 1) : Fin 7 → Fin 7 :=
  sortedFrom fun k k' => IntOp.cmpi .ult (~~~b k) (~~~b k') == 1#1

/-- How many flags are raised. -/
def num (b : Fin 7 → BitVec 1) : ℕ := (Finset.univ.filter fun k => b k = 1#1).card

/-- One bit from a truth value. -/
def bit (x : Bool) : BitVec 1 := BitVec.ofBool x

theorem sig_table : ∀ x0 x1 x2 x3 x4 x5 x6 : Bool, ∀ k : Fin 7,
    (b : Fin 7 → BitVec 1) → b = ![bit x0, bit x1, bit x2, bit x3, bit x4, bit x5, bit x6] → (k.val < num b ↔ b (sig b k) = 1#1) := by
  have h : ∀ x0 x1 x2 x3 x4 x5 x6 : Bool, ∀ k : Fin 7,
      (k.val < num ![bit x0, bit x1, bit x2, bit x3, bit x4, bit x5, bit x6] ↔
        (![bit x0, bit x1, bit x2, bit x3, bit x4, bit x5, bit x6] : Fin 7 → BitVec 1)
          (sig ![bit x0, bit x1, bit x2, bit x3, bit x4, bit x5, bit x6] k) = 1#1) := by decide +kernel
  intro x0 x1 x2 x3 x4 x5 x6 k b hb
  subst hb
  exact h ..

theorem bit_eq (v : BitVec 1) : bit (v == 1#1) = v := by
  revert v; decide

/-- Place `k` holds a raised flag exactly if it lies below the number of raised flags. -/
theorem sig_live (b : Fin 7 → BitVec 1) (k : Fin 7) : k.val < num b ↔ b (sig b k) = 1#1 := by
  refine sig_table (b 0 == 1#1) (b 1 == 1#1) (b 2 == 1#1) (b 3 == 1#1) (b 4 == 1#1) (b 5 == 1#1) (b 6 == 1#1) k b ?_
  funext i
  fin_cases i <;> exact (bit_eq _).symm

theorem sig_injective (b : Fin 7 → BitVec 1) : Function.Injective (sig b) := sortedFrom_injective _

theorem num_le (b : Fin 7 → BitVec 1) : num b ≤ 7 := (Finset.card_le_univ _).trans (by simp)

/-- A sum over the places below the number of raised flags is the sum over all flags, if lowered flags add nothing. -/
theorem sum_live {M : Type} [AddCommMonoid M] (b : Fin 7 → BitVec 1) (f : Fin 7 → M) (h : ∀ e, b e ≠ 1#1 → f e = 0) :
    (∑ k : Fin 7, if k.val < num b then f (sig b k) else 0) = ∑ e, f e := by
  have e : ∀ k : Fin 7, (if k.val < num b then f (sig b k) else 0) = f (sig b k) := fun k => by
    by_cases hk : k.val < num b
    · rw [if_pos hk]
    · rw [if_neg hk, h _ fun h1 => hk ((sig_live b k).2 h1)]
  rw [Finset.sum_congr rfl fun k _ => e k]
  exact Function.Bijective.sum_comp (Finite.injective_iff_bijective.1 (sig_injective b)) f

/-- A disjunction over a set one of whose members holds. -/
theorem fold_ori {ι : Type} [DecidableEq ι] (S : Finset ι) (c : BitVec 1) (p : ι → BitVec 1) (i : ι) (hi : i ∈ S) (h : p i = 1#1) :
    S.fold IntOp.ori c p = 1#1 := by
  rw [← Finset.insert_erase hi, Finset.fold_insert (Finset.notMem_erase _ _), h]
  generalize (S.erase i).fold IntOp.ori c p = v
  revert v
  decide

end Cert.Order
-- ==== Proof.KernelTable.lean ====
/-
  The table of live experts that the host computes before the region: the experts that some token chose, in increasing
  order, then the last of them again, and last the number of live experts.
-/
module

public import proofs.«01_k».proof.Proof.KernelKit
public import proofs.«01_k».proof.Proof.Order
public import Idealize.ShloMosaic.Lib.Claim
public import Idealize.ShloMosaic.Lib.Pointwise
public import Idealize.ShloMosaic.Lib.StableHlo.RunRead

@[expose] public section

set_option maxRecDepth 16384

noncomputable section

namespace Cert.Kernel.Body

open Cert.Kernel Cert.Kernel.Gen
open Idealize.ShloMosaic Idealize.ShloMosaic.TcCoe Idealize.ShloMosaic.Tactic

variable {F : FTy → Type} [FloatOps F]

/-- Which experts some token chose. -/
def usedV (ids : IVec S48x2 32) : IVec S7 1 :=
  Host.reduce IntOp.ori
    (cmpi .eq (broadcastInDim S96x7 ![0, 1] bcast_S96x1_S96x7_0_1 (shapeCast S96x1 ids shapeCasts_S48x2_S96x1))
      (broadcastInDim S96x7 ![0, 1] bcast_S1x7_S96x7_0_1 (broadcastInDim S1x7 ![1] bcast_S7_S1x7_1 (iotaInDim S7 32 0))))
    (constantI S_ 1 0#1) reducesTo_S96x7_S7_d0 h_S_

/-- How many experts are live. -/
def cntV (u : IVec S7 1) : IVec S_ 32 := Host.reduce IntOp.addi (extui 32 u natLt_1_32) (constantI S_ 32 0#32) reducesTo_S7_S_d0 h_S_

/-- The experts, the live ones first. -/
def ordV (u : IVec S7 1) : IVec S7 32 := (Host.sort2 S7 0 comparator_i1_i32_d0 (noti u) (iotaInDim S7 32 0)).2

/-- The table, of the live experts; `at_` is the place of the expert that fills the unused entries. -/
def actV (u : IVec S7 1) (at_ : Fin 1 → ℤ) : IVec S8 32 :=
  concatenate S8 0 [⟨S7, select (cmpi .slt (iotaInDim S7 32 0) (broadcastInDim S7 ![] bcast_S_S7 (cntV u))) (ordV u)
      (broadcastInDim S7 ![] bcast_S_S7 (shapeCast S_ (Host.dynamicSlice S1 (ordV u) at_ sliceFits_S7_S1) shapeCasts_S1_S_))⟩,
    ⟨S1, broadcastInDim S1 ![] bcast_S_S1 (cntV u)⟩] concatenates_S7_S1_S8_d0

variable (m : (ℓ : Loc nD τ sig) → Buf (Elt F) ℓ)

/-- The region finds that table, of the launched experts. -/
theorem V_act (c : Dev nD) : ∃ at_, V m c main_v25 = actV (usedV (shapeCast S48x2 (m ((c : Thread nD τ).loc main_arg5)) shapeCasts_S48x1x2_S48x2)) at_ := by
  change ∃ at_, StableHlo.after ([hostOps0, hostOps0_1, hostOps0_2, hostOps0_3, hostOps0_4].flatten) _ (Proc.devRef .tc main_v25) = actV _ at_
  simp only [hostOps0, hostOps0_1, hostOps0_2, hostOps0_3, hostOps0_4, List.flatten_cons, List.flatten_nil, List.append_nil, List.cons_append, List.nil_append]
  after_results
  unfold actV
  exact ⟨_, rfl⟩

/-- The region finds the experts' numbers as launched, -/
theorem V_ids (c : Dev nD) : V m c main_v0 = shapeCast S48x2 (m ((c : Thread nD τ).loc main_arg5)) shapeCasts_S48x1x2_S48x2 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.append_nil, List.cons_append, List.nil_append]
  after_results
  rfl

/-- their weights as launched, -/
theorem V_ew (c : Dev nD) : V m c main_v1 = shapeCast S48x2 (m ((c : Thread nD τ).loc main_arg6)) shapeCasts_S48x1x2_S48x2 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.append_nil, List.cons_append, List.nil_append]
  after_results
  rfl

/-- and the activations as launched, as a matrix. -/
theorem V_x (c : Dev nD) : V m c main_v26 = shapeCast S48x4096 (m ((c : Thread nD τ).loc main_arg0)) shapeCasts_S48x1x4096_S48x4096 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.append_nil, List.cons_append, List.nil_append]
  after_results
  rfl

/-- The flags of the live experts. -/
def flags (u : IVec S7 1) : Fin 7 → BitVec 1 := fun k => u (Shape.Idx.ofFin k)

theorem along7 (j : S7.Idx) (k : Fin 7) : j.along (0 : Fin 1) k = (Shape.Idx.ofFin k : S7.Idx) := Shape.Idx.along_rank1 j k

/-- Place `j` of the order holds the expert that the sort puts there. -/
theorem ordV_apply (u : IVec S7 1) (j : S7.Idx) : ordV u j = BitVec.ofNat 32 (Order.sig (flags u) (j 0)).val := by
  have h : ordV u j = iotaInDim S7 32 0 (j.along (0 : Fin 1) (sortedFrom (n := 7) (fun k k' =>
      comparator_i1_i32_d0 (noti u (j.along (0 : Fin 1) k), iotaInDim S7 32 0 (j.along (0 : Fin 1) k))
        (noti u (j.along (0 : Fin 1) k'), iotaInDim S7 32 0 (j.along (0 : Fin 1) k')) == 1#1) (j 0))) := rfl
  rw [h]
  simp only [along7]
  rfl

/-- The count is that of the live experts. -/
theorem cntV_apply (u : IVec S7 1) (j : S_.Idx) : cntV u j = BitVec.ofNat 32 (Order.num (flags u)) := by
  unfold cntV
  rw [Host.reduce_eq_fold]
  have := IndicatorCount.fold_addi_setWidth_eq_card (w := 32) u (Finset.univ.filter fun i => reducesTo_S7_S_d0.drop i = j)
  refine this.trans ?_
  congr 1
  unfold Order.num
  refine Finset.card_bij (fun i _ => i 0) ?_ ?_ ?_
  · intro i hi
    simp only [Finset.mem_filter, Finset.mem_univ, true_and] at hi ⊢
    have := hi.2
    rw [Shape.Idx.eq_ofFin i] at this
    exact Finset.mem_filter.2 ⟨Finset.mem_univ _, this⟩
  · intro i _ i' _ h
    rw [Shape.Idx.eq_ofFin i, Shape.Idx.eq_ofFin i', show i 0 = i' 0 from h]
  · intro k hk
    simp only [Finset.mem_filter, Finset.mem_univ, true_and] at hk
    refine ⟨Shape.Idx.ofFin k, ?_, Shape.Idx.ofFin_zero k⟩
    simp only [Finset.mem_filter, Finset.mem_univ, true_and]
    exact ⟨funext fun a => a.elim0, hk⟩

/-- The table's last entry is the number of live experts. -/
theorem actV_num (u : IVec S7 1) (at_) (j : S8.Idx) (hj : (j 0).val = 7) : actV u at_ j = BitVec.ofNat 32 (Order.num (flags u)) := by
  unfold actV
  pointwise
  rw [dif_neg (by omega), cntV_apply]

/-- Its other entries are experts, the live ones first. -/
theorem actV_apply (u : IVec S7 1) (at_) (j : S8.Idx) (hj : (j 0).val < 7) :
    ∃ e : Fin 7, actV u at_ j = BitVec.ofNat 32 e.val ∧ ((j 0).val < Order.num (flags u) → e = Order.sig (flags u) ⟨(j 0).val, hj⟩) := by
  unfold actV
  pointwise
  rw [dif_pos hj, cntV_apply, ordV_apply, ordV_apply]
  have hn := Order.num_le (flags u)
  by_cases hk : (j 0).val < Order.num (flags u)
  · refine ⟨Order.sig (flags u) ⟨(j 0).val, hj⟩, ?_, fun _ => rfl⟩
    have h1 : IntOp.cmpi .slt (BitVec.ofNat 32 (j 0).val) (BitVec.ofNat 32 (Order.num (flags u))) = 1#1 := by
      generalize Order.num (flags u) = n at *
      generalize (j 0).val = i at *
      have hi : i < 7 := hj
      interval_cases n <;> interval_cases i <;> first | rfl | omega
    rw [h1]
    rfl
  · have h0 : IntOp.cmpi .slt (BitVec.ofNat 32 (j 0).val) (BitVec.ofNat 32 (Order.num (flags u))) = 0#1 := by
      generalize Order.num (flags u) = n at *
      generalize (j 0).val = i at *
      have hi : i < 7 := hj
      interval_cases n <;> interval_cases i <;> first | rfl | omega
    rw [h0]
    exact ⟨_, rfl, fun h => absurd h hk⟩

/-- An expert that some token chose is live. -/
theorem usedV_of (ids : IVec S48x2 32) (t : Fin 48) (s : Fin 2) (e : Fin 7) (h : ids (ValueIdx.ix2 t s) = BitVec.ofNat 32 e.val) :
    flags (usedV ids) e = 1#1 := by
  unfold flags usedV
  rw [Host.reduce_eq_fold]
  classical
  refine Order.fold_ori _ _ _ (ValueIdx.ix2 (⟨2 * t.val + s.val, by omega⟩ : Fin 96) e) ?_ ?_
  · refine Finset.mem_filter.2 ⟨Finset.mem_univ _, ?_⟩
    funext a
    have : a = 0 := Subsingleton.elim _ _
    subst this
    exact Fin.ext (Shape.ReducesTo.drop_apply_val_of_eq reducesTo_S96x7_S7_d0 _ 0 1 (by decide))
  · pointwise
    refine (congrArg (fun v => IntOp.cmpi .eq v _) h).trans ?_
    show BitVec.ofBool (BitVec.ofNat 32 e.val == BitVec.ofNat 32 e.val) = 1#1
    rw [beq_self_eq_true]
    rfl

end Cert.Kernel.Body
end
-- ==== Proof.KernelOk.lean ====
/-
  The blocks of the weights that the region visits: at every grid point they lie inside their arrays, and where the
  body uses them they are those of the live expert at hand.
-/
module

public import proofs.«01_k».proof.Proof.KernelTable
public import proofs.«01_k».proof.Proof.KernelBody

@[expose] public section

set_option maxRecDepth 16384

noncomputable section

namespace Cert.Kernel.Body

open Cert.Kernel Cert.Kernel.Gen
open Idealize.ShloMosaic Idealize.ShloMosaic.TcCoe Idealize.ShloMosaic.Tactic

variable {F : FTy → Type} [FloatOps F]

/-- A table of `n` live experts, the `k`-th of which is `σ k`. -/
structure Tab (T : IVec S8 32) (n : ℕ) (σ : Fin 7 → Fin 7) : Prop where
  n_le : n ≤ 7
  num : ∀ j : S8.Idx, (j 0).val = 7 → T j = BitVec.ofNat 32 n
  entry : ∀ (j : S8.Idx) (h : (j 0).val < 7), ∃ e : Fin 7, T j = BitVec.ofNat 32 e.val ∧ ((j 0).val < n → e = σ ⟨(j 0).val, h⟩)

/-- The region's table is one. -/
theorem tab (m : (ℓ : Loc nD τ sig) → Buf (Elt F) ℓ) (c : Dev nD) (b : Fin 7 → BitVec 1)
    (hb : b = flags (usedV (shapeCast S48x2 (m ((c : Thread nD τ).loc main_arg5)) shapeCasts_S48x1x2_S48x2))) :
    Tab (V m c main_v25) (Order.num b) (Order.sig b) := by
  subst hb
  obtain ⟨a, h⟩ := V_act m c
  rw [h]
  exact ⟨Order.num_le _, actV_num _ _, actV_apply _ _⟩

/-- The column of the gate's blocks. -/
def colG (a b n : ℕ) : BitVec 32 :=
  Scalar.select (Scalar.cmpi .slt (BitVec.ofNat 32 a) (BitVec.ofNat 32 n)) (Scalar.minsi (BitVec.ofNat 32 b) 4#32) 4#32

/-- Whether the second matmul's blocks still are those of the expert before. -/
def lag (a b n : ℕ) : BitVec 1 :=
  Scalar.andi (Scalar.andi (Scalar.cmpi .slt (BitVec.ofNat 32 b) 4#32) (Scalar.cmpi .sgt (BitVec.ofNat 32 a) 0#32))
    (Scalar.cmpi .slt (BitVec.ofNat 32 a) (BitVec.ofNat 32 n))

/-- The column of the second matmul's blocks. -/
def colD (a b n : ℕ) : BitVec 32 :=
  Scalar.select (Scalar.cmpi .slt (BitVec.ofNat 32 a) (BitVec.ofNat 32 n))
    (Scalar.select (lag a b n) 3#32 (Scalar.maxsi (Scalar.subi (BitVec.ofNat 32 b) 5#32) 0#32)) 3#32

theorem colG_table : ∀ (a : Fin 7) (b : Fin 9) (n : Fin 8), ∃ k : Fin 5, colG a b n = BitVec.ofNat 32 k.val ∧ (a.val < n.val → b.val < 5 → k.val = b.val) := by
  decide +kernel

theorem colD_table : ∀ (a : Fin 7) (b : Fin 9) (n : Fin 8), ∃ k : Fin 4, colD a b n = BitVec.ofNat 32 k.val ∧
    (a.val < n.val → 5 ≤ b.val → k.val = b.val - 5 ∧ lag a b n = 0#1) := by
  decide +kernel

theorem off1_val : ∀ a : Fin 7, (Scalar.indexCast (BitVec.ofNat 32 a.val)).toNat = a.val := by decide +kernel

theorem off2_lt : ∀ a : Fin 7, (Scalar.indexCast (Scalar.maxsi (Scalar.subi (BitVec.ofNat 32 a.val) 1#32) 0#32)).toNat < 7 := by decide +kernel

variable {pf : pre0.Contents (Elt F)} {n : ℕ} {σ : Fin 7 → Fin 7}

/-- One entry of the table, as a place. -/
theorem emb8 (off : Fin 1 → ℕ) (inb : ∀ a, off a + S1.size a ≤ S8.size a) (h : off 0 < 8) (j : S1.Idx) :
    (Rect.unit (s := S8) off S1.size inb).emb j = (Shape.Idx.ofFin ⟨off 0, h⟩ : S8.Idx) := by
  refine (Shape.Idx.eq_ofFin (n := 8) _).trans (congrArg _ (Fin.ext ?_))
  have h1 : (j 0).val < 1 := (j 0).isLt
  have h2 : ((Rect.unit (s := S8) off S1.size inb).emb j 0).val = off 0 + 1 * (j 0).val := Rect.emb_apply _ _ _
  rw [h2]
  show _ = off 0
  omega

/-- One entry of the table, read as the index maps read it. -/
theorem at_eq (off : Fin 1 → ℕ) (inb : ∀ a, off a + S1.size a ≤ S8.size a) (h : off 0 < 8) :
    pf.at 0 (Rect.unit (s := S8) off S1.size inb) numel1_S1 = pf 0 (Shape.Idx.ofFin ⟨off 0, h⟩ : S8.Idx) :=
  congrArg (pf 0) (emb8 off inb h _)

/-- One entry of the table, read as the body reads it. -/
theorem tword_eq (T : IVec S8 32) (off : Fin 1 → ℕ) (inb : ∀ a, off a + S1.size a ≤ S8.size a) (h : off 0 < 8) :
    tword (F := F) T off inb = T (Shape.Idx.ofFin ⟨off 0, h⟩ : S8.Idx) :=
  congrArg T (emb8 off inb h _)

/-- The blocks of the gate and up weights, and of their scales. -/
theorem gate_blocks (hT : Tab (pf 0) n σ) (i : grid0.Coords) : ∃ (e : Fin 7) (k : Fin 5),
    cc0_transform_1 inb_S8_S1_7 numel1_S1 k0_off1_inb pf i = ![e.val, 0, k.val] ∧
    cc0_transform_2 inb_S8_S1_7 numel1_S1 k0_off1_inb pf i = ![e.val, 0, k.val + 5] ∧
    cc0_transform_3 inb_S8_S1_7 numel1_S1 k0_off1_inb pf i = ![e.val, 0, k.val] ∧
    cc0_transform_4 inb_S8_S1_7 numel1_S1 k0_off1_inb pf i = ![e.val, 0, k.val + 5] ∧
    ((i 0).val < n → (i 1).val < 5 → e = σ (i 0) ∧ k.val = (i 1).val) := by
  have h7 : pf.at 0 (Rect.unit (s := S8) ![7] S1.size inb_S8_S1_7) numel1_S1 = BitVec.ofNat 32 n := hT.num _ rfl
  have hoff : k0_off1 i 0 = (i 0).val := off1_val (i 0)
  have h8 : k0_off1 i 0 < 8 := hoff ▸ (i 0).isLt.trans (by decide)
  have ha : ((Shape.Idx.ofFin (⟨k0_off1 i 0, h8⟩ : Fin 8) : S8.Idx) 0).val < 7 := (hoff ▸ (i 0).isLt : k0_off1 i 0 < 7)
  obtain ⟨e, he, hes⟩ := hT.entry _ ha
  replace he := (at_eq (pf := pf) (k0_off1 i) (k0_off1_inb i) h8).trans he
  obtain ⟨k, hk, hks⟩ := colG_table (i 0) (i 1) ⟨n, by have := hT.n_le; omega⟩
  have hG : Scalar.select (Scalar.cmpi .slt (BitVec.ofNat 32 (i 0).val) (pf.at 0 (Rect.unit (s := S8) ![7] S1.size inb_S8_S1_7) numel1_S1))
      (Scalar.minsi (BitVec.ofNat 32 (i 1).val) 4#32) 4#32 = BitVec.ofNat 32 k.val := by
    rw [h7]; exact hk
  have hev : (BitVec.ofNat 32 e.val).toNat = e.val := by rw [BitVec.toNat_ofNat]; omega
  have hk0 : (Scalar.addi (BitVec.ofNat 32 k.val) 0#32).toNat = k.val := (by decide +kernel : ∀ k : Fin 5, (Scalar.addi (BitVec.ofNat 32 k.val) 0#32).toNat = k.val) k
  have hk5 : (Scalar.addi (BitVec.ofNat 32 k.val) 5#32).toNat = k.val + 5 := (by decide +kernel : ∀ k : Fin 5, (Scalar.addi (BitVec.ofNat 32 k.val) 5#32).toNat = k.val + 5) k
  have hsig : (i 0).val < n → (i 1).val < 5 → e = σ (i 0) ∧ k.val = (i 1).val := fun h1 h2 =>
    ⟨(hes (hoff.trans_lt h1)).trans (congrArg σ (Fin.ext hoff)), hks h1 h2⟩
  refine ⟨e, k, ?_, ?_, ?_, ?_, hsig⟩
  · exact congrArg₂ (fun x y : BitVec 32 => ![x.toNat, 0, (Scalar.addi y 0#32).toNat]) he hG |>.trans (by rw [hev, hk0])
  · exact congrArg₂ (fun x y : BitVec 32 => ![x.toNat, 0, (Scalar.addi y 5#32).toNat]) he hG |>.trans (by rw [hev, hk5])
  · exact congrArg₂ (fun x y : BitVec 32 => ![x.toNat, 0, (Scalar.addi y 0#32).toNat]) he hG |>.trans (by rw [hev, hk0])
  · exact congrArg₂ (fun x y : BitVec 32 => ![x.toNat, 0, (Scalar.addi y 5#32).toNat]) he hG |>.trans (by rw [hev, hk5])

/-- The blocks of the second matmul's weights, and of their scales. -/
theorem down_blocks (hT : Tab (pf 0) n σ) (i : grid0.Coords) : ∃ (e : Fin 7) (k : Fin 4),
    cc0_transform_5 k0_off2_inb numel1_S1 inb_S8_S1_7 k0_off1_inb pf i = ![e.val, 0, k.val] ∧
    cc0_transform_6 k0_off2_inb numel1_S1 inb_S8_S1_7 k0_off1_inb pf i = ![e.val, 0, k.val] ∧
    ((i 0).val < n → 5 ≤ (i 1).val → e = σ (i 0) ∧ k.val = (i 1).val - 5) := by
  have h7 : pf.at 0 (Rect.unit (s := S8) ![7] S1.size inb_S8_S1_7) numel1_S1 = BitVec.ofNat 32 n := hT.num _ rfl
  have hoff : k0_off1 i 0 = (i 0).val := off1_val (i 0)
  have h8 : k0_off1 i 0 < 8 := hoff ▸ (i 0).isLt.trans (by decide)
  have ha : ((Shape.Idx.ofFin (⟨k0_off1 i 0, h8⟩ : Fin 8) : S8.Idx) 0).val < 7 := (hoff ▸ (i 0).isLt : k0_off1 i 0 < 7)
  obtain ⟨e, he, hes⟩ := hT.entry _ ha
  replace he := (at_eq (pf := pf) (k0_off1 i) (k0_off1_inb i) h8).trans he
  have hoff2 : k0_off2 i 0 < 7 := off2_lt (i 0)
  have h8' : k0_off2 i 0 < 8 := hoff2.trans (by decide)
  have ha' : ((Shape.Idx.ofFin (⟨k0_off2 i 0, h8'⟩ : Fin 8) : S8.Idx) 0).val < 7 := hoff2
  obtain ⟨e', he', -⟩ := hT.entry _ ha'
  replace he' := (at_eq (pf := pf) (k0_off2 i) (k0_off2_inb i) h8').trans he'
  obtain ⟨k, hk, hks⟩ := colD_table (i 0) (i 1) ⟨n, by have := hT.n_le; omega⟩
  have hev : ∀ e : Fin 7, (BitVec.ofNat 32 e.val).toNat = e.val := by decide +kernel
  have hkv : (BitVec.ofNat 32 k.val).toNat = k.val := by rw [BitVec.toNat_ofNat]; omega
  have key : ∀ x y w : BitVec 32, x = BitVec.ofNat 32 n → y = BitVec.ofNat 32 e.val → w = BitVec.ofNat 32 e'.val →
      (![(Scalar.select (Scalar.andi (Scalar.andi (Scalar.cmpi .slt (BitVec.ofNat 32 (i 1).val) 4#32) (Scalar.cmpi .sgt (BitVec.ofNat 32 (i 0).val) 0#32))
          (Scalar.cmpi .slt (BitVec.ofNat 32 (i 0).val) x)) w y).toNat, (0#32).toNat,
        (Scalar.select (Scalar.cmpi .slt (BitVec.ofNat 32 (i 0).val) x)
          (Scalar.select (Scalar.andi (Scalar.andi (Scalar.cmpi .slt (BitVec.ofNat 32 (i 1).val) 4#32) (Scalar.cmpi .sgt (BitVec.ofNat 32 (i 0).val) 0#32))
            (Scalar.cmpi .slt (BitVec.ofNat 32 (i 0).val) x)) 3#32 (Scalar.maxsi (Scalar.subi (BitVec.ofNat 32 (i 1).val) 5#32) 0#32)) 3#32).toNat] : Fin 3 → ℕ)
        = ![(if lag (i 0).val (i 1).val n = 1#1 then e' else e).val, 0, k.val] := by
    rintro x y w rfl rfl rfl
    have h1 : (Scalar.select (lag (i 0).val (i 1).val n) (BitVec.ofNat 32 e'.val) (BitVec.ofNat 32 e.val)).toNat
        = (if lag (i 0).val (i 1).val n = 1#1 then e' else e).val := by
      have hb : ∀ b : BitVec 1, (Scalar.select b (BitVec.ofNat 32 e'.val) (BitVec.ofNat 32 e.val)).toNat = (if b = 1#1 then e' else e).val := by
        intro b
        by_cases h : b = 1#1
        · rw [if_pos h, h]; exact hev e'
        · have h0 : b = 0#1 := (by decide : ∀ b : BitVec 1, ¬b = 1#1 → b = 0#1) b h
          rw [if_neg h, h0]; exact hev e
      exact hb _
    have h2 : (colD (i 0).val (i 1).val n).toNat = k.val := (congrArg BitVec.toNat hk).trans hkv
    exact congrArg₂ (fun p q : ℕ => ![p, 0, q]) h1 h2
  refine ⟨if lag (i 0).val (i 1).val n = 1#1 then e' else e, k, key _ _ _ h7 he he', key _ _ _ h7 he he', fun h1 h2 => ?_⟩
  obtain ⟨hk', hl⟩ := hks h1 h2
  rw [if_neg (by rw [hl]; decide)]
  exact ⟨(hes (hoff.trans_lt h1)).trans (congrArg σ (Fin.ext hoff)), hk'⟩

theorem blk_w1 : ∀ (e : Fin 7) (k : Fin 10), ∃ h : (∀ a, ((![e.val, 0, k.val] : Fin 3 → ℕ) a + 1) * S1x2048x1280.size a ≤ S7x2048x12800.size a),
    EltTy.bits .i8 = 32 ∨ (Rect.block (s := S7x2048x12800) S1x2048x1280.size ![e.val, 0, k.val] h).WholeWords (EltTy.packing .i8) := by
  decide +kernel

theorem blk_s1 : ∀ (e : Fin 7) (k : Fin 10), ∃ h : (∀ a, ((![e.val, 0, k.val] : Fin 3 → ℕ) a + 1) * S1x32x1280.size a ≤ S7x32x12800.size a),
    EltTy.bits .bf16 = 32 ∨ (Rect.block (s := S7x32x12800) S1x32x1280.size ![e.val, 0, k.val] h).WholeWords (EltTy.packing .bf16) := by
  decide +kernel

theorem blk_w2 : ∀ (e : Fin 7) (k : Fin 4), ∃ h : (∀ a, ((![e.val, 0, k.val] : Fin 3 → ℕ) a + 1) * S1x3200x1024.size a ≤ S7x3200x4096.size a),
    EltTy.bits .i8 = 32 ∨ (Rect.block (s := S7x3200x4096) S1x3200x1024.size ![e.val, 0, k.val] h).WholeWords (EltTy.packing .i8) := by
  decide +kernel

theorem blk_s2 : ∀ (e : Fin 7) (k : Fin 4), ∃ h : (∀ a, ((![e.val, 0, k.val] : Fin 3 → ℕ) a + 1) * S1x50x1024.size a ≤ S7x50x4096.size a),
    EltTy.bits .bf16 = 32 ∨ (Rect.block (s := S7x50x4096) S1x50x1024.size ![e.val, 0, k.val] h).WholeWords (EltTy.packing .bf16) := by
  decide +kernel

/-- Every block lies inside its array. -/
theorem ok_of_tab (hT : Tab (pf 0) n σ) : ok0 pf := by
  unfold ok0
  refine ⟨fun i => ?_, fun i => ?_, fun i => ?_, fun i => ?_, fun i => ?_, fun i => ?_⟩
  · obtain ⟨e, k, h, -⟩ := gate_blocks hT i
    rw [h]; exact blk_w1 e ⟨k.val, by omega⟩
  · obtain ⟨e, k, -, h, -⟩ := gate_blocks hT i
    rw [h]; exact blk_w1 e ⟨k.val + 5, by omega⟩
  · obtain ⟨e, k, -, -, h, -⟩ := gate_blocks hT i
    rw [h]; exact blk_s1 e ⟨k.val, by omega⟩
  · obtain ⟨e, k, -, -, -, h, -⟩ := gate_blocks hT i
    rw [h]; exact blk_s1 e ⟨k.val + 5, by omega⟩
  · obtain ⟨e, k, h, -⟩ := down_blocks hT i
    rw [h]; exact blk_w2 e k
  · obtain ⟨e, k, -, h, -⟩ := down_blocks hT i
    rw [h]; exact blk_s2 e k

end Cert.Kernel.Body
end
-- ==== Proof.KernelState.lean ====
/-
  What the two scratches hold between grid points: the `h` columns of the expert at hand that are already made, and
  the sum over the experts already done.
-/
module

public import proofs.«01_k».proof.Proof.KernelCols
public import proofs.«01_k».proof.Proof.KernelOk
public import proofs.«01_k».proof.Proof.KernelKit

@[expose] public section

set_option maxRecDepth 16384

noncomputable section

namespace Cert.Kernel.Body

open Cert.Kernel Cert.Kernel.Gen
open Idealize.ShloMosaic Idealize.ShloMosaic.TcCoe Idealize.ShloMosaic.ValueIdx

variable {F : FTy → Type} [FloatOps F]

/-- The grid point of slot `i` and column `j`. -/
def pt (i : Fin 7) (j : Fin 9) : Fin 63 := ⟨9 * i.val + j.val, by omega⟩

/-- A point's two coordinates. -/
theorem coord0 : ∀ t : Fin 63, ((grid0.coords t) 0).val = t.val / 9 := by decide +kernel
theorem coord1 : ∀ t : Fin 63, ((grid0.coords t) 1).val = t.val % 9 := by decide +kernel

/-- The slot's expert is live, as the body computes it. -/
def live (i : ℕ) (v0 : BitVec 32) : Prop := Scalar.cmpi .slt (BitVec.ofNat 32 i) v0 = 1#1

theorem cond2_iff (i : grid0.Coords) (v0 : BitVec 32) : k0_cond2 i v0 = 1#1 ↔ live (i 0).val v0 ∧ (i 1).val < 5 := by
  have key : ∀ (p : BitVec 1) (n : Fin 9),
      Scalar.cmpi .ne (Scalar.extui (Scalar.andi p (Scalar.cmpi .slt (BitVec.ofNat 32 n.val) 5#32)) : BitVec 32) 0#32 = 1#1
        ↔ p = 1#1 ∧ n.val < 5 := by decide
  exact key _ ⟨(i 1).val, (i 1).isLt⟩
theorem cond3_iff (i : grid0.Coords) (v0 : BitVec 32) : k0_cond3 i v0 = 1#1 ↔ live (i 0).val v0 ∧ 5 ≤ (i 1).val := by
  have key : ∀ (p : BitVec 1) (n : Fin 9),
      Scalar.cmpi .ne (Scalar.extui (Scalar.andi p (Scalar.cmpi .sge (BitVec.ofNat 32 n.val) 5#32)) : BitVec 32) 0#32 = 1#1
        ↔ p = 1#1 ∧ 5 ≤ n.val := by decide
  exact key _ ⟨(i 1).val, (i 1).isLt⟩

/-- The zeroing happens at the first point. -/
theorem isFirst_zero : ∀ t : Fin 63, isFirst (grid0.coords t) ↔ t.val = 0 := by
  unfold isFirst
  decide +kernel
/-- The quantiser runs at the last point. -/
theorem cond4_last : ∀ t : Fin 63, k0_cond4 (grid0.coords t) = 1#1 ↔ t.val = 62 := by decide +kernel

/-- What the inputs' blocks are at every point. -/
structure Ins (F : FTy → Type) where
  T : Vec F S8 .i32
  x : Fin 63 → Vec F S48x4096 .bf16
  wg : Fin 63 → Vec F S1x2048x1280 .i8
  wu : Fin 63 → Vec F S1x2048x1280 .i8
  sg : Fin 63 → Vec F S1x32x1280 .bf16
  su : Fin 63 → Vec F S1x32x1280 .bf16
  w : Fin 63 → Vec F S1x3200x1024 .i8
  s : Fin 63 → Vec F S1x50x1024 .bf16
  ids : Fin 63 → Vec F S48x2 .i32
  ew : Fin 63 → Vec F S48x2 .f32

variable (I : Ins F)

/-- The number of live experts, and the expert of a point's slot, as the body reads them. -/
abbrev Ins.n : Elt F .i32 := tword I.T ![7] inb_S8_S1_7
abbrev Ins.e (t : Fin 63) : Elt F .i32 := tword I.T (k0_off4 (grid0.coords t)) (k0_off4_inb (grid0.coords t))

/-- All `h` columns of slot `i`'s expert. -/
def Hval (i : Fin 7) : Vec F S48x6400 .bf16 := fun y =>
  have h6 : (y 1).val < 6400 := (y 1).isLt
  let t := pt i ⟨(y 1).val / 1280, by omega⟩
  hblock (I.x t) (I.wg t) (I.wu t) (I.sg t) (I.su t) ⟨(y 0).val, (y 0).isLt⟩ ((y 1).val - 1280 * ((y 1).val / 1280)) (by omega)

/-- A step of the accumulator at point `t`. -/
def nextA (t : Fin 63) (A : Vec F S48x4096 .f32) : Vec F S48x4096 .f32 :=
  stepA (grid0.coords t) I.n (I.e t) (I.ids t) (I.ew t) (Hval I ⟨t.val / 9, by omega⟩) (I.w t) (I.s t) (stepZ (grid0.coords t) A)

/-- The accumulator before point `t`. -/
def Adet : ℕ → Vec F S48x4096 .f32
  | 0 => k0_pay1
  | t + 1 => if h : t < 63 then nextA I ⟨t, h⟩ (Adet t) else Adet t

/-- What holds before point `t`. -/
structure Inv (t : ℕ) (H : Vec F S48x6400 .bf16) (A : Vec F S48x4096 .f32) : Prop where
  acc : t ≠ 0 → A = Adet I t
  cols : ∀ i : Fin 7, i.val = t / 9 → live i.val I.n → ∀ y : S48x6400.Idx, (y 1).val < 1280 * min (t % 9) 5 → H y = Hval I i y

/-- The `h` columns after a point of slot `i`, from those before. -/
theorem cols_step (t : Fin 63) (H : Vec F S48x6400 .bf16) (i : Fin 7) (hi : i.val = t.val / 9) (hl : live i.val I.n)
    (h : ∀ y : S48x6400.Idx, (y 1).val < 1280 * min (t.val % 9) 5 → H y = Hval I i y) (y : S48x6400.Idx)
    (hy : (y 1).val < 1280 * min (t.val % 9 + 1) 5) :
    stepH (grid0.coords t) I.n (I.x t) (I.wg t) (I.wu t) (I.sg t) (I.su t) H y = Hval I i y := by
  have c0 := coord0 t
  have c1 := coord1 t
  unfold stepH
  by_cases hj : t.val % 9 < 5
  · rw [if_pos ((cond2_iff _ _).mpr ⟨by rw [c0, ← hi]; exact hl, by rw [c1]; exact hj⟩), fillV_apply]
    by_cases hb : 1280 * (t.val % 9) ≤ (y 1).val
    · have hm : min (t.val % 9 + 1) 5 = t.val % 9 + 1 := by omega
      rw [hm] at hy
      rw [dif_pos (by rw [c1]; omega)]
      unfold Hval
      have hq : (y 1).val / 1280 = t.val % 9 := by omega
      have ht : pt i ⟨(y 1).val / 1280, by omega⟩ = t := Fin.ext (by show 9 * i.val + (y 1).val / 1280 = t.val; omega)
      simp only [ht]
      congr 1
      rw [c1, hq]
    · rw [dif_neg (by rw [c1]; omega)]
      exact h y (by omega)
  · rw [if_neg (fun hc => hj (by have := ((cond2_iff _ _).mp hc).2; omega))]
    exact h y (by omega)

/-- The invariant through a point. -/
theorem inv_step (t : Fin 63) (H : Vec F S48x6400 .bf16) (A : Vec F S48x4096 .f32) (h : Inv I t.val H A) :
    Inv I (t.val + 1) (stepH (grid0.coords t) I.n (I.x t) (I.wg t) (I.wu t) (I.sg t) (I.su t) H)
      (stepA (grid0.coords t) I.n (I.e t) (I.ids t) (I.ew t)
        (stepH (grid0.coords t) I.n (I.x t) (I.wg t) (I.wu t) (I.sg t) (I.su t) H) (I.w t) (I.s t) (stepZ (grid0.coords t) A)) := by
  have c0 := coord0 t
  have c1 := coord1 t
  refine ⟨fun _ => ?_, fun i hi hl y hy => ?_⟩
  · have hz : stepZ (grid0.coords t) A = stepZ (grid0.coords t) (Adet I t.val) := by
      by_cases h0 : t.val = 0
      · unfold stepZ; rw [if_pos ((isFirst_zero t).mpr h0), if_pos ((isFirst_zero t).mpr h0)]
      · rw [h.acc h0]
    show _ = if h : t.val < 63 then nextA I ⟨t.val, h⟩ (Adet I t.val) else Adet I t.val
    rw [dif_pos t.isLt, hz]
    unfold nextA stepA
    by_cases h3 : k0_cond3 (grid0.coords t) I.n = 1#1
    · rw [dif_pos h3, dif_pos h3]
      obtain ⟨hl, h5⟩ := (cond3_iff _ _).mp h3
      rw [c0] at hl
      have hH : stepH (grid0.coords t) I.n (I.x t) (I.wg t) (I.wu t) (I.sg t) (I.su t) H = Hval I ⟨t.val / 9, by omega⟩ :=
        funext fun y => cols_step I t H ⟨t.val / 9, by omega⟩ rfl hl (h.cols ⟨t.val / 9, by omega⟩ rfl hl) y (by
          have h6 : (y 1).val < 6400 := (y 1).isLt
          omega)
      rw [hH]
    · rw [dif_neg h3, dif_neg h3]
  · by_cases h8 : t.val % 9 = 8
    · exfalso; have : (t.val + 1) % 9 = 0 := by omega
      rw [this] at hy; simp at hy
    · have hi' : i.val = t.val / 9 := by omega
      have hm : (t.val + 1) % 9 = t.val % 9 + 1 := by omega
      rw [hm] at hy
      exact cols_step I t H i hi' hl (h.cols i hi' hl) y hy

/-- It holds before the first point whatever the scratches hold. -/
theorem inv_zero (H : Vec F S48x6400 .bf16) (A : Vec F S48x4096 .f32) : Inv I 0 H A :=
  ⟨fun h => absurd rfl h, fun _ _ _ y hy => by simp at hy⟩

end Cert.Kernel.Body
end
-- ==== Proof.KernelRun.lean ====
/-
  The run of `Kernel`: the pipeline's proof data, the body at every point, and what the launch leaves in memory.
-/
module

public import proofs.«01_k».proof.Proof.KernelState

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flags of the experts that some token chose. -/
def seen (c : Dev nD) : Fin 7 → BitVec 1 := flags (usedV (shapeCast S48x2 (m ((c : Thread nD τ).loc main_arg5)) shapeCasts_S48x1x2_S48x2))

/-- The blocks of every window lie inside their arrays, whatever the inputs. -/
theorem ok : Ok m := ok_of_tab (tab m 0 (seen m 0) rfl)

/-- A number as a grid point. -/
abbrev at_ (t : Fin 63) : Fin grid0.N := t.cast N_0.symm

/-- The inputs' blocks as the region finds them. -/
def ins (hO : Ok m) (c : Dev nD) : Ins F where
  T := tbl m 0
  x t := iblk m hO c 0 (at_ t)
  wg t := iblk m hO c 1 (at_ t)
  wu t := iblk m hO c 2 (at_ t)
  sg t := iblk m hO c 3 (at_ t)
  su t := iblk m hO c 4 (at_ t)
  w t := iblk m hO c 5 (at_ t)
  s t := iblk m hO c 6 (at_ t)
  ids t := iblk m hO c 7 (at_ t)
  ew t := iblk m hO c 8 (at_ t)

/-- The accumulator after the last point. -/
def accEnd (hO : Ok m) (c : Dev nD) : Vec F S48x4096 .f32 := Adet (ins m hO c) 63

/-- What holds between points: the scratches at contents the invariant describes, the generator's register, the table. -/
def phi (I : Ins F) (c : Dev nD) (t : ℕ) : sProp 𝕄 :=
  iprop(∃ H A, ⌜Inv I t H A⌝ ∗ owns (c : Thread nD τ) (Memref.whole cc0_scratch0) fullShare H
    ∗ owns (c : Thread nD τ) (Memref.whole cc0_scratch1) fullShare A ∗ (∃ r, prngReg c r)
    ∗ owns (c : Thread nD τ) (Memref.whole main_v25) fullShare.right I.T)

set_option maxHeartbeats 1000000 in
/-- The body at any point, the inputs' blocks given. -/
theorem body_mid (a : (pcfg0 (F := F)).Adm) (I : Ins F) (c : Dev nD) (t : Fin (cfg0 a).N) (R : sProp 𝕄)
    (C : Vec F S48x4096 .fp8e4m3) (S : Vec F S48x32 .f32) :
    iprop(phi I c t.val ∗ R ∗ owns (c : Thread nD τ) (st0_0 a t) fullShare (I.x t) ∗ owns (c : Thread nD τ) (st0_1 a t) fullShare (I.wg t) ∗ owns (c : Thread nD τ) (st0_2 a t) fullShare (I.wu t) ∗ owns (c : Thread nD τ) (st0_3 a t) fullShare (I.sg t) ∗ owns (c : Thread nD τ) (st0_4 a t) fullShare (I.su t) ∗ owns (c : Thread nD τ) (st0_5 a t) fullShare (I.w t) ∗ owns (c : Thread nD τ) (st0_6 a t) fullShare (I.s t) ∗ owns (c : Thread nD τ) (st0_7 a t) fullShare (I.ids t) ∗ owns (c : Thread nD τ) (st0_8 a t) fullShare (I.ew t) ∗ owns (c : Thread nD τ) (st0_9 a t) fullShare C ∗ owns (c : Thread nD τ) (st0_10 a t) fullShare S)
      ⊢ wp frame (wpE (defs₀ (F := F)) Variants.none c none) Set.univ (bodyAt0 a t) (fun _ =>
        iprop(phi I c (t.val + 1) ∗ R ∗ owns (c : Thread nD τ) (st0_0 a t) fullShare (I.x t) ∗ owns (c : Thread nD τ) (st0_1 a t) fullShare (I.wg t) ∗ owns (c : Thread nD τ) (st0_2 a t) fullShare (I.wu t) ∗ owns (c : Thread nD τ) (st0_3 a t) fullShare (I.sg t) ∗ owns (c : Thread nD τ) (st0_4 a t) fullShare (I.su t) ∗ owns (c : Thread nD τ) (st0_5 a t) fullShare (I.w t) ∗ owns (c : Thread nD τ) (st0_6 a t) fullShare (I.s t) ∗ owns (c : Thread nD τ) (st0_7 a t) fullShare (I.ids t) ∗ owns (c : Thread nD τ) (st0_8 a t) fullShare (I.ew t) ∗ owns (c : Thread nD τ) (st0_9 a t) fullShare (stepC (grid0.coords t) (Adet I (t.val + 1)) C) ∗ owns (c : Thread nD τ) (st0_10 a t) fullShare (stepS (grid0.coords t) (Adet I (t.val + 1)) S))) := by
  unfold phi bodyAt0
  iintro ⟨⟨%H, %A, %hI, HH, HA, Hr, HT⟩, Ho, H0, H1, H2, H3, H4, H5, H6, H7, H8, H9, H10⟩
  have hn := inv_step I t H A hI
  have hA := hn.acc (by omega)
  iapply (body_run c Set.univ (grid0.coords t) _ _ _ _ _ _ _ _ _ _ _ _ _ _ _ _ _ _ _ _ _ _ _ _ _ _ _ _
    (I.x t) (I.wg t) (I.wu t) (I.sg t) (I.su t) H I.T (I.w t) (I.s t) (I.ids t) (I.ew t) A C S _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HH]; · iexact HH
  isplitl [HA]; · iexact HA
  rw [hA]
  iintro ⟨HT, H0, H1, H2, H3, H4, H5, H6, H7, H8, H9, H10, HH, HA⟩
  isplitl [HH HA Hr HT]
  · iexists _; iexists _; isplitr
    · ipureintro; rw [hA] at hn; exact hn
    isplitl [HH]; · iexact HH
    isplitl [HA]; · iexact HA
    isplitl [Hr]; · iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => codesV (accEnd m hO c)
    | ⟨10, _⟩ => scalesV (accEnd m hO c)
  Φ t := phi (ins m hO c) c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := rfl
theorem after0_1 (hO : Ok m) (c : Dev nD) (t : Fin (cfgM m hO).N) : (dats m hO 0 c).after 1 t = iblk m hO c 1 t := rfl
theorem after0_2 (hO : Ok m) (c : Dev nD) (t : Fin (cfgM m hO).N) : (dats m hO 0 c).after 2 t = iblk m hO c 2 t := rfl
theorem after0_3 (hO : Ok m) (c : Dev nD) (t : Fin (cfgM m hO).N) : (dats m hO 0 c).after 3 t = iblk m hO c 3 t := rfl
theorem after0_4 (hO : Ok m) (c : Dev nD) (t : Fin (cfgM m hO).N) : (dats m hO 0 c).after 4 t = iblk m hO c 4 t := rfl
theorem after0_5 (hO : Ok m) (c : Dev nD) (t : Fin (cfgM m hO).N) : (dats m hO 0 c).after 5 t = iblk m hO c 5 t := rfl
theorem after0_6 (hO : Ok m) (c : Dev nD) (t : Fin (cfgM m hO).N) : (dats m hO 0 c).after 6 t = iblk m hO c 6 t := rfl
theorem after0_7 (hO : Ok m) (c : Dev nD) (t : Fin (cfgM m hO).N) : (dats m hO 0 c).after 7 t = iblk m hO c 7 t := rfl
theorem after0_8 (hO : Ok m) (c : Dev nD) (t : Fin (cfgM m hO).N) : (dats m hO 0 c).after 8 t = iblk m hO c 8 t := rfl
theorem after0_9 (hO : Ok m) (c : Dev nD) (t : Fin (cfgM m hO).N) : (dats m hO 0 c).after 9 t = codesV (accEnd m hO c) := rfl
theorem after0_10 (hO : Ok m) (c : Dev nD) (t : Fin (cfgM m hO).N) : (dats m hO 0 c).after 10 t = scalesV (accEnd m hO c) := rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d))
    ∗ (∃ d, owns (c : Thread nD τ) (st0_6 (adm m hO) t) fullShare ((dats m hO 0 c).before 6 t d))
    ∗ (∃ d, owns (c : Thread nD τ) (st0_7 (adm m hO) t) fullShare ((dats m hO 0 c).before 7 t d))
    ∗ (∃ d, owns (c : Thread nD τ) (st0_8 (adm m hO) t) fullShare ((dats m hO 0 c).before 8 t d))
    ∗ (∃ d, owns (c : Thread nD τ) (st0_9 (adm m hO) t) fullShare ((dats m hO 0 c).before 9 t d))
    ∗ (∃ d, owns (c : Thread nD τ) (st0_10 (adm m hO) t) fullShare ((dats m hO 0 c).before 10 t d)))

/-- A result's buffer after a point: what it held, but for the last point. -/
def outPost (hO : Ok m) (c : Dev nD) (t : Fin (cfgM m hO).N) (w : Fin (cfgM m hO).W) : sProp 𝕄 :=
  match (cfgM m hO).idle w ((cfgM m hO).grid.coords t) with
  | true =>
    match ((cfgM m hO).win w).flush t with
    | false => iprop(∃ d, owns (c : Thread nD τ) (((cfgM m hO).win w).stage ((cfgM m hO).slots t w)) fullShare ((dats m hO 0 c).before w t d))
    | true => owns (c : Thread nD τ) (((cfgM m hO).win w).stage ((cfgM m hO).slots t w)) fullShare ((dats m hO 0 c).after w t)
  | false => owns (c : Thread nD τ) (((cfgM m hO).win w).stage ((cfgM m hO).slots t w)) fullShare ((dats m hO 0 c).after w t)

/-- What the body returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0_0 (adm m hO) t) fullShare ((dats m hO 0 c).after 0 t)
    ∗ owns (c : Thread nD τ) (st0_1 (adm m hO) t) fullShare ((dats m hO 0 c).after 1 t)
    ∗ owns (c : Thread nD τ) (st0_2 (adm m hO) t) fullShare ((dats m hO 0 c).after 2 t)
    ∗ owns (c : Thread nD τ) (st0_3 (adm m hO) t) fullShare ((dats m hO 0 c).after 3 t)
    ∗ owns (c : Thread nD τ) (st0_4 (adm m hO) t) fullShare ((dats m hO 0 c).after 4 t)
    ∗ owns (c : Thread nD τ) (st0_5 (adm m hO) t) fullShare ((dats m hO 0 c).after 5 t)
    ∗ owns (c : Thread nD τ) (st0_6 (adm m hO) t) fullShare ((dats m hO 0 c).after 6 t)
    ∗ owns (c : Thread nD τ) (st0_7 (adm m hO) t) fullShare ((dats m hO 0 c).after 7 t)
    ∗ owns (c : Thread nD τ) (st0_8 (adm m hO) t) fullShare ((dats m hO 0 c).after 8 t)
    ∗ outPost m hO c t 9 ∗ outPost m hO c t 10)

/-- A memref that holds contents holds their equals. -/
theorem owns_to (c : Dev nD) {sp : Space} {sh : Shape} {e : EltTy} (M : Memref sig .tc sp sh e) {X Y : sh.Idx → Elt F e} (h : X = Y) :
    (owns (c : Thread nD τ) M fullShare X : sProp 𝕄) ⊢ owns (c : Thread nD τ) M fullShare Y := by
  subst h; exact .rfl

/-- The result windows are idle at every point but the last. -/
theorem idle9 (hO : Ok m) (t : Fin (cfgM m hO).N) : (cfgM m hO).idle 9 ((cfgM m hO).grid.coords t) = !(k0_cond4 (grid0.coords t) == 1#1) := rfl
theorem idle10 (hO : Ok m) (t : Fin (cfgM m hO).N) : (cfgM m hO).idle 10 ((cfgM m hO).grid.coords t) = !(k0_cond4 (grid0.coords t) == 1#1) := rfl

theorem outPost_9 (hO : Ok m) (c : Dev nD) (t : Fin (cfgM m hO).N) (d) :
    (owns (c : Thread nD τ) (st0_9 (adm m hO) t) fullShare (stepC (grid0.coords t) (Adet (ins m hO c) (t.val + 1)) ((dats m hO 0 c).before 9 t d)) : sProp 𝕄) ⊢ outPost m hO c t 9 := by
  unfold outPost
  rw [idle9]
  by_cases h : k0_cond4 (grid0.coords t) = 1#1
  · have e : stepC (grid0.coords t) (Adet (ins m hO c) (t.val + 1)) ((dats m hO 0 c).before 9 t d) = (dats m hO 0 c).after 9 t := by
      refine (if_pos h).trans ?_
      rw [(cond4_last t).mp h]; rfl
    rw [h]
    exact owns_to c (st0_9 (adm m hO) t) e
  · have ht : t.val ≠ 62 := fun e => h ((cond4_last t).mpr e)
    have hf : ((cfgM m hO).win 9).flush t = false := by
      rw [← Bool.not_eq_true, flush0_9]
      have := t.isLt; have e : (cfgM m hO).N = 63 := N_0
      omega
    have e : stepC (grid0.coords t) (Adet (ins m hO c) (t.val + 1)) ((dats m hO 0 c).before 9 t d) = (dats m hO 0 c).before 9 t d := if_neg h
    rw [hf, show (k0_cond4 (grid0.coords t) == 1#1) = false from by simpa using h]
    show _ ⊢ iprop(∃ d, owns (c : Thread nD τ) (st0_9 (adm m hO) t) fullShare ((dats m hO 0 c).before 9 t d))
    iintro H
    iexists d
    iapply (owns_to c (st0_9 (adm m hO) t) e)
    iexact H

theorem outPost_10 (hO : Ok m) (c : Dev nD) (t : Fin (cfgM m hO).N) (d) :
    (owns (c : Thread nD τ) (st0_10 (adm m hO) t) fullShare (stepS (grid0.coords t) (Adet (ins m hO c) (t.val + 1)) ((dats m hO 0 c).before 10 t d)) : sProp 𝕄) ⊢ outPost m hO c t 10 := by
  unfold outPost
  rw [idle10]
  by_cases h : k0_cond4 (grid0.coords t) = 1#1
  · have e : stepS (grid0.coords t) (Adet (ins m hO c) (t.val + 1)) ((dats m hO 0 c).before 10 t d) = (dats m hO 0 c).after 10 t := by
      refine (if_pos h).trans ?_
      rw [(cond4_last t).mp h]; rfl
    rw [h]
    exact owns_to c (st0_10 (adm m hO) t) e
  · have ht : t.val ≠ 62 := fun e => h ((cond4_last t).mpr e)
    have hf : ((cfgM m hO).win 10).flush t = false := by
      rw [← Bool.not_eq_true, flush0_10]
      have := t.isLt; have e : (cfgM m hO).N = 63 := N_0
      omega
    have e : stepS (grid0.coords t) (Adet (ins m hO c) (t.val + 1)) ((dats m hO 0 c).before 10 t d) = (dats m hO 0 c).before 10 t d := if_neg h
    rw [hf, show (k0_cond4 (grid0.coords t) == 1#1) = false from by simpa using h]
    show _ ⊢ iprop(∃ d, owns (c : Thread nD τ) (st0_10 (adm m hO) t) fullShare ((dats m hO 0 c).before 10 t d))
    iintro H
    iexists d
    iapply (owns_to c (st0_10 (adm m hO) t) e)
    iexact H

/-- An input's buffer holds its block. -/
theorem in_of (hO : Ok m) (c : Dev nD) (t : Fin (cfgM m hO).N) (w : Fin (cfgM m hO).W) (X)
    (h : ∀ d, (dats m hO 0 c).before w t d = X) :
    (iprop(∃ d, owns (c : Thread nD τ) (((cfgM m hO).win w).stage ((cfgM m hO).slots t w)) fullShare ((dats m hO 0 c).before w t d)) : sProp 𝕄)
      ⊢ owns (c : Thread nD τ) (((cfgM m hO).win w).stage ((cfgM m hO).slots t w)) fullShare X := by
  iintro ⟨%d, H⟩
  rw [h d]
  iexact H

/-- What the body leaves is what the pipeline asks of it. -/
theorem body_post (hO : Ok m) (c : Dev nD) (t : Fin (cfgM m hO).N) (d9) (d10) (_ : PUnit) :
    (iprop(phi (ins m hO c) c (t.val + 1) ∗ (dats m hO 0 c).owesAt () t.castSucc ∗ owns (c : Thread nD τ) (st0_0 (adm m hO) t) fullShare ((ins m hO c).x t) ∗ owns (c : Thread nD τ) (st0_1 (adm m hO) t) fullShare ((ins m hO c).wg t) ∗ owns (c : Thread nD τ) (st0_2 (adm m hO) t) fullShare ((ins m hO c).wu t) ∗ owns (c : Thread nD τ) (st0_3 (adm m hO) t) fullShare ((ins m hO c).sg t) ∗ owns (c : Thread nD τ) (st0_4 (adm m hO) t) fullShare ((ins m hO c).su t) ∗ owns (c : Thread nD τ) (st0_5 (adm m hO) t) fullShare ((ins m hO c).w t) ∗ owns (c : Thread nD τ) (st0_6 (adm m hO) t) fullShare ((ins m hO c).s t) ∗ owns (c : Thread nD τ) (st0_7 (adm m hO) t) fullShare ((ins m hO c).ids t) ∗ owns (c : Thread nD τ) (st0_8 (adm m hO) t) fullShare ((ins m hO c).ew t)
      ∗ owns (c : Thread nD τ) (st0_9 (adm m hO) t) fullShare (stepC (grid0.coords t) (Adet (ins m hO c) (t.val + 1)) ((dats m hO 0 c).before 9 t d9))
      ∗ owns (c : Thread nD τ) (st0_10 (adm m hO) t) fullShare (stepS (grid0.coords t) (Adet (ins m hO c) (t.val + 1)) ((dats m hO 0 c).before 10 t d10))) : sProp 𝕄)
      ⊢ bodyPost m hO c t := by
  unfold bodyPost
  rw [show (dats m hO 0 c).Φ t.succ = phi (ins m hO c) c (t.val + 1) from rfl]
  iintro ⟨HP, Ho, H0, H1, H2, H3, H4, H5, H6, H7, H8, H9, H10⟩
  isplitl [HP]; · iexact HP
  isplitl [Ho]; · iexact Ho
  isplitl [H0]; · iapply (owns_to c (st0_0 (adm m hO) t) (after0_0 m hO c t).symm); iexact H0
  isplitl [H1]; · iapply (owns_to c (st0_1 (adm m hO) t) (after0_1 m hO c t).symm); iexact H1
  isplitl [H2]; · iapply (owns_to c (st0_2 (adm m hO) t) (after0_2 m hO c t).symm); iexact H2
  isplitl [H3]; · iapply (owns_to c (st0_3 (adm m hO) t) (after0_3 m hO c t).symm); iexact H3
  isplitl [H4]; · iapply (owns_to c (st0_4 (adm m hO) t) (after0_4 m hO c t).symm); iexact H4
  isplitl [H5]; · iapply (owns_to c (st0_5 (adm m hO) t) (after0_5 m hO c t).symm); iexact H5
  isplitl [H6]; · iapply (owns_to c (st0_6 (adm m hO) t) (after0_6 m hO c t).symm); iexact H6
  isplitl [H7]; · iapply (owns_to c (st0_7 (adm m hO) t) (after0_7 m hO c t).symm); iexact H7
  isplitl [H8]; · iapply (owns_to c (st0_8 (adm m hO) t) (after0_8 m hO c t).symm); iexact H8
  isplitl [H9]; · iapply (outPost_9 m hO c t d9); iexact H9
  iapply (outPost_10 m hO c t d10); iexact H10

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  rw [show (dats m hO 0 c).Φ t.castSucc = phi (ins m hO c) c t.val from rfl]
  iintro ⟨HP, Ho, H0, H1, H2, H3, H4, H5, H6, H7, H8, ⟨%d9, H9⟩, ⟨%d10, H10⟩⟩
  iapply (wp_mono frame (wpE (defs₀ (F := F)) Variants.none c none) Set.univ (body_post m hO c t d9 d10))
  iapply (body_mid (adm m hO) (ins m hO c) c t ((dats m hO 0 c).owesAt () t.castSucc) ((dats m hO 0 c).before 9 t d9) ((dats m hO 0 c).before 10 t d10))
  isplitl [HP]; · iexact HP
  isplitl [Ho]; · iexact Ho
  isplitl [H0]; · iapply (in_of m hO c t 0 _ (before0_0 m hO c t)); iexact H0
  isplitl [H1]; · iapply (in_of m hO c t 1 _ (before0_1 m hO c t)); iexact H1
  isplitl [H2]; · iapply (in_of m hO c t 2 _ (before0_2 m hO c t)); iexact H2
  isplitl [H3]; · iapply (in_of m hO c t 3 _ (before0_3 m hO c t)); iexact H3
  isplitl [H4]; · iapply (in_of m hO c t 4 _ (before0_4 m hO c t)); iexact H4
  isplitl [H5]; · iapply (in_of m hO c t 5 _ (before0_5 m hO c t)); iexact H5
  isplitl [H6]; · iapply (in_of m hO c t 6 _ (before0_6 m hO c t)); iexact H6
  isplitl [H7]; · iapply (in_of m hO c t 7 _ (before0_7 m hO c t)); iexact H7
  isplitl [H8]; · iapply (in_of m hO c t 8 _ (before0_8 m hO c t)); iexact H8
  isplitl [H9]; · iexact H9
  iexact H10

/-- The body table's row at point `t`'s slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row]
  exact triple_restated (sound_body m hO c t) rfl .rfl fun _ => .rfl

end Cert.Kernel.Body
end
-- ==== Proof.KernelFrame.lean ====
/-
  The launch of `Kernel`: from any memory every execution terminates, the argument arrays end unchanged, every
  semaphore is back at zero, and the two results are the codes and the scales of the accumulator after the last point.
-/
module

public import proofs.«01_k».proof.Proof.KernelRun
public import Idealize.ShloMosaic.Lib.Pipeline.ValueKit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the first point. -/
theorem phi_in (hO : Ok m) (c : Dev nD) :
    (iprop(Pipeline.ΦA spec0 c ∗ Pipeline.ΦT pre0 (tbl m) c) : sProp 𝕄) ⊢ phi (ins m hO c) c 0 := by
  unfold Pipeline.ΦA phi
  rw [scopedRest0_eq, PhiT0_eq]
  simp only [owns_whole]
  iintro ⟨⟨⟨⟨%H, HH⟩, ⟨%A, HA⟩⟩, Hr⟩, HT⟩
  iexists H; iexists A
  isplitr
  · ipureintro; exact inv_zero _ _ _
  isplitl [HH]; · iexact HH
  isplitl [HA]; · iexact HA
  isplitl [Hr]; · iexact Hr
  iexact HT

/-- What the last point hands back. -/
theorem phi_out (hO : Ok m) (c : Dev nD) (t : ℕ) : (phi (ins m hO c) c t : sProp 𝕄) ⊢ Pipeline.ΦA spec0 c := by
  unfold Pipeline.ΦA phi
  rw [scopedRest0_eq]
  simp only [owns_whole]
  iintro ⟨%H, %A, %hI, HH, HA, Hr, HT⟩
  isplitl [HH HA]
  · isplitl [HH]
    · iexists H; iexact HH
    · iexists A; iexact HA
  iexact Hr

set_option backward.isDefEq.respectTransparency.types false in
set_option maxHeartbeats 800000 in
/-- The launch. -/
theorem run (hO : Ok m) : θ_run defs (onTc (τ := τ) (main (F := F))) (s₀ m ρ) (fun r =>
    (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl) (howed := fun _ _ => rfl) (V := V m)
    (hmain := hmain m Variants.none) (hA := A_eq m hO) (hpf := V_pre m) (hin := phi_in m hO) (hout := fun c => phi_out m hO c _)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (ok m) (dats m (ok m)) (A_eq m (ok m)) ((θ_run defs _ _).mono (fun _ h => h.1) (run m ρ (ok m))))
    ((θ_run defs _ _).mono (fun _ h => h.2) (run m ρ (ok m)))

/-- The last point. -/
def tEnd : Fin grid0.N := ⟨62, by rw [N_0]; omega⟩

/-- The codes are written back whole, once. -/
theorem whole9 (hO : Ok m) : ((cfgM m hO).win 9).WholeAt tEnd := by
  refine ⟨(flush0_9 (adm m hO) tEnd).mpr rfl, fun t h => ?_, fun a => ?_⟩
  · have h1 := (flush0_9 (adm m hO) t).mp h
    have h2 : t.val < 63 := lt_of_lt_of_eq t.isLt N_0
    exact Fin.ext (by show t.val = 62; omega)
  · match a with
    | ⟨0, _⟩ => exact ⟨rfl, rfl⟩
    | ⟨1, _⟩ => exact ⟨rfl, rfl⟩
/-- The scales are written back whole, once. -/
theorem whole10 (hO : Ok m) : ((cfgM m hO).win 10).WholeAt tEnd := by
  refine ⟨(flush0_10 (adm m hO) tEnd).mpr rfl, fun t h => ?_, fun a => ?_⟩
  · have h1 := (flush0_10 (adm m hO) t).mp h
    have h2 : t.val < 63 := lt_of_lt_of_eq t.isLt N_0
    exact Fin.ext (by show t.val = 62; omega)
  · match a with
    | ⟨0, _⟩ => exact ⟨rfl, rfl⟩
    | ⟨1, _⟩ => exact ⟨rfl, rfl⟩

theorem arr9 (hO : Ok m) (c : Dev nD) : (dats m hO 0 c).arrAt 9 (cfgM m hO).N = codesV (accEnd m hO c) :=
  (dats m hO 0 c).arrAt_eq_of_after_last 9 tEnd (whole9 m hO) _ fun j => rfl
theorem arr10 (hO : Ok m) (c : Dev nD) : (dats m hO 0 c).arrAt 10 (cfgM m hO).N = scalesV (accEnd m hO c) :=
  (dats m hO 0 c).arrAt_eq_of_after_last 10 tEnd (whole10 m hO) _ fun j => rfl

/-- The results: the codes and the scales of the accumulator after the last point. -/
theorem results : θ_run defs (onTc (τ := τ) (main (F := F))) ⟨m, fun _ => 0, ρ⟩ (fun r => ∀ c : Dev nD,
      r.2.mem ((c.tc : Thread nD τ).loc main_v27_0) = codesV (accEnd m (ok m) c)
      ∧ r.2.mem ((c.tc : Thread nD τ).loc main_v27_1) = scalesV (accEnd m (ok m) c)) :=
  (θ_run defs _ _).mono (fun _ h c => ⟨((h.1 c).1 9).trans (arr9 m (ok m) c), ((h.1 c).1 10).trans (arr10 m (ok m) c)⟩) (run m ρ (ok m))

end Cert.Kernel.Body
end
-- ==== Proof.KernelIdealBlocks.lean ====
/-
  The kernel body cut at its four `scf.if`s: the zeroing of the accumulator (`zeroB`), the first matrix product's
  columns (`fillB`), the second product's (`accB`) and the quantiser (`quantB`), each as the printed skeleton has it,
  and the body as their sequence (`body_eq`).
-/
module

public import proofs.«01_k».proof.Proof.Gen.KernelIdeal.Skeleton

@[expose] public section

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

set_option maxHeartbeats 4000000 in
/-- The accumulator is zeroed at the first point. -/
def zeroB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) :
    Prog (TpuEff nD τ sig (Elt F) Λ₀ .tc) PUnit := do
  let arg0 : BitVec 32 := BitVec.ofNat 32 (i 0).val
  let arg1 : BitVec 32 := BitVec.ofNat 32 (i 1).val
  let v2 : BitVec 1 := Scalar.cmpi .eq arg0 0#32
  let v3 : BitVec 1 := Scalar.cmpi .eq arg1 0#32
  let v4 : BitVec 1 := Scalar.andi v2 v3
  let v5 : BitVec 32 := Scalar.extui v4
  let v6 : BitVec 1 := Scalar.cmpi .ne v5 0#32
  if k0_h1 : v6 = 1#1 then do
    let v21 : Vec F S48x4096 .f32 ← Prog.lift (.load arg15 (Rect.unit (s := S48x4096) ![0, 0] S48x4096.size inb_S48x4096_S48x4096_0_0).toLoadRect (View.loadsAt_vmem h_S48x4096))
    Prog.lift (.store arg15 (Rect.unit (s := S48x4096) ![0, 0] S48x4096.size inb_S48x4096_S48x4096_0_0) (k0_pay1 (F := F)) Finset.univ (View.stores_vmem_bits_univ h_S48x4096 rfl) (.inl rfl))
    pure ⟨⟩
  else do
    pure ⟨⟩

set_option maxHeartbeats 4000000 in
/-- A live point of the first five columns: five chunks of `h` columns are stored. -/
def fillB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h2 : k0_cond2 i v0 = 1#1 then do
    let ⟨v21, v47, v51, v52, v56⟩ : Σ' (v21 : FVec F S48x4096 .bf16) (v47 : FVec F S48x256 .f32) (v51 : FVec F S32x256 .bf16) (v52 : IVec S2048x256 32), IVec S2048x256 32 ← k0_part1 i arg2 harg2 arg3 harg3 arg4 harg4 arg5 harg5 arg6 harg6 arg7 harg7 arg8 harg8 arg9 harg9 arg10 harg10 arg11 harg11 arg12 harg12 arg13 harg13 arg14 harg14 arg15 harg15
    let ⟨v88, v95, v97⟩ : Σ' (v88 : FVec F S32x256 .bf16) (v95 : IVec S2048x256 32), IVec S2048x256 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v47 v51 v52 v56
    let ⟨v140, c1280_i32_55⟩ : Σ' (v140 : FVec F S48x256 .bf16), BitVec 32 ← k0_part3 i arg2 harg2 arg3 harg3 arg4 harg4 arg5 harg5 arg6 harg6 arg7 harg7 arg8 harg8 arg9 harg9 arg10 harg10 arg11 harg11 arg12 harg12 arg13 harg13 arg14 harg14 arg15 harg15 v21 v88 v95 v97
    let ⟨v173, v177, v178⟩ : Σ' (v173 : FVec F S48x256 .f32) (v177 : FVec F S32x256 .bf16), IVec S2048x256 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v140 c1280_i32_55
    let ⟨v214, v215, v219⟩ : Σ' (v214 : FVec F S32x256 .bf16) (v215 : IVec S2048x256 32), IVec S2048x256 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v173 v177 v178
    let ⟨v236, v261, cst_108⟩ : Σ' (v236 : FVec F S48x256 .f32) (v261 : FVec F S4096x256 .bf16), FVec F S48x256 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 v21 v214 v215 v219
    let ⟨v299, v301⟩ : Σ' (v299 : FVec F S48x256 .f32), IVec S2048x256 8 ← k0_part7 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h2 v21 v236 v261 cst_108
    let v302 : Vec F S1x32x256 .bf16 ← Prog.lift (.load arg7 (Rect.unit (s := S1x32x1280) ![0, 0, 1024] S1x32x256.size inb_S1x32x1280_S1x32x256_0_0_1024).toLoadRect (View.loadsAt_vmem h_S1x32x256))
    let v334 : Vec F S48x256 .bf16 ← Prog.lift (.load arg14 (Rect.unit (s := S48x6400) (k0_off3 i 1024#32) S48x256.size (k0_off3_inb i v0 k0_hw1 k0_h2 4)).toLoadRect (View.loadsAt_vmem h_S48x256))
    Prog.lift (.store arg14 (Rect.unit (s := S48x6400) (k0_off3 i 1024#32) S48x256.size (k0_off3_inb i v0 k0_hw1 k0_h2 4)) (k0_pay2 v21 v299 v301 v302) Finset.univ (View.stores_vmem h_S48x256 (harg14.storeExact_slice rfl _ (k0_off3_packedbf16 i v0 k0_hw1 k0_h2 4)) (fun _ => rfl)) (.inl rfl))
    pure ⟨⟩
  else do
    pure ⟨⟩

set_option maxHeartbeats 4000000 in
/-- A live point of the last four columns: four chunks of output columns are added into the accumulator. -/
def accB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) (v0 : Elt F .i32) (k0_hw1 : k0_chk1 i v0) :
    Prog (TpuEff nD τ sig (Elt F) Λ₀ .tc) PUnit := do
  let arg0 : BitVec 32 := BitVec.ofNat 32 (i 0).val
  let arg1 : BitVec 32 := BitVec.ofNat 32 (i 1).val
  if k0_h3 : k0_cond3 i v0 = 1#1 then do
    let ⟨v31, v38, v39, v43, v50, v54, v55⟩ : Σ' (v31 : FVec F S48x1 .f32) (v38 : IVec S48x1 1) (v39 : Vec F S48x6400 .bf16) (v43 : FVec F S50x256 .bf16) (v50 : IVec S3200x256 32) (v54 : IVec S3200x256 32), IVec S3200x256 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg0
    let ⟨v86, v93, v95, v96⟩ : Σ' (v86 : FVec F S50x256 .bf16) (v93 : IVec S3200x256 32) (v95 : IVec S3200x256 32), IVec S3200x256 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h3 v31 v38 v39 v43 v50 v54 v55
    let ⟨v129, v130, v136, v137⟩ : Σ' (v129 : FVec F S50x256 .bf16) (v130 : IVec S3200x256 32) (v136 : IVec S3200x256 32), IVec S3200x256 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h3 v31 v38 v39 v86 v93 v95 v96
    let ⟨v172, v173, v177, v178⟩ : Σ' (v172 : FVec F S50x256 .bf16) (v173 : IVec S3200x256 32) (v177 : IVec S3200x256 32), IVec S3200x256 32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg1 v0 k0_hw1 k0_h3 v31 v38 v39 v129 v130 v136 v137
    let v200 : Vec F S48x256 .f32 ← Prog.lift (.load arg15 (Rect.unit (s := S48x4096) (k0_off5 i 768#32) S48x256.size (k0_off5_inb i v0 k0_hw1 k0_h3 3)).toLoadRect (View.loadsAt_vmem h_S48x256))
    let v209 : Vec F S48x256 .f32 ← Prog.lift (.load arg15 (Rect.unit (s := S48x4096) (k0_off5 i 768#32) S48x256.size (k0_off5_inb i v0 k0_hw1 k0_h3 3)).toLoadRect (View.loadsAt_vmem h_S48x256))
    Prog.lift (.store arg15 (Rect.unit (s := S48x4096) (k0_off5 i 768#32) S48x256.size (k0_off5_inb i v0 k0_hw1 k0_h3 3)) (k0_pay3 v31 v38 v39 v172 v173 v177 v178 v200) Finset.univ (View.stores_vmem_bits_univ h_S48x256 rfl) (.inl rfl))
    pure ⟨⟩
  else do
    pure ⟨⟩

set_option maxHeartbeats 4000000 in
/-- The last point: the 32 column blocks of the accumulator are quantised. -/
def quantB (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) :
    Prog (TpuEff nD τ sig (Elt F) Λ₀ .tc) PUnit := do
  let arg0 : BitVec 32 := BitVec.ofNat 32 (i 0).val
  let arg1 : BitVec 32 := BitVec.ofNat 32 (i 1).val
  if k0_h4 : k0_cond4 i = 1#1 then do
    let v1509 : FVec F S48x1 .f32 ← k0_part50 i arg2 harg2 arg3 harg3 arg4 harg4 arg5 harg5 arg6 harg6 arg7 harg7 arg8 harg8 arg9 harg9 arg10 harg10 arg11 harg11 arg12 harg12 arg13 harg13 arg14 harg14 arg15 harg15
    let v1523 : Vec F S48x1 .f32 ← Prog.lift (.load arg13 (Rect.unit (s := S48x32) ![0, 31] S48x1.size inb_S48x32_S48x1_0_31).toLoadRect (View.loadsAt_vmem h_S48x1))
    Prog.lift (.store arg13 (Rect.unit (s := S48x32) ![0, 31] S48x1.size inb_S48x32_S48x1_0_31) v1509 Finset.univ (View.stores_vmem_bits_univ h_S48x1 rfl) (.inl rfl))
    pure ⟨⟩
  else do
    pure ⟨⟩

/-- The body as the sequence of its blocks. -/
def blocks (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole) :
    Prog (TpuEff nD τ sig (Elt F) Λ₀ .tc) PUnit := do
  let v0 : Elt F .i32 ← smemLoad arg2 (Rect.unit (s := S8) ![7] S1.size inb_S8_S1_7) numel1_S1 rfl
  have k0_hw1 : k0_chk1 i v0 := (← Prog.lift (TpuEff.assume (k0_chk1 i v0) (k0_chk1.dec i v0))).down
  zeroB i arg2 harg2 arg3 harg3 arg4 harg4 arg5 harg5 arg6 harg6 arg7 harg7 arg8 harg8 arg9 harg9 arg10 harg10 arg11 harg11 arg12 harg12 arg13 harg13 arg14 harg14 arg15 harg15
  fillB i arg2 harg2 arg3 harg3 arg4 harg4 arg5 harg5 arg6 harg6 arg7 harg7 arg8 harg8 arg9 harg9 arg10 harg10 arg11 harg11 arg12 harg12 arg13 harg13 arg14 harg14 arg15 harg15 v0 k0_hw1
  accB i arg2 harg2 arg3 harg3 arg4 harg4 arg5 harg5 arg6 harg6 arg7 harg7 arg8 harg8 arg9 harg9 arg10 harg10 arg11 harg11 arg12 harg12 arg13 harg13 arg14 harg14 arg15 harg15 v0 k0_hw1
  quantB i arg2 harg2 arg3 harg3 arg4 harg4 arg5 harg5 arg6 harg6 arg7 harg7 arg8 harg8 arg9 harg9 arg10 harg10 arg11 harg11 arg12 harg12 arg13 harg13 arg14 harg14 arg15 harg15

set_option maxHeartbeats 4000000 in
/-- The printed body is the sequence of its blocks. -/
theorem body_eq : cc0_moe_int4 (F := F) = blocks (F := F) := by
  rw [cc0_moe_int4_eq_skeleton]
  funext i arg2 harg2 arg3 harg3 arg4 harg4 arg5 harg5 arg6 harg6 arg7 harg7 arg8 harg8 arg9 harg9 arg10 harg10 arg11 harg11 arg12 harg12 arg13 harg13 arg14 harg14 arg15 harg15
  unfold cc0_moe_int4_skel blocks zeroB fillB accB quantB
  dsimp only
  congr 1; funext v0
  congr 1; funext hw
  split <;> split <;> split <;> split <;> simp only [bind_assoc, pure_bind, bind_pure]

end Cert.KernelIdeal.Body

end
-- ==== Proof.KernelIdealPoints.lean ====
/-
  The schedule of the pipeline of `KernelIdeal`: at which grid points each window is fetched or written back, the staging
  buffer each window is on at a point, and the kernel body as the pipeline calls it there.
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%26)) is fetched at the first point only, at any contents of the tables (its index map reads none). -/
theorem fetch0_0 (a : (pcfg0 (F := F)).Adm) : ∀ t : Fin (cfg0 a).N, ((cfg0 a).win 0).fetch t = true ↔ t.val % 63 = 0 :=
  (fun t => Pipeline.Window.fetchOf_const cc0_transform_0 (fun _ _ => rfl) (n := 63) (by decide) t : ∀ t : Fin grid0.N, Pipeline.Window.fetchOf grid0 false cc0_transform_0 t = true ↔ t.val % 63 = 0)
/-- Window 7 (operand 8 (%0)) is fetched at the first point only, at any contents of the tables (its index map reads none). -/
theorem fetch0_7 (a : (pcfg0 (F := F)).Adm) : ∀ t : Fin (cfg0 a).N, ((cfg0 a).win 7).fetch t = true ↔ t.val % 63 = 0 :=
  (fun t => Pipeline.Window.fetchOf_const cc0_transform_7 (fun _ _ => rfl) (n := 63) (by decide) t : ∀ t : Fin grid0.N, Pipeline.Window.fetchOf grid0 false cc0_transform_7 t = true ↔ t.val % 63 = 0)
/-- Window 8 (operand 9 (%1)) is fetched at the first point only, at any contents of the tables (its index map reads none). -/
theorem fetch0_8 (a : (pcfg0 (F := F)).Adm) : ∀ t : Fin (cfg0 a).N, ((cfg0 a).win 8).fetch t = true ↔ t.val % 63 = 0 :=
  (fun t => Pipeline.Window.fetchOf_const cc0_transform_8 (fun _ _ => rfl) (n := 63) (by decide) t : ∀ t : Fin grid0.N, Pipeline.Window.fetchOf grid0 false cc0_transform_8 t = true ↔ t.val % 63 = 0)
/-- Window 9 (result 0 (%27#0)) is written back at the last point only, at any contents of the tables (its index map reads none). -/
theorem flush0_9 (a : (pcfg0 (F := F)).Adm) : ∀ t : Fin (cfg0 a).N, ((cfg0 a).win 9).flush t = true ↔ t.val % 63 = 62 :=
  (fun t => Pipeline.Window.flushOf_const cc0_transform_9 (fun _ _ => rfl) (n := 63) (by decide) rfl t : ∀ t : Fin grid0.N, Pipeline.Window.flushOf grid0 true cc0_transform_9 t = true ↔ t.val % 63 = 62)
/-- Window 10 (result 1 (%27#1)) is written back at the last point only, at any contents of the tables (its index map reads none). -/
theorem flush0_10 (a : (pcfg0 (F := F)).Adm) : ∀ t : Fin (cfg0 a).N, ((cfg0 a).win 10).flush t = true ↔ t.val % 63 = 62 :=
  (fun t => Pipeline.Window.flushOf_const cc0_transform_10 (fun _ _ => rfl) (n := 63) (by decide) rfl t : ∀ t : Fin grid0.N, Pipeline.Window.flushOf grid0 true cc0_transform_10 t = true ↔ t.val % 63 = 62)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_int4 (grid0.coords t) (Memref.whole main_v25) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _)

end Cert.KernelIdeal.Gen

end
-- ==== Proof.KernelIdealKit.lean ====
/-
  The frame kit of `KernelIdeal`: @main up to its pallas_call, the arrays' contents there (`V`), the prefetched table,
  each window's block at a point (`iblk`), and the frame claim from any proof data's run (`frame_of`).
-/
module

public import proofs.«01_k».proof.Proof.Gen.KernelIdeal.Launch
public import proofs.«01_k».proof.Proof.KernelIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_v25
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

end Cert.KernelIdeal.Gen

end
-- ==== Proof.KernelIdealFill.lean ====
/-
  The first matrix product's block (`fillB`): what it leaves in the scratch of `h` columns, as a function of the blocks
  it reads, and its triple.
-/
module

public import proofs.«01_k».proof.Proof.KernelIdealBlocks
public import proofs.«01_k».proof.Proof.KernelIdealKit
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One chunk of 256 `h` columns: the gate's and the up projection's product with the activations, `silu(gate)·up`. -/
def hchunk (x : Vec F S48x4096 .bf16) (wg wu : Vec F S1x2048x256 .i8) (sg su : Vec F S1x32x256 .bf16) : Vec F S48x256 .bf16 :=
  k0_pay9 (k0_pay4 x) (k0_pay5 x wg sg) (k0_pay6 su) (k0_pay7 wu) (k0_pay8 wu)

/-- A whole [48, 4096] block, as a load at zero offsets reads it. -/
abbrev ldX {e : EltTy} (x : Vec F S48x4096 e) : Vec F S48x4096 e := View.ld x (Rect.unit (s := S48x4096) ![0, 0] S48x4096.size inb_S48x4096_S48x4096_0_0)

/-- A store over earlier ones, the contents, the offsets and the payload each replaced by an equal. -/
theorem put_step {sig : RefSig} {κ : Kind} {sp : Space} {s : Shape} {e : EltTy} {Val : EltTy → Type} (v : View sig κ sp s e)
    (f : v.ty.Contents Val) {off off' size : Fin s.rank → ℕ} (inb : ∀ a, off a + size a ≤ s.size a)
    (w w' : (Rect.unit off size inb).shape.Idx → Val e) (L : List (View.Piece Val s e)) (x : s.Idx → Val e)
    (h : off = off') (hw : w = w') (hx : v.read Val (v.writes Val f L) = x) :
    v.read Val (v.writes Val f (⟨Rect.unit off size inb, w⟩ :: L)) = VecWindow.put x off' size w' := by
  rw [View.read_writes_cons_put v f inb w L h, hx, hw]

/-- 256 columns of a weight block, from column `k`. -/
abbrev colW (w : Vec F S1x2048x1280 .i8) (k : ℕ) (h : ∀ a, ![0, 0, k] a + S1x2048x256.size a ≤ S1x2048x1280.size a) :
    Vec F S1x2048x256 .i8 := View.ld w (Rect.unit (s := S1x2048x1280) ![0, 0, k] S1x2048x256.size h)

/-- 256 columns of a scale block, from column `k`. -/
abbrev colS (s : Vec F S1x32x1280 .bf16) (k : ℕ) (h : ∀ a, ![0, 0, k] a + S1x32x256.size a ≤ S1x32x1280.size a) :
    Vec F S1x32x256 .bf16 := View.ld s (Rect.unit (s := S1x32x1280) ![0, 0, k] S1x32x256.size h)

/-- The `h` scratch after a live point of the first product. -/
def fillV (i : grid0.Coords) (x : Vec F S48x4096 .bf16) (wg wu : Vec F S1x2048x1280 .i8) (sg su : Vec F S1x32x1280 .bf16)
    (H : Vec F S48x6400 .bf16) : Vec F S48x6400 .bf16 :=
  VecWindow.put (VecWindow.put (VecWindow.put (VecWindow.put (VecWindow.put (H) (k0_off3 i 0#32) S48x256.size
    (hchunk (ldX x) (colW wg 0 inb_S1x2048x1280_S1x2048x256_0_0_0) (colW wu 0 inb_S1x2048x1280_S1x2048x256_0_0_0)
      (colS sg 0 inb_S1x32x1280_S1x32x256_0_0_0) (colS su 0 inb_S1x32x1280_S1x32x256_0_0_0))) (k0_off3 i 256#32) S48x256.size
    (hchunk (ldX x) (colW wg 256 inb_S1x2048x1280_S1x2048x256_0_0_256) (colW wu 256 inb_S1x2048x1280_S1x2048x256_0_0_256)
      (colS sg 256 inb_S1x32x1280_S1x32x256_0_0_256) (colS su 256 inb_S1x32x1280_S1x32x256_0_0_256))) (k0_off3 i 512#32) S48x256.size
    (hchunk (ldX x) (colW wg 512 inb_S1x2048x1280_S1x2048x256_0_0_512) (colW wu 512 inb_S1x2048x1280_S1x2048x256_0_0_512)
      (colS sg 512 inb_S1x32x1280_S1x32x256_0_0_512) (colS su 512 inb_S1x32x1280_S1x32x256_0_0_512))) (k0_off3 i 768#32) S48x256.size
    (hchunk (ldX x) (colW wg 768 inb_S1x2048x1280_S1x2048x256_0_0_768) (colW wu 768 inb_S1x2048x1280_S1x2048x256_0_0_768)
      (colS sg 768 inb_S1x32x1280_S1x32x256_0_0_768) (colS su 768 inb_S1x32x1280_S1x32x256_0_0_768))) (k0_off3 i 1024#32) S48x256.size
    (hchunk (ldX x) (colW wg 1024 inb_S1x2048x1280_S1x2048x256_0_0_1024) (colW wu 1024 inb_S1x2048x1280_S1x2048x256_0_0_1024)
      (colS sg 1024 inb_S1x32x1280_S1x32x256_0_0_1024) (colS su 1024 inb_S1x32x1280_S1x32x256_0_0_1024))

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 4000000 in
/-- The block's triple at a live point. -/
theorem fill_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h2 : k0_cond2 i v0 = 1#1)
    (x : Vec F S48x4096 .bf16) (wg wu : Vec F S1x2048x1280 .i8) (sg su : Vec F S1x32x1280 .bf16) (H : Vec F S48x6400 .bf16)
    (K : PUnit → sProp 𝕄) :
    iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare H
        ∗ (iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare (fillV i x wg wu sg su H)) -∗ K ⟨⟩))
      ⊢ wp frame (wpE (defs₀ (F := F)) Variants.none c none) E (fillB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  unfold fillB
  unfold owns
  iintro ⟨⟨%f3, %hf3, H3⟩, ⟨%f4, %hf4, H4⟩, ⟨%f5, %hf5, H5⟩, ⟨%f6, %hf6, H6⟩, ⟨%f7, %hf7, H7⟩, ⟨%f14, %hf14, H14⟩, Hk⟩
  subst hf3 hf4 hf5 hf6 hf7 hf14
  sl_exec_parts
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H14
  ipureintro
  sl_unfold_words
  unfold fillV
  exact put_step _ _ _ _ _ _ _ rfl rfl (put_step _ _ _ _ _ _ _ rfl rfl (put_step _ _ _ _ _ _ _ rfl rfl
    (put_step _ _ _ _ _ _ _ rfl rfl (put_step _ _ _ _ _ _ _ rfl rfl rfl))))

/-- The block does nothing elsewhere. -/
theorem fill_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h2 : ¬ k0_cond2 i v0 = 1#1) (K : PUnit → sProp 𝕄) :
    K ⟨⟩ ⊢ wp frame (wpE (defs₀ (F := F)) Variants.none c none) E (fillB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  unfold fillB
  iintro Hk
  sl_exec_parts
  sl_step
  iexact Hk

end Cert.KernelIdeal.Body
end
-- ==== Proof.KernelIdealAcc.lean ====
/-
  The second matrix product's block (`accB`): what it leaves in the accumulator, as a function of the blocks it reads, and
  its triple.
-/
module

public import proofs.«01_k».proof.Proof.KernelIdealFill
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One chunk of 256 output columns: the accumulator plus the tokens' weights times the `h` columns' product with the
    dequantised weights, on the tokens that chose the expert `e`. -/
def achunk (e : Elt F .i32) (ids : Vec F S48x2 .i32) (ew : Vec F S48x2 .f32) (h : Vec F S48x6400 .bf16)
    (w : Vec F S1x3200x256 .i8) (s : Vec F S1x50x256 .bf16) (a : Vec F S48x256 .f32) : Vec F S48x256 .f32 :=
  k0_pay36 (k0_pay29 e ids ew) (k0_pay30 e ids) h (k0_pay31 s) (k0_pay33 w) (k0_pay34 w) k0_pay35 a

/-- 256 columns of a block of the second weights, from column `k`. -/
abbrev colW2 (w : Vec F S1x3200x1024 .i8) (k : ℕ) (h : ∀ a, ![0, 0, k] a + S1x3200x256.size a ≤ S1x3200x1024.size a) :
    Vec F S1x3200x256 .i8 := View.ld w (Rect.unit (s := S1x3200x1024) ![0, 0, k] S1x3200x256.size h)

/-- 256 columns of a block of the second scales, from column `k`. -/
abbrev colS2 (s : Vec F S1x50x1024 .bf16) (k : ℕ) (h : ∀ a, ![0, 0, k] a + S1x50x256.size a ≤ S1x50x1024.size a) :
    Vec F S1x50x256 .bf16 := View.ld s (Rect.unit (s := S1x50x1024) ![0, 0, k] S1x50x256.size h)

/-- The table's word at offsets `off`. -/
abbrev tword (T : Vec F S8 .i32) (off : Fin 1 → ℕ) (inb : ∀ a, off a + S1.size a ≤ S8.size a) : Elt F .i32 :=
  View.ld T (Rect.unit (s := S8) off S1.size inb) (Shape.Idx.first (numel1_S1.symm ▸ Nat.one_pos))

abbrev ldI (x : Vec F S48x2 .i32) : Vec F S48x2 .i32 := View.ld x (Rect.unit (s := S48x2) ![0, 0] S48x2.size inb_S48x2_S48x2_0_0)
abbrev ldE (x : Vec F S48x2 .f32) : Vec F S48x2 .f32 := View.ld x (Rect.unit (s := S48x2) ![0, 0] S48x2.size inb_S48x2_S48x2_0_0)
abbrev ldH (x : Vec F S48x6400 .bf16) : Vec F S48x6400 .bf16 :=
  View.ld x (Rect.unit (s := S48x6400) ![0, 0] S48x6400.size inb_S48x6400_S48x6400_0_0)

/-- A live point of the second product lies in the last four columns. -/
theorem cond3_col (i : grid0.Coords) (v0 : BitVec 32) (h3 : k0_cond3 i v0 = 1#1) : 5 ≤ (i 1).val := by
  by_contra hlt
  have key : ∀ (p : BitVec 1) (n : Fin 5), ¬ Scalar.cmpi .ne (Scalar.extui (Scalar.andi p (Scalar.cmpi .sge (BitVec.ofNat 32 n.val) 5#32)) : BitVec 32) 0#32 = 1#1 := by
    decide
  exact key _ ⟨(i 1).val, by omega⟩ h3

/-- The columns a live point adds into, from chunk offset `k`. -/
theorem off5_eq (i : grid0.Coords) (h : 5 ≤ (i 1).val) (k : Fin 4) :
    k0_off5 i (BitVec.ofNat 32 (256 * k.val)) = ![0, 1024 * ((i 1).val - 5) + 256 * k.val] := by
  have key : ∀ (k : Fin 4) (n : Fin 9), 5 ≤ n.val →
      (Scalar.indexCast (Scalar.addi (Scalar.muli (Scalar.subi (BitVec.ofNat 32 n.val) 5#32) 1024#32) (BitVec.ofNat 32 (256 * k.val))) : Index).toNat
        = 1024 * (n.val - 5) + 256 * k.val := by decide
  show ![0, _] = _
  exact congrArg (fun z : ℕ => ![0, z]) (key k ⟨(i 1).val, (i 1).isLt⟩ h)

/-- The accumulator after a live point of the second product. -/
def accV (i : grid0.Coords) (v0 : Elt F .i32) (hw : k0_chk1 i v0) (h3 : k0_cond3 i v0 = 1#1) (e : Elt F .i32)
    (ids : Vec F S48x2 .i32) (ew : Vec F S48x2 .f32) (H : Vec F S48x6400 .bf16)
    (w : Vec F S1x3200x1024 .i8) (s : Vec F S1x50x1024 .bf16) (A : Vec F S48x4096 .f32) : Vec F S48x4096 .f32 :=
  VecWindow.put (s := S48x4096) (
    VecWindow.put (s := S48x4096) (
    VecWindow.put (s := S48x4096) (
    VecWindow.put (s := S48x4096) (A) (k0_off5 i 0#32) S48x256.size (achunk e (ldI ids) (ldE ew) (ldH H) (colW2 w 0 inb_S1x3200x1024_S1x3200x256_0_0_0) (colS2 s 0 inb_S1x50x1024_S1x50x256_0_0_0)
      (View.ld A (Rect.unit (s := S48x4096) (k0_off5 i 0#32) S48x256.size (k0_off5_inb i v0 hw h3 0))))) (k0_off5 i 256#32) S48x256.size (achunk e (ldI ids) (ldE ew) (ldH H) (colW2 w 256 inb_S1x3200x1024_S1x3200x256_0_0_256) (colS2 s 256 inb_S1x50x1024_S1x50x256_0_0_256)
      (View.ld A (Rect.unit (s := S48x4096) (k0_off5 i 256#32) S48x256.size (k0_off5_inb i v0 hw h3 1))))) (k0_off5 i 512#32) S48x256.size (achunk e (ldI ids) (ldE ew) (ldH H) (colW2 w 512 inb_S1x3200x1024_S1x3200x256_0_0_512) (colS2 s 512 inb_S1x50x1024_S1x50x256_0_0_512)
      (View.ld A (Rect.unit (s := S48x4096) (k0_off5 i 512#32) S48x256.size (k0_off5_inb i v0 hw h3 2))))) (k0_off5 i 768#32) S48x256.size (achunk e (ldI ids) (ldE ew) (ldH H) (colW2 w 768 inb_S1x3200x1024_S1x3200x256_0_0_768) (colS2 s 768 inb_S1x50x1024_S1x50x256_0_0_768)
      (View.ld A (Rect.unit (s := S48x4096) (k0_off5 i 768#32) S48x256.size (k0_off5_inb i v0 hw h3 3))))

set_option maxHeartbeats 400000 in
/-- The block's triple at a live point. -/
theorem acc_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h3 : k0_cond3 i v0 = 1#1) (T : Vec F S8 .i32) (w : Vec F S1x3200x1024 .i8) (s : Vec F S1x50x1024 .bf16)
    (ids : Vec F S48x2 .i32) (ew : Vec F S48x2 .f32) (H : Vec F S48x6400 .bf16) (A : Vec F S48x4096 .f32)
    (K : PUnit → sProp 𝕄) :
    iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare A
        ∗ (iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare (accV i v0 hw h3 (tword T (k0_off4 i) (k0_off4_inb i)) ids ew H w s A)) -∗ K ⟨⟩))
      ⊢ wp frame (wpE (defs₀ (F := F)) Variants.none c none) E (accB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  have hj := cond3_col i v0 h3
  letI : ClosedOff (k0_off5 i 0#32) := ⟨![0, 1024 * ((i 1).val - 5) + 0], off5_eq i hj 0⟩
  letI : ClosedOff (k0_off5 i 256#32) := ⟨![0, 1024 * ((i 1).val - 5) + 256], off5_eq i hj 1⟩
  letI : ClosedOff (k0_off5 i 512#32) := ⟨![0, 1024 * ((i 1).val - 5) + 512], off5_eq i hj 2⟩
  letI : ClosedOff (k0_off5 i 768#32) := ⟨![0, 1024 * ((i 1).val - 5) + 768], off5_eq i hj 3⟩
  unfold accB
  unfold owns
  iintro ⟨⟨%f2, %hf2, H2⟩, ⟨%f8, %hf8, H8⟩, ⟨%f9, %hf9, H9⟩, ⟨%f10, %hf10, H10⟩, ⟨%f11, %hf11, H11⟩, ⟨%f14, %hf14, H14⟩, ⟨%f15, %hf15, H15⟩, Hk⟩
  subst hf2 hf8 hf9 hf10 hf11 hf14 hf15
  sl_exec_parts
  sl_step
  iapply Hk
  isplitl [H2]
  · iexists f2; isplitr; · ipureintro; rfl
    iexact H2
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists f14; isplitr; · ipureintro; rfl
    iexact H14
  iexists _; isplitr
  swap; · iexact H15
  ipureintro
  sl_unfold_words
  unfold accV

  exact put_step _ _ _ _ _ _ _ rfl rfl (put_step _ _ _ _ _ _ _ rfl rfl (put_step _ _ _ _ _ _ _ rfl rfl
    (put_step _ _ _ _ _ _ _ rfl rfl rfl)))

/-- The block does nothing elsewhere. -/
theorem acc_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (h3 : ¬ k0_cond3 i v0 = 1#1) (K : PUnit → sProp 𝕄) :
    K ⟨⟩ ⊢ wp frame (wpE (defs₀ (F := F)) Variants.none c none) E (accB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  unfold accB
  iintro Hk
  sl_exec_parts
  sl_step
  iexact Hk

/-- The first point's block: the accumulator is zeroed. -/
theorem zero_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h1 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (A : Vec F S48x4096 .f32) (K : PUnit → sProp 𝕄) :
    iprop(owns (c : Thread nD τ) arg15 fullShare A ∗ (iprop(owns (c : Thread nD τ) arg15 fullShare (k0_pay1 (F := F))) -∗ K ⟨⟩))
      ⊢ wp frame (wpE (defs₀ (F := F)) Variants.none c none) E (zeroB i arg2 harg2 arg3 harg3 arg4 harg4 arg5 harg5 arg6 harg6 arg7 harg7 arg8 harg8 arg9 harg9 arg10 harg10 arg11 harg11 arg12 harg12 arg13 harg13 arg14 harg14 arg15 harg15) K := by
  unfold zeroB
  unfold owns
  iintro ⟨⟨%f15, %hf15, H15⟩, Hk⟩
  subst hf15
  sl_exec_parts
  sl_step
  iapply Hk
  iexists _; isplitr
  swap; · iexact H15
  ipureintro
  sl_unfold_words
  rw [View.read_writes_cons_put _ _ _ _ _ rfl]
  funext y
  exact dif_pos (fun a => by constructor <;> [exact le_of_eq_of_le (congrFun hz2 a) (Nat.zero_le _); exact (y a).isLt.trans_le (Nat.le_add_left _ _)])

/-- The zeroing does nothing elsewhere. -/
theorem zero_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h1 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (K : PUnit → sProp 𝕄) :
    K ⟨⟩ ⊢ wp frame (wpE (defs₀ (F := F)) Variants.none c none) E (zeroB i arg2 harg2 arg3 harg3 arg4 harg4 arg5 harg5 arg6 harg6 arg7 harg7 arg8 harg8 arg9 harg9 arg10 harg10 arg11 harg11 arg12 harg12 arg13 harg13 arg14 harg14 arg15 harg15) K := by
  unfold zeroB
  iintro Hk
  sl_exec_parts
  sl_step
  iexact Hk

end Cert.KernelIdeal.Body
end
-- ==== Proof.KernelIdealQuant.lean ====
/-
  The quantiser's block (`quantB`): the codes and the scales it leaves, each a function of the accumulator by blocks of 128
  columns, and its triple.
-/
module

public import proofs.«01_k».proof.Proof.KernelIdealFill
public import Idealize.ShloMosaic.Lib.VecWindow
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- The codes of one block of 128 columns. -/
def qcodes (v : Vec F S48x128 .f32) : Vec F S48x128 .fp8e4m3 := k0_pay59 v (k0_pay57 v)

/-- The scales of one block of 128 columns. -/
def qscale (v : Vec F S48x128 .f32) : Vec F S48x1 .f32 := k0_pay58 v

/-- Block `b` of 128 columns. -/
def cblk (A : Vec F S48x4096 .f32) (b : Fin 32) : Vec F S48x128 .f32 :=
  View.ld A (Rect.unit (s := S48x4096) ![0, 128 * b.val] S48x128.size (fun a => by
    revert a; intro a; have := b.isLt; match a with
    | ⟨0, _⟩ => exact Nat.le_refl 48
    | ⟨1, _⟩ => show 128 * b.val + 128 ≤ 4096; omega))

/-- All codes. -/
def codesV (A : Vec F S48x4096 .f32) : Vec F S48x4096 .fp8e4m3 := fun y =>
  qcodes (cblk A ⟨(y 1).val / 128, Nat.div_lt_of_lt_mul (y 1).isLt⟩)
    (ix2 (y 0) ⟨(y 1).val % 128, Nat.mod_lt _ (by decide)⟩)

/-- All scales. -/
def scalesV (A : Vec F S48x4096 .f32) : Vec F S48x32 .f32 := fun y =>
  qscale (cblk A (y 1)) (ix2 (y 0) 0)

/-- A stored block of codes is the codes' block. -/
theorem codes_piece (A : Vec F S48x4096 .f32) (o : ℕ) (hb : o / 128 < 32) (h : 128 * (o / 128) = o)
    (inb : ∀ a, ![0, o] a + S48x128.size a ≤ S48x4096.size a) (w : Vec F S48x128 .fp8e4m3)
    (hw : w = qcodes (cblk A ⟨o / 128, hb⟩)) (x : S48x128.Idx) :
    w x = codesV A ((Rect.unit (s := S48x4096) ![0, o] S48x128.size inb).emb x) := by
  subst hw
  have hx : (x 1).val < 128 := (x 1).isLt
  have e1 : ((Rect.unit (s := S48x4096) ![0, o] S48x128.size inb).emb x 1).val = o + 1 * (x 1).val := rfl
  have e0 : ((Rect.unit (s := S48x4096) ![0, o] S48x128.size inb).emb x 0).val = 0 + 1 * (x 0).val := rfl
  have hd : ((Rect.unit (s := S48x4096) ![0, o] S48x128.size inb).emb x 1).val / 128 = o / 128 := by rw [e1]; omega
  have hm : ((Rect.unit (s := S48x4096) ![0, o] S48x128.size inb).emb x 1).val % 128 = (x 1).val := by rw [e1]; omega
  unfold codesV
  simp only [hd]
  refine congrArg _ ?_
  funext a
  match a with
  | ⟨0, _⟩ => exact Fin.ext (by show (x 0).val = _; exact (by omega : (x 0).val = 0 + 1 * (x 0).val))
  | ⟨1, _⟩ => exact Fin.ext hm.symm

/-- A stored column of scales is the scales' column. -/
theorem scale_piece (A : Vec F S48x4096 .f32) (b : ℕ) (hb : b < 32)
    (inb' : ∀ a, ![0, b] a + S48x1.size a ≤ S48x32.size a) (w : Vec F S48x1 .f32) (hw : w = qscale (cblk A ⟨b, hb⟩)) (x : S48x1.Idx) :
    w x = scalesV A ((Rect.unit (s := S48x32) ![0, b] S48x1.size inb').emb x) := by
  subst hw
  have hx : (x 1).val < 1 := (x 1).isLt
  have e1 : ((Rect.unit (s := S48x32) ![0, b] S48x1.size inb').emb x 1).val = b + 1 * (x 1).val := rfl
  have hd : (Rect.unit (s := S48x32) ![0, b] S48x1.size inb').emb x 1 = ⟨b, hb⟩ := Fin.ext (by rw [e1]; show b + 1 * (x 1).val = b; omega)
  unfold scalesV
  rw [hd]
  refine congrArg _ ?_
  funext a
  match a with
  | ⟨0, _⟩ => exact Fin.ext (by show (x 0).val = _; exact (by omega : (x 0).val = 0 + 1 * (x 0).val))
  | ⟨1, _⟩ => exact Fin.ext (by show (x 1).val = 0; omega)

set_option maxHeartbeats 2000000 in
/-- The block's triple at the last point. -/
theorem quant_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h4 : k0_cond4 i = 1#1) (C : Vec F S48x4096 .fp8e4m3) (S : Vec F S48x32 .f32) (A : Vec F S48x4096 .f32)
    (K : PUnit → sProp 𝕄) :
    iprop(owns (c : Thread nD τ) arg12 fullShare C ∗ owns (c : Thread nD τ) arg13 fullShare S ∗ owns (c : Thread nD τ) arg15 fullShare A
        ∗ (iprop(owns (c : Thread nD τ) arg12 fullShare (codesV A) ∗ owns (c : Thread nD τ) arg13 fullShare (scalesV A) ∗ owns (c : Thread nD τ) arg15 fullShare A) -∗ K ⟨⟩))
      ⊢ wp frame (wpE (defs₀ (F := F)) Variants.none c none) E (quantB i arg2 harg2 arg3 harg3 arg4 harg4 arg5 harg5 arg6 harg6 arg7 harg7 arg8 harg8 arg9 harg9 arg10 harg10 arg11 harg11 arg12 harg12 arg13 harg13 arg14 harg14 arg15 harg15) K := by
  unfold quantB
  unfold owns
  iintro ⟨⟨%f12, %hf12, H12⟩, ⟨%f13, %hf13, H13⟩, ⟨%f15, %hf15, H15⟩, Hk⟩
  subst hf12 hf13 hf15
  sl_exec_parts
  sl_step
  iapply Hk
  isplitl [H12]
  · iexists _; isplitr
    swap; · iexact H12
    ipureintro
    sl_unfold_words
    funext y
    refine View.read_writes_apply_of_pieces _ _ (codesV _) _ ?_ y (View.cover_of_tiled (s := S48x4096) _ ![48, 128] rfl y)
    repeat' refine List.forall_mem_cons.2 ⟨?_, ?_⟩
    all_goals first | exact fun p hp => absurd hp List.not_mem_nil | (refine fun x => codes_piece _ _ (by decide) (by decide) (by decide) _ ?_ x; rfl)
  isplitl [H13]
  · iexists _; isplitr
    swap; · iexact H13
    ipureintro
    sl_unfold_words
    funext y
    refine View.read_writes_apply_of_pieces _ _ (scalesV _) _ ?_ y (View.cover_of_tiled (s := S48x32) _ ![48, 1] rfl y)
    repeat' refine List.forall_mem_cons.2 ⟨?_, ?_⟩
    all_goals first | exact fun p hp => absurd hp List.not_mem_nil | (refine fun x => scale_piece _ _ (by decide) (by decide) _ ?_ x; rfl)
  iexists f15; isplitr; · ipureintro; rfl
  iexact H15

/-- The quantiser does nothing before the last point. -/
theorem quant_skip (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (h4 : ¬ k0_cond4 i = 1#1) (K : PUnit → sProp 𝕄) :
    K ⟨⟩ ⊢ wp frame (wpE (defs₀ (F := F)) Variants.none c none) E (quantB i arg2 harg2 arg3 harg3 arg4 harg4 arg5 harg5 arg6 harg6 arg7 harg7 arg8 harg8 arg9 harg9 arg10 harg10 arg11 harg11 arg12 harg12 arg13 harg13 arg14 harg14 arg15 harg15) K := by
  unfold quantB
  iintro Hk
  sl_exec_parts
  sl_step
  iexact Hk

end Cert.KernelIdeal.Body
end
-- ==== Proof.KernelIdealBody.lean ====
/-
  The body's triple: the four blocks in sequence, each taking its step or doing nothing.
-/
module

public import proofs.«01_k».proof.Proof.KernelIdealAcc
public import proofs.«01_k».proof.Proof.KernelIdealQuant
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A live point of the first product lies in the first five columns. -/
theorem cond2_col (i : grid0.Coords) (v0 : BitVec 32) (h2 : k0_cond2 i v0 = 1#1) : (i 1).val < 5 := by
  by_contra hlt
  have key : ∀ (p : BitVec 1) (n : Fin 9), 5 ≤ n.val →
      ¬ Scalar.cmpi .ne (Scalar.extui (Scalar.andi p (Scalar.cmpi .slt (BitVec.ofNat 32 n.val) 5#32)) : BitVec 32) 0#32 = 1#1 := by
    decide
  exact key _ ⟨(i 1).val, (i 1).isLt⟩ (Nat.le_of_not_lt hlt) h2

/-- The columns a live point of the first product writes, from chunk offset `k`. -/
theorem off3_eq (i : grid0.Coords) (k : Fin 5) :
    k0_off3 i (BitVec.ofNat 32 (256 * k.val)) = ![0, 1280 * (i 1).val + 256 * k.val] := by
  have key : ∀ (k : Fin 5) (n : Fin 9),
      (Scalar.indexCast (Scalar.addi (Scalar.muli (BitVec.ofNat 32 n.val) 1280#32) (BitVec.ofNat 32 (256 * k.val))) : Index).toNat
        = 1280 * n.val + 256 * k.val := by decide
  show ![0, _] = _
  exact congrArg (fun z : ℕ => ![0, z]) (key k ⟨(i 1).val, (i 1).isLt⟩)

/-- What the body assumes holds at every point, whatever the number of live experts. -/
theorem chk_all (i : grid0.Coords) (v0 : BitVec 32) : k0_chk1 i v0 := by
  refine ⟨fun h2 r a => ?_, fun h2 r hinb => Or.inr ⟨by decide, rfl, .inl ⟨?_, ?_⟩⟩, fun h3 r a => ?_⟩
  · have := cond2_col i v0 h2
    have hr := r.isLt
    rw [off3_eq]
    match a with
    | ⟨0, _⟩ => exact Nat.le_refl 48
    | ⟨1, _⟩ => show 1280 * (i 1).val + 256 * r.val + 256 ≤ 6400; omega
  · exact ⟨0, rfl⟩
  · exact (by decide : 2 ∣ 48)
  · have := cond3_col i v0 h3
    have h9 : (i 1).val < 9 := (i 1).isLt
    have hr := r.isLt
    rw [off5_eq i this]
    match a with
    | ⟨0, _⟩ => exact Nat.le_refl 48
    | ⟨1, _⟩ => show 1024 * ((i 1).val - 5) + 256 * r.val + 256 ≤ 4096; omega

/-- The first point, as the body computes it. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The accumulator after the zeroing. -/
def stepZ (i : grid0.Coords) (A : Vec F S48x4096 .f32) : Vec F S48x4096 .f32 := if isFirst i then k0_pay1 (F := F) else A
/-- The `h` columns after the first product's block. -/
def stepH (i : grid0.Coords) (v0 : Elt F .i32) (x : Vec F S48x4096 .bf16) (wg wu : Vec F S1x2048x1280 .i8) (sg su : Vec F S1x32x1280 .bf16)
    (H : Vec F S48x6400 .bf16) : Vec F S48x6400 .bf16 := if k0_cond2 i v0 = 1#1 then fillV i x wg wu sg su H else H
/-- The accumulator after the second product's block. -/
def stepA (i : grid0.Coords) (v0 : Elt F .i32) (e : Elt F .i32)
    (ids : Vec F S48x2 .i32) (ew : Vec F S48x2 .f32) (H : Vec F S48x6400 .bf16)
    (w : Vec F S1x3200x1024 .i8) (s : Vec F S1x50x1024 .bf16) (A : Vec F S48x4096 .f32) : Vec F S48x4096 .f32 :=
  if h3 : k0_cond3 i v0 = 1#1 then accV i v0 (chk_all i v0) h3 e ids ew H w s A else A
/-- The codes after the quantiser's block. -/
def stepC (i : grid0.Coords) (A : Vec F S48x4096 .f32) (C : Vec F S48x4096 .fp8e4m3) : Vec F S48x4096 .fp8e4m3 :=
  if k0_cond4 i = 1#1 then codesV A else C
/-- The scales after the quantiser's block. -/
def stepS (i : grid0.Coords) (A : Vec F S48x4096 .f32) (S : Vec F S48x32 .f32) : Vec F S48x32 .f32 :=
  if k0_cond4 i = 1#1 then scalesV A else S

theorem zero_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (A : Vec F S48x4096 .f32) (K : PUnit → sProp 𝕄) :
    iprop(owns (c : Thread nD τ) arg15 fullShare A ∗ (iprop(owns (c : Thread nD τ) arg15 fullShare (stepZ i A)) -∗ K ⟨⟩)) ⊢ wp frame (wpE (defs₀ (F := F)) Variants.none c none) E (zeroB i arg2 harg2 arg3 harg3 arg4 harg4 arg5 harg5 arg6 harg6 arg7 harg7 arg8 harg8 arg9 harg9 arg10 harg10 arg11 harg11 arg12 harg12 arg13 harg13 arg14 harg14 arg15 harg15) K := by
  by_cases h : isFirst i
  · rw [stepZ, if_pos h]; exact zero_run c E i arg2 harg2 arg3 harg3 arg4 harg4 arg5 harg5 arg6 harg6 arg7 harg7 arg8 harg8 arg9 harg9 arg10 harg10 arg11 harg11 arg12 harg12 arg13 harg13 arg14 harg14 arg15 harg15 h A K
  · rw [stepZ, if_neg h]
    iintro ⟨H15, Hk⟩
    iapply (zero_skip c E i arg2 harg2 arg3 harg3 arg4 harg4 arg5 harg5 arg6 harg6 arg7 harg7 arg8 harg8 arg9 harg9 arg10 harg10 arg11 harg11 arg12 harg12 arg13 harg13 arg14 harg14 arg15 harg15 h K)
    iapply Hk
    iexact H15

theorem fill_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (x : Vec F S48x4096 .bf16) (wg wu : Vec F S1x2048x1280 .i8) (sg su : Vec F S1x32x1280 .bf16) (H : Vec F S48x6400 .bf16) (K : PUnit → sProp 𝕄) :
    iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare H ∗ (iprop(owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg14 fullShare (stepH i v0 x wg wu sg su H)) -∗ K ⟨⟩)) ⊢ wp frame (wpE (defs₀ (F := F)) Variants.none c none) E (fillB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  by_cases h : k0_cond2 i v0 = 1#1
  · rw [stepH, if_pos h]; exact fill_run c E i arg2 harg2 arg3 harg3 arg4 harg4 arg5 harg5 arg6 harg6 arg7 harg7 arg8 harg8 arg9 harg9 arg10 harg10 arg11 harg11 arg12 harg12 arg13 harg13 arg14 harg14 arg15 harg15 v0 hw h x wg wu sg su H K
  · rw [stepH, if_neg h]
    iintro ⟨H3, H4, H5, H6, H7, H14, Hk⟩
    iapply (fill_skip c E i arg2 harg2 arg3 harg3 arg4 harg4 arg5 harg5 arg6 harg6 arg7 harg7 arg8 harg8 arg9 harg9 arg10 harg10 arg11 harg11 arg12 harg12 arg13 harg13 arg14 harg14 arg15 harg15 v0 hw h K)
    iapply Hk
    isplitl [H3]; · iexact H3
    isplitl [H4]; · iexact H4
    isplitl [H5]; · iexact H5
    isplitl [H6]; · iexact H6
    isplitl [H7]; · iexact H7
    iexact H14

theorem acc_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (v0 : Elt F .i32) (hw : k0_chk1 i v0) (T : Vec F S8 .i32) (w : Vec F S1x3200x1024 .i8) (s : Vec F S1x50x1024 .bf16) (ids : Vec F S48x2 .i32) (ew : Vec F S48x2 .f32) (H : Vec F S48x6400 .bf16) (A : Vec F S48x4096 .f32) (K : PUnit → sProp 𝕄) :
    iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare A ∗ (iprop(owns (c : Thread nD τ) arg2 fullShare.right T ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg14 fullShare H ∗ owns (c : Thread nD τ) arg15 fullShare (stepA i v0 (tword T (k0_off4 i) (k0_off4_inb i)) ids ew H w s A)) -∗ K ⟨⟩)) ⊢ wp frame (wpE (defs₀ (F := F)) Variants.none c none) E (accB i arg2 harg2 arg3 harg3 arg4 harg4 arg5 harg5 arg6 harg6 arg7 harg7 arg8 harg8 arg9 harg9 arg10 harg10 arg11 harg11 arg12 harg12 arg13 harg13 arg14 harg14 arg15 harg15 v0 hw) K := by
  by_cases h : k0_cond3 i v0 = 1#1
  · rw [stepA, dif_pos h]; exact acc_run c E i arg2 harg2 arg3 harg3 arg4 harg4 arg5 harg5 arg6 harg6 arg7 harg7 arg8 harg8 arg9 harg9 arg10 harg10 arg11 harg11 arg12 harg12 arg13 harg13 arg14 harg14 arg15 harg15 v0 hw h T w s ids ew H A K
  · rw [stepA, dif_neg h]
    iintro ⟨H2, H8, H9, H10, H11, H14, H15, Hk⟩
    iapply (acc_skip c E i arg2 harg2 arg3 harg3 arg4 harg4 arg5 harg5 arg6 harg6 arg7 harg7 arg8 harg8 arg9 harg9 arg10 harg10 arg11 harg11 arg12 harg12 arg13 harg13 arg14 harg14 arg15 harg15 v0 hw h K)
    iapply Hk
    isplitl [H2]; · iexact H2
    isplitl [H8]; · iexact H8
    isplitl [H9]; · iexact H9
    isplitl [H10]; · iexact H10
    isplitl [H11]; · iexact H11
    isplitl [H14]; · iexact H14
    iexact H15

theorem quant_st (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (C : Vec F S48x4096 .fp8e4m3) (S : Vec F S48x32 .f32) (A : Vec F S48x4096 .f32) (K : PUnit → sProp 𝕄) :
    iprop(owns (c : Thread nD τ) arg12 fullShare C ∗ owns (c : Thread nD τ) arg13 fullShare S ∗ owns (c : Thread nD τ) arg15 fullShare A ∗ (iprop(owns (c : Thread nD τ) arg12 fullShare (stepC i A C) ∗ owns (c : Thread nD τ) arg13 fullShare (stepS i A S) ∗ owns (c : Thread nD τ) arg15 fullShare A) -∗ K ⟨⟩)) ⊢ wp frame (wpE (defs₀ (F := F)) Variants.none c none) E (quantB i arg2 harg2 arg3 harg3 arg4 harg4 arg5 harg5 arg6 harg6 arg7 harg7 arg8 harg8 arg9 harg9 arg10 harg10 arg11 harg11 arg12 harg12 arg13 harg13 arg14 harg14 arg15 harg15) K := by
  by_cases h : k0_cond4 i = 1#1
  · rw [stepC, stepS, if_pos h, if_pos h]; exact quant_run c E i arg2 harg2 arg3 harg3 arg4 harg4 arg5 harg5 arg6 harg6 arg7 harg7 arg8 harg8 arg9 harg9 arg10 harg10 arg11 harg11 arg12 harg12 arg13 harg13 arg14 harg14 arg15 harg15 h C S A K
  · rw [stepC, stepS, if_neg h, if_neg h]
    iintro ⟨H12, H13, H15, Hk⟩
    iapply (quant_skip c E i arg2 harg2 arg3 harg3 arg4 harg4 arg5 harg5 arg6 harg6 arg7 harg7 arg8 harg8 arg9 harg9 arg10 harg10 arg11 harg11 arg12 harg12 arg13 harg13 arg14 harg14 arg15 harg15 h K)
    iapply Hk
    isplitl [H12]; · iexact H12
    isplitl [H13]; · iexact H13
    iexact H15

/-- Reading the table's last word. -/
theorem word_st (c : Dev nD) (E : Set ℕ) (arg2 : Memref sig .tc .smem S8 .i32) (T : Vec F S8 .i32) (K : Elt F .i32 → sProp 𝕄) :
    iprop(owns (c : Thread nD τ) arg2 fullShare.right T ∗ (iprop(owns (c : Thread nD τ) arg2 fullShare.right T) -∗ K (tword T ![7] inb_S8_S1_7)))
      ⊢ wp frame (wpE (defs₀ (F := F)) Variants.none c none) E (smemLoad arg2 (Rect.unit (s := S8) ![7] S1.size inb_S8_S1_7) numel1_S1 rfl) K := by
  unfold owns smemLoad smemLoadElt
  iintro ⟨⟨%f2, %hf2, H2⟩, Hk⟩
  subst hf2
  sl_step
  sl_step
  rw [show View.readAt (Elt F) arg2.view (Rect.unit (s := S8) ![7] S1.size inb_S8_S1_7).toLoadRect f2 (Shape.Idx.first (numel1_S1.symm ▸ Nat.one_pos))
    = tword (arg2.view.read (Elt F) f2) ![7] inb_S8_S1_7 from rfl]
  iapply Hk
  iexists f2; isplitr; · ipureintro; rfl
  iexact H2

set_option maxHeartbeats 1000000 in
/-- The body's triple: what every buffer holds after a point, given what it held before. -/
theorem body_run (c : Dev nD) (E : Set ℕ) (i : grid0.Coords) (arg2 : Memref sig .tc .smem S8 .i32) (harg2 : arg2.IsWhole) (arg3 : Memref sig .tc .vmem S48x4096 .bf16) (harg3 : arg3.IsWhole) (arg4 : Memref sig .tc .vmem S1x2048x1280 .i8) (harg4 : arg4.IsWhole) (arg5 : Memref sig .tc .vmem S1x2048x1280 .i8) (harg5 : arg5.IsWhole) (arg6 : Memref sig .tc .vmem S1x32x1280 .bf16) (harg6 : arg6.IsWhole) (arg7 : Memref sig .tc .vmem S1x32x1280 .bf16) (harg7 : arg7.IsWhole) (arg8 : Memref sig .tc .vmem S1x3200x1024 .i8) (harg8 : arg8.IsWhole) (arg9 : Memref sig .tc .vmem S1x50x1024 .bf16) (harg9 : arg9.IsWhole) (arg10 : Memref sig .tc .vmem S48x2 .i32) (harg10 : arg10.IsWhole) (arg11 : Memref sig .tc .vmem S48x2 .f32) (harg11 : arg11.IsWhole) (arg12 : Memref sig .tc .vmem S48x4096 .fp8e4m3) (harg12 : arg12.IsWhole) (arg13 : Memref sig .tc .vmem S48x32 .f32) (harg13 : arg13.IsWhole) (arg14 : Memref sig .tc .vmem S48x6400 .bf16) (harg14 : arg14.IsWhole) (arg15 : Memref sig .tc .vmem S48x4096 .f32) (harg15 : arg15.IsWhole)
    (x : Vec F S48x4096 .bf16) (wg wu : Vec F S1x2048x1280 .i8) (sg su : Vec F S1x32x1280 .bf16) (H : Vec F S48x6400 .bf16) (T : Vec F S8 .i32) (w : Vec F S1x3200x1024 .i8) (s : Vec F S1x50x1024 .bf16) (ids : Vec F S48x2 .i32) (ew : Vec F S48x2 .f32) (A : Vec F S48x4096 .f32)
    (C : Vec F S48x4096 .fp8e4m3) (S : Vec F S48x32 .f32) (K : PUnit → sProp 𝕄) :
    iprop(owns (c : Thread nD τ) arg2 fullShare.right T ∗ owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg12 fullShare C ∗ owns (c : Thread nD τ) arg13 fullShare S ∗ owns (c : Thread nD τ) arg14 fullShare H ∗ owns (c : Thread nD τ) arg15 fullShare A ∗ (iprop(owns (c : Thread nD τ) arg2 fullShare.right T ∗ owns (c : Thread nD τ) arg3 fullShare x ∗ owns (c : Thread nD τ) arg4 fullShare wg ∗ owns (c : Thread nD τ) arg5 fullShare wu ∗ owns (c : Thread nD τ) arg6 fullShare sg ∗ owns (c : Thread nD τ) arg7 fullShare su ∗ owns (c : Thread nD τ) arg8 fullShare w ∗ owns (c : Thread nD τ) arg9 fullShare s ∗ owns (c : Thread nD τ) arg10 fullShare ids ∗ owns (c : Thread nD τ) arg11 fullShare ew ∗ owns (c : Thread nD τ) arg12 fullShare (stepC i (stepA i (tword T ![7] inb_S8_S1_7) (tword T (k0_off4 i) (k0_off4_inb i)) ids ew (stepH i (tword T ![7] inb_S8_S1_7) x wg wu sg su H) w s (stepZ i A)) C) ∗ owns (c : Thread nD τ) arg13 fullShare (stepS i (stepA i (tword T ![7] inb_S8_S1_7) (tword T (k0_off4 i) (k0_off4_inb i)) ids ew (stepH i (tword T ![7] inb_S8_S1_7) x wg wu sg su H) w s (stepZ i A)) S) ∗ owns (c : Thread nD τ) arg14 fullShare (stepH i (tword T ![7] inb_S8_S1_7) x wg wu sg su H) ∗ owns (c : Thread nD τ) arg15 fullShare (stepA i (tword T ![7] inb_S8_S1_7) (tword T (k0_off4 i) (k0_off4_inb i)) ids ew (stepH i (tword T ![7] inb_S8_S1_7) x wg wu sg su H) w s (stepZ i A))) -∗ K ⟨⟩))
      ⊢ wp frame (wpE (defs₀ (F := F)) Variants.none c none) E (cc0_moe_int4 i arg2 harg2 arg3 harg3 arg4 harg4 arg5 harg5 arg6 harg6 arg7 harg7 arg8 harg8 arg9 harg9 arg10 harg10 arg11 harg11 arg12 harg12 arg13 harg13 arg14 harg14 arg15 harg15) K := by
  rw [body_eq]
  unfold blocks
  iintro ⟨H2, H3, H4, H5, H6, H7, H8, H9, H10, H11, H12, H13, H14, H15, Hk⟩
  rw [wp_bind]
  iapply word_st
  isplitl [H2]; · iexact H2
  iintro H2
  rw [wp_bind]
  have hw := chk_all i (tword T ![7] inb_S8_S1_7)
  unfold Prog.lift
  iapply (wp_assume _ _ _ _ hw)
  sl_step
  rw [wp_bind]
  iapply zero_st
  isplitl [H15]; · iexact H15
  iintro H15
  rw [wp_bind]
  iapply fill_st
  isplitl [H3]; · iexact H3
  isplitl [H4]; · iexact H4
  isplitl [H5]; · iexact H5
  isplitl [H6]; · iexact H6
  isplitl [H7]; · iexact H7
  isplitl [H14]; · iexact H14
  iintro ⟨H3, H4, H5, H6, H7, H14⟩
  rw [wp_bind]
  iapply acc_st
  isplitl [H2]; · iexact H2
  isplitl [H8]; · iexact H8
  isplitl [H9]; · iexact H9
  isplitl [H10]; · iexact H10
  isplitl [H11]; · iexact H11
  isplitl [H14]; · iexact H14
  isplitl [H15]; · iexact H15
  iintro ⟨H2, H8, H9, H10, H11, H14, H15⟩
  iapply quant_st
  isplitl [H12]; · iexact H12
  isplitl [H13]; · iexact H13
  isplitl [H15]; · iexact H15
  iintro ⟨H12, H13, H15⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Body
end
-- ==== Proof.KernelIdealCols.lean ====
/-
  The two blocks' results at an index: a live point of the first product writes one block of 1280 `h` columns, one
  of the second product one block of 1024 accumulator columns, and each leaves the other columns as they were.
-/
module

public import proofs.«01_k».proof.Proof.KernelIdealBody
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-- A write of 256 columns, at an index. -/
theorem put_cols {N : ℕ} {α : Type} (x : (⟨2, ![48, N]⟩ : Shape).Idx → α) (off : Fin 2 → ℕ) (b : ℕ) (hoff : off = ![0, b])
    (w : S48x256.Idx → α) (y : (⟨2, ![48, N]⟩ : Shape).Idx) :
    VecWindow.put (s := ⟨2, ![48, N]⟩) x off S48x256.size w y
      = if h : b ≤ (y 1).val ∧ (y 1).val < b + 256 then w (ix2 ⟨(y 0).val, (y 0).isLt⟩ ⟨(y 1).val - b, by omega⟩) else x y := by
  subst hoff
  unfold VecWindow.put
  by_cases h : b ≤ (y 1).val ∧ (y 1).val < b + 256
  · have h' : ∀ a : Fin 2, (![0, b] : Fin 2 → ℕ) a ≤ (y a).val ∧ (y a).val < (![0, b] : Fin 2 → ℕ) a + S48x256.size a := by
      intro a
      match a with
      | ⟨0, _⟩ => exact ⟨Nat.zero_le _, by have h48 : (y 0).val < 48 := (y 0).isLt; show (y 0).val < 0 + 48; omega⟩
      | ⟨1, _⟩ => exact h
    rw [dif_pos h, dif_pos h']
    refine congrArg w (funext fun a => Fin.ext ?_)
    match a with
    | ⟨0, _⟩ => rfl
    | ⟨1, _⟩ => rfl
  · rw [dif_neg h, dif_neg]
    exact fun h' => h (h' 1)

/-- A chunk of a block, by its number and by the column. -/
theorem chunk_eq {n : ℕ} {α : Type} (W : Fin n → S48x256.Idx → α) (t : Fin 48) (k : ℕ) (hk : k / 256 < n) (o : Fin n) (r : ℕ) (hr : r < 256)
    (h : k = 256 * o.val + r) : W o (ix2 t ⟨r, hr⟩) = W ⟨k / 256, hk⟩ (ix2 t ⟨k % 256, Nat.mod_lt _ (by omega)⟩) := by
  have e1 : o = ⟨k / 256, hk⟩ := Fin.ext (by show o.val = k / 256; omega)
  have e2 : (⟨r, hr⟩ : Fin 256) = ⟨k % 256, Nat.mod_lt _ (by omega)⟩ := Fin.ext (by show r = k % 256; omega)
  rw [← e1, ← e2]

/-- Five chunks written side by side are one block. -/
theorem put5 {N : ℕ} {α : Type} (x : (⟨2, ![48, N]⟩ : Shape).Idx → α) (off : Fin 5 → Fin 2 → ℕ) (b : ℕ)
    (hoff : ∀ o : Fin 5, off o = ![0, b + 256 * o.val]) (W : Fin 5 → S48x256.Idx → α) (y : (⟨2, ![48, N]⟩ : Shape).Idx) :
    VecWindow.put (s := ⟨2, ![48, N]⟩) (VecWindow.put (s := ⟨2, ![48, N]⟩) (VecWindow.put (s := ⟨2, ![48, N]⟩) (VecWindow.put (s := ⟨2, ![48, N]⟩)
      (VecWindow.put (s := ⟨2, ![48, N]⟩) x (off 0) S48x256.size (W 0)) (off 1) S48x256.size (W 1)) (off 2) S48x256.size (W 2))
      (off 3) S48x256.size (W 3)) (off 4) S48x256.size (W 4) y
      = if h : b ≤ (y 1).val ∧ (y 1).val < b + 1280
        then W ⟨((y 1).val - b) / 256, by omega⟩ (ix2 ⟨(y 0).val, (y 0).isLt⟩ ⟨((y 1).val - b) % 256, Nat.mod_lt _ (by omega)⟩) else x y := by
  rw [put_cols _ _ _ (hoff 4), put_cols _ _ _ (hoff 3), put_cols _ _ _ (hoff 2), put_cols _ _ _ (hoff 1), put_cols _ _ _ (hoff 0)]
  have v0 : (0 : Fin 5).val = 0 := rfl
  have v1 : (1 : Fin 5).val = 1 := rfl
  have v2 : (2 : Fin 5).val = 2 := rfl
  have v3 : (3 : Fin 5).val = 3 := rfl
  have v4 : (4 : Fin 5).val = 4 := rfl
  split_ifs <;> first
    | (exfalso; omega)
    | exact chunk_eq W _ _ _ _ _ _ (by omega)
    | rfl

/-- Four chunks written side by side are one block. -/
theorem put4 {N : ℕ} {α : Type} (x : (⟨2, ![48, N]⟩ : Shape).Idx → α) (off : Fin 4 → Fin 2 → ℕ) (b : ℕ)
    (hoff : ∀ o : Fin 4, off o = ![0, b + 256 * o.val]) (W : Fin 4 → S48x256.Idx → α) (y : (⟨2, ![48, N]⟩ : Shape).Idx) :
    VecWindow.put (s := ⟨2, ![48, N]⟩) (VecWindow.put (s := ⟨2, ![48, N]⟩) (VecWindow.put (s := ⟨2, ![48, N]⟩)
      (VecWindow.put (s := ⟨2, ![48, N]⟩) x (off 0) S48x256.size (W 0)) (off 1) S48x256.size (W 1)) (off 2) S48x256.size (W 2))
      (off 3) S48x256.size (W 3) y
      = if h : b ≤ (y 1).val ∧ (y 1).val < b + 1024
        then W ⟨((y 1).val - b) / 256, by omega⟩ (ix2 ⟨(y 0).val, (y 0).isLt⟩ ⟨((y 1).val - b) % 256, Nat.mod_lt _ (by omega)⟩) else x y := by
  rw [put_cols _ _ _ (hoff 3), put_cols _ _ _ (hoff 2), put_cols _ _ _ (hoff 1), put_cols _ _ _ (hoff 0)]
  have v0 : (0 : Fin 4).val = 0 := rfl
  have v1 : (1 : Fin 4).val = 1 := rfl
  have v2 : (2 : Fin 4).val = 2 := rfl
  have v3 : (3 : Fin 4).val = 3 := rfl
  split_ifs <;> first
    | (exfalso; omega)
    | exact chunk_eq W _ _ _ _ _ _ (by omega)
    | rfl

/-- 256 columns of a block of the first weights, from any column. -/
theorem colW_inb (o : Fin 5) : ∀ a, ![0, 0, 256 * o.val] a + S1x2048x256.size a ≤ S1x2048x1280.size a := by
  revert o; decide
theorem colS_inb (o : Fin 5) : ∀ a, ![0, 0, 256 * o.val] a + S1x32x256.size a ≤ S1x32x1280.size a := by
  revert o; decide
theorem colW2_inb (o : Fin 4) : ∀ a, ![0, 0, 256 * o.val] a + S1x3200x256.size a ≤ S1x3200x1024.size a := by
  revert o; decide
theorem colS2_inb (o : Fin 4) : ∀ a, ![0, 0, 256 * o.val] a + S1x50x256.size a ≤ S1x50x1024.size a := by
  revert o; decide

/-- The `h` columns of chunk `o` of a block. -/
def hcol (x : Vec F S48x4096 .bf16) (wg wu : Vec F S1x2048x1280 .i8) (sg su : Vec F S1x32x1280 .bf16) (o : Fin 5) :
    Vec F S48x256 .bf16 :=
  hchunk (ldX x) (colW wg _ (colW_inb o)) (colW wu _ (colW_inb o)) (colS sg _ (colS_inb o)) (colS su _ (colS_inb o))

/-- The block of 1280 `h` columns. -/
def hblock (x : Vec F S48x4096 .bf16) (wg wu : Vec F S1x2048x1280 .i8) (sg su : Vec F S1x32x1280 .bf16) (t : Fin 48)
    (k : ℕ) (hk : k < 1280) : Elt F .bf16 :=
  hcol x wg wu sg su ⟨k / 256, by omega⟩ (ix2 t ⟨k % 256, by omega⟩)

set_option maxHeartbeats 1000000 in
/-- A live point of the first product at an index. -/
theorem fillV_apply (i : grid0.Coords) (x : Vec F S48x4096 .bf16) (wg wu : Vec F S1x2048x1280 .i8) (sg su : Vec F S1x32x1280 .bf16)
    (H : Vec F S48x6400 .bf16) (y : S48x6400.Idx) :
    fillV i x wg wu sg su H y
      = if h : 1280 * (i 1).val ≤ (y 1).val ∧ (y 1).val < 1280 * (i 1).val + 1280
        then hblock x wg wu sg su ⟨(y 0).val, (y 0).isLt⟩ ((y 1).val - 1280 * (i 1).val) (by omega) else H y := by
  exact put5 H (fun o => k0_off3 i (BitVec.ofNat 32 (256 * o.val))) (1280 * (i 1).val) (off3_eq i) (hcol x wg wu sg su) y

theorem ldA_inb (j : ℕ) (hj : j < 4) (o : Fin 4) : ∀ a, ![0, 1024 * j + 256 * o.val] a + S48x256.size a ≤ S48x4096.size a := by
  intro a
  have := o.isLt
  match a with
  | ⟨0, _⟩ => exact Nat.le_refl 48
  | ⟨1, _⟩ => show 1024 * j + 256 * o.val + 256 ≤ 4096; omega

/-- 256 columns of the accumulator. -/
abbrev ldA (A : Vec F S48x4096 .f32) (off : Fin 2 → ℕ) (h : ∀ a, off a + S48x256.size a ≤ S48x4096.size a) : Vec F S48x256 .f32 :=
  View.ld A (Rect.unit (s := S48x4096) off S48x256.size h)

theorem ldA_congr (A : Vec F S48x4096 .f32) (off off' : Fin 2 → ℕ) (e : off = off') (h h') : ldA A off h = ldA A off' h' := by
  subst e; rfl

/-- The accumulator columns of chunk `o` of block `j`. -/
def acol (e : Elt F .i32) (ids : Vec F S48x2 .i32) (ew : Vec F S48x2 .f32) (H : Vec F S48x6400 .bf16)
    (w : Vec F S1x3200x1024 .i8) (s : Vec F S1x50x1024 .bf16) (A : Vec F S48x4096 .f32) (j : ℕ) (hj : j < 4) (o : Fin 4) :
    Vec F S48x256 .f32 :=
  achunk e (ldI ids) (ldE ew) (ldH H) (colW2 w _ (colW2_inb o)) (colS2 s _ (colS2_inb o)) (ldA A _ (ldA_inb j hj o))

/-- The block of 1024 accumulator columns. -/
def ablock (e : Elt F .i32) (ids : Vec F S48x2 .i32) (ew : Vec F S48x2 .f32) (H : Vec F S48x6400 .bf16)
    (w : Vec F S1x3200x1024 .i8) (s : Vec F S1x50x1024 .bf16) (A : Vec F S48x4096 .f32) (j : ℕ) (hj : j < 4) (t : Fin 48)
    (k : ℕ) (hk : k < 1024) : Elt F .f32 :=
  acol e ids ew H w s A j hj ⟨k / 256, by omega⟩ (ix2 t ⟨k % 256, by omega⟩)

set_option maxHeartbeats 1000000 in
/-- A live point of the second product at an index. -/
theorem accV_apply (i : grid0.Coords) (v0 : Elt F .i32) (hw : k0_chk1 i v0) (h3 : k0_cond3 i v0 = 1#1) (e : Elt F .i32)
    (ids : Vec F S48x2 .i32) (ew : Vec F S48x2 .f32) (H : Vec F S48x6400 .bf16)
    (w : Vec F S1x3200x1024 .i8) (s : Vec F S1x50x1024 .bf16) (A : Vec F S48x4096 .f32) (y : S48x4096.Idx)
    (j : ℕ) (hj : j < 4) (hij : (i 1).val = 5 + j) :
    accV i v0 hw h3 e ids ew H w s A y
      = if h : 1024 * j ≤ (y 1).val ∧ (y 1).val < 1024 * j + 1024
        then ablock e ids ew H w s A j hj ⟨(y 0).val, (y 0).isLt⟩ ((y 1).val - 1024 * j) (by omega) else A y := by
  have hi : 5 ≤ (i 1).val := by omega
  have off (o : Fin 4) : k0_off5 i (BitVec.ofNat 32 (256 * o.val)) = ![0, 1024 * j + 256 * o.val] := by
    rw [off5_eq i hi, hij, Nat.add_sub_cancel_left]
  have inb (o : Fin 4) : ∀ a, k0_off5 i (BitVec.ofNat 32 (256 * o.val)) a + S48x256.size a ≤ S48x4096.size a := by
    rw [off o]; exact ldA_inb j hj o
  have g (o : Fin 4) : achunk e (ldI ids) (ldE ew) (ldH H) (colW2 w _ (colW2_inb o)) (colS2 s _ (colS2_inb o))
      (ldA A (k0_off5 i (BitVec.ofNat 32 (256 * o.val))) (inb o)) = acol e ids ew H w s A j hj o := by
    unfold acol; rw [ldA_congr A _ _ (off o) (inb o) (ldA_inb j hj o)]
  have key := put4 A (fun o => k0_off5 i (BitVec.ofNat 32 (256 * o.val))) (1024 * j) off
    (fun o => achunk e (ldI ids) (ldE ew) (ldH H) (colW2 w _ (colW2_inb o)) (colS2 s _ (colS2_inb o))
      (ldA A (k0_off5 i (BitVec.ofNat 32 (256 * o.val))) (inb o))) y
  refine Eq.trans key ?_
  by_cases h : 1024 * j ≤ (y 1).val ∧ (y 1).val < 1024 * j + 1024
  · rw [dif_pos h, dif_pos h]
    exact congrFun (g _) _
  · rw [dif_neg h, dif_neg h]

end Cert.KernelIdeal.Body
end
-- ==== Proof.KernelIdealTable.lean ====
/-
  The table of live experts that the host computes before the region: the experts that some token chose, in increasing
  order, then the last of them again, and last the number of live experts.
-/
module

public import proofs.«01_k».proof.Proof.KernelIdealKit
public import proofs.«01_k».proof.Proof.Order
public import Idealize.ShloMosaic.Lib.Claim
public import Idealize.ShloMosaic.Lib.Pointwise
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- Which experts some token chose. -/
def usedV (ids : IVec S48x2 32) : IVec S7 1 :=
  Host.reduce IntOp.ori
    (cmpi .eq (broadcastInDim S96x7 ![0, 1] bcast_S96x1_S96x7_0_1 (shapeCast S96x1 ids shapeCasts_S48x2_S96x1))
      (broadcastInDim S96x7 ![0, 1] bcast_S1x7_S96x7_0_1 (broadcastInDim S1x7 ![1] bcast_S7_S1x7_1 (iotaInDim S7 32 0))))
    (constantI S_ 1 0#1) reducesTo_S96x7_S7_d0 h_S_

/-- How many experts are live. -/
def cntV (u : IVec S7 1) : IVec S_ 32 := Host.reduce IntOp.addi (extui 32 u natLt_1_32) (constantI S_ 32 0#32) reducesTo_S7_S_d0 h_S_

/-- The experts, the live ones first. -/
def ordV (u : IVec S7 1) : IVec S7 32 := (Host.sort2 S7 0 comparator_i1_i32_d0 (noti u) (iotaInDim S7 32 0)).2

/-- The table, of the live experts; `at_` is the place of the expert that fills the unused entries. -/
def actV (u : IVec S7 1) (at_ : Fin 1 → ℤ) : IVec S8 32 :=
  concatenate S8 0 [⟨S7, select (cmpi .slt (iotaInDim S7 32 0) (broadcastInDim S7 ![] bcast_S_S7 (cntV u))) (ordV u)
      (broadcastInDim S7 ![] bcast_S_S7 (shapeCast S_ (Host.dynamicSlice S1 (ordV u) at_ sliceFits_S7_S1) shapeCasts_S1_S_))⟩,
    ⟨S1, broadcastInDim S1 ![] bcast_S_S1 (cntV u)⟩] concatenates_S7_S1_S8_d0

variable (m : (ℓ : Loc nD τ sig) → Buf (Elt F) ℓ)

/-- The region finds that table, of the launched experts. -/
theorem V_act (c : Dev nD) : ∃ at_, V m c main_v25 = actV (usedV (shapeCast S48x2 (m ((c : Thread nD τ).loc main_arg5)) shapeCasts_S48x1x2_S48x2)) at_ := by
  change ∃ at_, StableHlo.after ([hostOps0, hostOps0_1, hostOps0_2, hostOps0_3, hostOps0_4].flatten) _ (Proc.devRef .tc main_v25) = actV _ at_
  simp only [hostOps0, hostOps0_1, hostOps0_2, hostOps0_3, hostOps0_4, List.flatten_cons, List.flatten_nil, List.append_nil, List.cons_append, List.nil_append]
  after_results
  unfold actV
  exact ⟨_, rfl⟩

/-- The region finds the experts' numbers as launched, -/
theorem V_ids (c : Dev nD) : V m c main_v0 = shapeCast S48x2 (m ((c : Thread nD τ).loc main_arg5)) shapeCasts_S48x1x2_S48x2 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.append_nil, List.cons_append, List.nil_append]
  after_results
  rfl

/-- their weights as launched, -/
theorem V_ew (c : Dev nD) : V m c main_v1 = shapeCast S48x2 (m ((c : Thread nD τ).loc main_arg6)) shapeCasts_S48x1x2_S48x2 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.append_nil, List.cons_append, List.nil_append]
  after_results
  rfl

/-- and the activations as launched, as a matrix. -/
theorem V_x (c : Dev nD) : V m c main_v26 = shapeCast S48x4096 (m ((c : Thread nD τ).loc main_arg0)) shapeCasts_S48x1x4096_S48x4096 := by
  show StableHlo.after ([hostOps0, hostOps0_1, hostOps0_2, hostOps0_3, hostOps0_4].flatten) _ _ = _
  simp only [hostOps0, hostOps0_1, hostOps0_2, hostOps0_3, hostOps0_4, List.flatten_cons, List.flatten_nil, List.append_nil, List.cons_append, List.nil_append]
  after_results
  rfl

/-- The flags of the live experts. -/
def flags (u : IVec S7 1) : Fin 7 → BitVec 1 := fun k => u (Shape.Idx.ofFin k)

theorem along7 (j : S7.Idx) (k : Fin 7) : j.along (0 : Fin 1) k = (Shape.Idx.ofFin k : S7.Idx) := Shape.Idx.along_rank1 j k

/-- Place `j` of the order holds the expert that the sort puts there. -/
theorem ordV_apply (u : IVec S7 1) (j : S7.Idx) : ordV u j = BitVec.ofNat 32 (Order.sig (flags u) (j 0)).val := by
  have h : ordV u j = iotaInDim S7 32 0 (j.along (0 : Fin 1) (sortedFrom (n := 7) (fun k k' =>
      comparator_i1_i32_d0 (noti u (j.along (0 : Fin 1) k), iotaInDim S7 32 0 (j.along (0 : Fin 1) k))
        (noti u (j.along (0 : Fin 1) k'), iotaInDim S7 32 0 (j.along (0 : Fin 1) k')) == 1#1) (j 0))) := rfl
  rw [h]
  simp only [along7]
  rfl

/-- The count is that of the live experts. -/
theorem cntV_apply (u : IVec S7 1) (j : S_.Idx) : cntV u j = BitVec.ofNat 32 (Order.num (flags u)) := by
  unfold cntV
  rw [Host.reduce_eq_fold]
  have := IndicatorCount.fold_addi_setWidth_eq_card (w := 32) u (Finset.univ.filter fun i => reducesTo_S7_S_d0.drop i = j)
  refine this.trans ?_
  congr 1
  unfold Order.num
  refine Finset.card_bij (fun i _ => i 0) ?_ ?_ ?_
  · intro i hi
    simp only [Finset.mem_filter, Finset.mem_univ, true_and] at hi ⊢
    have := hi.2
    rw [Shape.Idx.eq_ofFin i] at this
    exact Finset.mem_filter.2 ⟨Finset.mem_univ _, this⟩
  · intro i _ i' _ h
    rw [Shape.Idx.eq_ofFin i, Shape.Idx.eq_ofFin i', show i 0 = i' 0 from h]
  · intro k hk
    simp only [Finset.mem_filter, Finset.mem_univ, true_and] at hk
    refine ⟨Shape.Idx.ofFin k, ?_, Shape.Idx.ofFin_zero k⟩
    simp only [Finset.mem_filter, Finset.mem_univ, true_and]
    exact ⟨funext fun a => a.elim0, hk⟩

/-- The table's last entry is the number of live experts. -/
theorem actV_num (u : IVec S7 1) (at_) (j : S8.Idx) (hj : (j 0).val = 7) : actV u at_ j = BitVec.ofNat 32 (Order.num (flags u)) := by
  unfold actV
  pointwise
  rw [dif_neg (by omega), cntV_apply]

/-- Its other entries are experts, the live ones first. -/
theorem actV_apply (u : IVec S7 1) (at_) (j : S8.Idx) (hj : (j 0).val < 7) :
    ∃ e : Fin 7, actV u at_ j = BitVec.ofNat 32 e.val ∧ ((j 0).val < Order.num (flags u) → e = Order.sig (flags u) ⟨(j 0).val, hj⟩) := by
  unfold actV
  pointwise
  rw [dif_pos hj, cntV_apply, ordV_apply, ordV_apply]
  have hn := Order.num_le (flags u)
  by_cases hk : (j 0).val < Order.num (flags u)
  · refine ⟨Order.sig (flags u) ⟨(j 0).val, hj⟩, ?_, fun _ => rfl⟩
    have h1 : IntOp.cmpi .slt (BitVec.ofNat 32 (j 0).val) (BitVec.ofNat 32 (Order.num (flags u))) = 1#1 := by
      generalize Order.num (flags u) = n at *
      generalize (j 0).val = i at *
      have hi : i < 7 := hj
      interval_cases n <;> interval_cases i <;> first | rfl | omega
    rw [h1]
    rfl
  · have h0 : IntOp.cmpi .slt (BitVec.ofNat 32 (j 0).val) (BitVec.ofNat 32 (Order.num (flags u))) = 0#1 := by
      generalize Order.num (flags u) = n at *
      generalize (j 0).val = i at *
      have hi : i < 7 := hj
      interval_cases n <;> interval_cases i <;> first | rfl | omega
    rw [h0]
    exact ⟨_, rfl, fun h => absurd h hk⟩

/-- An expert that some token chose is live. -/
theorem usedV_of (ids : IVec S48x2 32) (t : Fin 48) (s : Fin 2) (e : Fin 7) (h : ids (ValueIdx.ix2 t s) = BitVec.ofNat 32 e.val) :
    flags (usedV ids) e = 1#1 := by
  unfold flags usedV
  rw [Host.reduce_eq_fold]
  classical
  refine Order.fold_ori _ _ _ (ValueIdx.ix2 (⟨2 * t.val + s.val, by omega⟩ : Fin 96) e) ?_ ?_
  · refine Finset.mem_filter.2 ⟨Finset.mem_univ _, ?_⟩
    funext a
    have : a = 0 := Subsingleton.elim _ _
    subst this
    exact Fin.ext (Shape.ReducesTo.drop_apply_val_of_eq reducesTo_S96x7_S7_d0 _ 0 1 (by decide))
  · pointwise
    refine (congrArg (fun v => IntOp.cmpi .eq v _) h).trans ?_
    show BitVec.ofBool (BitVec.ofNat 32 e.val == BitVec.ofNat 32 e.val) = 1#1
    rw [beq_self_eq_true]
    rfl

end Cert.KernelIdeal.Body
end
-- ==== Proof.KernelIdealOk.lean ====
/-
  The blocks of the weights that the region visits: at every grid point they lie inside their arrays, and where the
  body uses them they are those of the live expert at hand.
-/
module

public import proofs.«01_k».proof.Proof.KernelIdealTable
public import proofs.«01_k».proof.Proof.KernelIdealBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- A table of `n` live experts, the `k`-th of which is `σ k`. -/
structure Tab (T : IVec S8 32) (n : ℕ) (σ : Fin 7 → Fin 7) : Prop where
  n_le : n ≤ 7
  num : ∀ j : S8.Idx, (j 0).val = 7 → T j = BitVec.ofNat 32 n
  entry : ∀ (j : S8.Idx) (h : (j 0).val < 7), ∃ e : Fin 7, T j = BitVec.ofNat 32 e.val ∧ ((j 0).val < n → e = σ ⟨(j 0).val, h⟩)

/-- The region's table is one. -/
theorem tab (m : (ℓ : Loc nD τ sig) → Buf (Elt F) ℓ) (c : Dev nD) (b : Fin 7 → BitVec 1)
    (hb : b = flags (usedV (shapeCast S48x2 (m ((c : Thread nD τ).loc main_arg5)) shapeCasts_S48x1x2_S48x2))) :
    Tab (V m c main_v25) (Order.num b) (Order.sig b) := by
  subst hb
  obtain ⟨a, h⟩ := V_act m c
  rw [h]
  exact ⟨Order.num_le _, actV_num _ _, actV_apply _ _⟩

/-- The column of the gate's blocks. -/
def colG (a b n : ℕ) : BitVec 32 :=
  Scalar.select (Scalar.cmpi .slt (BitVec.ofNat 32 a) (BitVec.ofNat 32 n)) (Scalar.minsi (BitVec.ofNat 32 b) 4#32) 4#32

/-- Whether the second matmul's blocks still are those of the expert before. -/
def lag (a b n : ℕ) : BitVec 1 :=
  Scalar.andi (Scalar.andi (Scalar.cmpi .slt (BitVec.ofNat 32 b) 4#32) (Scalar.cmpi .sgt (BitVec.ofNat 32 a) 0#32))
    (Scalar.cmpi .slt (BitVec.ofNat 32 a) (BitVec.ofNat 32 n))

/-- The column of the second matmul's blocks. -/
def colD (a b n : ℕ) : BitVec 32 :=
  Scalar.select (Scalar.cmpi .slt (BitVec.ofNat 32 a) (BitVec.ofNat 32 n))
    (Scalar.select (lag a b n) 3#32 (Scalar.maxsi (Scalar.subi (BitVec.ofNat 32 b) 5#32) 0#32)) 3#32

theorem colG_table : ∀ (a : Fin 7) (b : Fin 9) (n : Fin 8), ∃ k : Fin 5, colG a b n = BitVec.ofNat 32 k.val ∧ (a.val < n.val → b.val < 5 → k.val = b.val) := by
  decide +kernel

theorem colD_table : ∀ (a : Fin 7) (b : Fin 9) (n : Fin 8), ∃ k : Fin 4, colD a b n = BitVec.ofNat 32 k.val ∧
    (a.val < n.val → 5 ≤ b.val → k.val = b.val - 5 ∧ lag a b n = 0#1) := by
  decide +kernel

theorem off1_val : ∀ a : Fin 7, (Scalar.indexCast (BitVec.ofNat 32 a.val)).toNat = a.val := by decide +kernel

theorem off2_lt : ∀ a : Fin 7, (Scalar.indexCast (Scalar.maxsi (Scalar.subi (BitVec.ofNat 32 a.val) 1#32) 0#32)).toNat < 7 := by decide +kernel

variable {pf : pre0.Contents (Elt F)} {n : ℕ} {σ : Fin 7 → Fin 7}

/-- One entry of the table, as a place. -/
theorem emb8 (off : Fin 1 → ℕ) (inb : ∀ a, off a + S1.size a ≤ S8.size a) (h : off 0 < 8) (j : S1.Idx) :
    (Rect.unit (s := S8) off S1.size inb).emb j = (Shape.Idx.ofFin ⟨off 0, h⟩ : S8.Idx) := by
  refine (Shape.Idx.eq_ofFin (n := 8) _).trans (congrArg _ (Fin.ext ?_))
  have h1 : (j 0).val < 1 := (j 0).isLt
  have h2 : ((Rect.unit (s := S8) off S1.size inb).emb j 0).val = off 0 + 1 * (j 0).val := Rect.emb_apply _ _ _
  rw [h2]
  show _ = off 0
  omega

/-- One entry of the table, read as the index maps read it. -/
theorem at_eq (off : Fin 1 → ℕ) (inb : ∀ a, off a + S1.size a ≤ S8.size a) (h : off 0 < 8) :
    pf.at 0 (Rect.unit (s := S8) off S1.size inb) numel1_S1 = pf 0 (Shape.Idx.ofFin ⟨off 0, h⟩ : S8.Idx) :=
  congrArg (pf 0) (emb8 off inb h _)

/-- One entry of the table, read as the body reads it. -/
theorem tword_eq (T : IVec S8 32) (off : Fin 1 → ℕ) (inb : ∀ a, off a + S1.size a ≤ S8.size a) (h : off 0 < 8) :
    tword (F := F) T off inb = T (Shape.Idx.ofFin ⟨off 0, h⟩ : S8.Idx) :=
  congrArg T (emb8 off inb h _)

/-- The blocks of the gate and up weights, and of their scales. -/
theorem gate_blocks (hT : Tab (pf 0) n σ) (i : grid0.Coords) : ∃ (e : Fin 7) (k : Fin 5),
    cc0_transform_1 inb_S8_S1_7 numel1_S1 k0_off1_inb pf i = ![e.val, 0, k.val] ∧
    cc0_transform_2 inb_S8_S1_7 numel1_S1 k0_off1_inb pf i = ![e.val, 0, k.val + 5] ∧
    cc0_transform_3 inb_S8_S1_7 numel1_S1 k0_off1_inb pf i = ![e.val, 0, k.val] ∧
    cc0_transform_4 inb_S8_S1_7 numel1_S1 k0_off1_inb pf i = ![e.val, 0, k.val + 5] ∧
    ((i 0).val < n → (i 1).val < 5 → e = σ (i 0) ∧ k.val = (i 1).val) := by
  have h7 : pf.at 0 (Rect.unit (s := S8) ![7] S1.size inb_S8_S1_7) numel1_S1 = BitVec.ofNat 32 n := hT.num _ rfl
  have hoff : k0_off1 i 0 = (i 0).val := off1_val (i 0)
  have h8 : k0_off1 i 0 < 8 := hoff ▸ (i 0).isLt.trans (by decide)
  have ha : ((Shape.Idx.ofFin (⟨k0_off1 i 0, h8⟩ : Fin 8) : S8.Idx) 0).val < 7 := (hoff ▸ (i 0).isLt : k0_off1 i 0 < 7)
  obtain ⟨e, he, hes⟩ := hT.entry _ ha
  replace he := (at_eq (pf := pf) (k0_off1 i) (k0_off1_inb i) h8).trans he
  obtain ⟨k, hk, hks⟩ := colG_table (i 0) (i 1) ⟨n, by have := hT.n_le; omega⟩
  have hG : Scalar.select (Scalar.cmpi .slt (BitVec.ofNat 32 (i 0).val) (pf.at 0 (Rect.unit (s := S8) ![7] S1.size inb_S8_S1_7) numel1_S1))
      (Scalar.minsi (BitVec.ofNat 32 (i 1).val) 4#32) 4#32 = BitVec.ofNat 32 k.val := by
    rw [h7]; exact hk
  have hev : (BitVec.ofNat 32 e.val).toNat = e.val := by rw [BitVec.toNat_ofNat]; omega
  have hk0 : (Scalar.addi (BitVec.ofNat 32 k.val) 0#32).toNat = k.val := (by decide +kernel : ∀ k : Fin 5, (Scalar.addi (BitVec.ofNat 32 k.val) 0#32).toNat = k.val) k
  have hk5 : (Scalar.addi (BitVec.ofNat 32 k.val) 5#32).toNat = k.val + 5 := (by decide +kernel : ∀ k : Fin 5, (Scalar.addi (BitVec.ofNat 32 k.val) 5#32).toNat = k.val + 5) k
  have hsig : (i 0).val < n → (i 1).val < 5 → e = σ (i 0) ∧ k.val = (i 1).val := fun h1 h2 =>
    ⟨(hes (hoff.trans_lt h1)).trans (congrArg σ (Fin.ext hoff)), hks h1 h2⟩
  refine ⟨e, k, ?_, ?_, ?_, ?_, hsig⟩
  · exact congrArg₂ (fun x y : BitVec 32 => ![x.toNat, 0, (Scalar.addi y 0#32).toNat]) he hG |>.trans (by rw [hev, hk0])
  · exact congrArg₂ (fun x y : BitVec 32 => ![x.toNat, 0, (Scalar.addi y 5#32).toNat]) he hG |>.trans (by rw [hev, hk5])
  · exact congrArg₂ (fun x y : BitVec 32 => ![x.toNat, 0, (Scalar.addi y 0#32).toNat]) he hG |>.trans (by rw [hev, hk0])
  · exact congrArg₂ (fun x y : BitVec 32 => ![x.toNat, 0, (Scalar.addi y 5#32).toNat]) he hG |>.trans (by rw [hev, hk5])

/-- The blocks of the second matmul's weights, and of their scales. -/
theorem down_blocks (hT : Tab (pf 0) n σ) (i : grid0.Coords) : ∃ (e : Fin 7) (k : Fin 4),
    cc0_transform_5 k0_off2_inb numel1_S1 inb_S8_S1_7 k0_off1_inb pf i = ![e.val, 0, k.val] ∧
    cc0_transform_6 k0_off2_inb numel1_S1 inb_S8_S1_7 k0_off1_inb pf i = ![e.val, 0, k.val] ∧
    ((i 0).val < n → 5 ≤ (i 1).val → e = σ (i 0) ∧ k.val = (i 1).val - 5) := by
  have h7 : pf.at 0 (Rect.unit (s := S8) ![7] S1.size inb_S8_S1_7) numel1_S1 = BitVec.ofNat 32 n := hT.num _ rfl
  have hoff : k0_off1 i 0 = (i 0).val := off1_val (i 0)
  have h8 : k0_off1 i 0 < 8 := hoff ▸ (i 0).isLt.trans (by decide)
  have ha : ((Shape.Idx.ofFin (⟨k0_off1 i 0, h8⟩ : Fin 8) : S8.Idx) 0).val < 7 := (hoff ▸ (i 0).isLt : k0_off1 i 0 < 7)
  obtain ⟨e, he, hes⟩ := hT.entry _ ha
  replace he := (at_eq (pf := pf) (k0_off1 i) (k0_off1_inb i) h8).trans he
  have hoff2 : k0_off2 i 0 < 7 := off2_lt (i 0)
  have h8' : k0_off2 i 0 < 8 := hoff2.trans (by decide)
  have ha' : ((Shape.Idx.ofFin (⟨k0_off2 i 0, h8'⟩ : Fin 8) : S8.Idx) 0).val < 7 := hoff2
  obtain ⟨e', he', -⟩ := hT.entry _ ha'
  replace he' := (at_eq (pf := pf) (k0_off2 i) (k0_off2_inb i) h8').trans he'
  obtain ⟨k, hk, hks⟩ := colD_table (i 0) (i 1) ⟨n, by have := hT.n_le; omega⟩
  have hev : ∀ e : Fin 7, (BitVec.ofNat 32 e.val).toNat = e.val := by decide +kernel
  have hkv : (BitVec.ofNat 32 k.val).toNat = k.val := by rw [BitVec.toNat_ofNat]; omega
  have key : ∀ x y w : BitVec 32, x = BitVec.ofNat 32 n → y = BitVec.ofNat 32 e.val → w = BitVec.ofNat 32 e'.val →
      (![(Scalar.select (Scalar.andi (Scalar.andi (Scalar.cmpi .slt (BitVec.ofNat 32 (i 1).val) 4#32) (Scalar.cmpi .sgt (BitVec.ofNat 32 (i 0).val) 0#32))
          (Scalar.cmpi .slt (BitVec.ofNat 32 (i 0).val) x)) w y).toNat, (0#32).toNat,
        (Scalar.select (Scalar.cmpi .slt (BitVec.ofNat 32 (i 0).val) x)
          (Scalar.select (Scalar.andi (Scalar.andi (Scalar.cmpi .slt (BitVec.ofNat 32 (i 1).val) 4#32) (Scalar.cmpi .sgt (BitVec.ofNat 32 (i 0).val) 0#32))
            (Scalar.cmpi .slt (BitVec.ofNat 32 (i 0).val) x)) 3#32 (Scalar.maxsi (Scalar.subi (BitVec.ofNat 32 (i 1).val) 5#32) 0#32)) 3#32).toNat] : Fin 3 → ℕ)
        = ![(if lag (i 0).val (i 1).val n = 1#1 then e' else e).val, 0, k.val] := by
    rintro x y w rfl rfl rfl
    have h1 : (Scalar.select (lag (i 0).val (i 1).val n) (BitVec.ofNat 32 e'.val) (BitVec.ofNat 32 e.val)).toNat
        = (if lag (i 0).val (i 1).val n = 1#1 then e' else e).val := by
      have hb : ∀ b : BitVec 1, (Scalar.select b (BitVec.ofNat 32 e'.val) (BitVec.ofNat 32 e.val)).toNat = (if b = 1#1 then e' else e).val := by
        intro b
        by_cases h : b = 1#1
        · rw [if_pos h, h]; exact hev e'
        · have h0 : b = 0#1 := (by decide : ∀ b : BitVec 1, ¬b = 1#1 → b = 0#1) b h
          rw [if_neg h, h0]; exact hev e
      exact hb _
    have h2 : (colD (i 0).val (i 1).val n).toNat = k.val := (congrArg BitVec.toNat hk).trans hkv
    exact congrArg₂ (fun p q : ℕ => ![p, 0, q]) h1 h2
  refine ⟨if lag (i 0).val (i 1).val n = 1#1 then e' else e, k, key _ _ _ h7 he he', key _ _ _ h7 he he', fun h1 h2 => ?_⟩
  obtain ⟨hk', hl⟩ := hks h1 h2
  rw [if_neg (by rw [hl]; decide)]
  exact ⟨(hes (hoff.trans_lt h1)).trans (congrArg σ (Fin.ext hoff)), hk'⟩

theorem blk_w1 : ∀ (e : Fin 7) (k : Fin 10), ∃ h : (∀ a, ((![e.val, 0, k.val] : Fin 3 → ℕ) a + 1) * S1x2048x1280.size a ≤ S7x2048x12800.size a),
    EltTy.bits .i8 = 32 ∨ (Rect.block (s := S7x2048x12800) S1x2048x1280.size ![e.val, 0, k.val] h).WholeWords (EltTy.packing .i8) := by
  decide +kernel

theorem blk_s1 : ∀ (e : Fin 7) (k : Fin 10), ∃ h : (∀ a, ((![e.val, 0, k.val] : Fin 3 → ℕ) a + 1) * S1x32x1280.size a ≤ S7x32x12800.size a),
    EltTy.bits .bf16 = 32 ∨ (Rect.block (s := S7x32x12800) S1x32x1280.size ![e.val, 0, k.val] h).WholeWords (EltTy.packing .bf16) := by
  decide +kernel

theorem blk_w2 : ∀ (e : Fin 7) (k : Fin 4), ∃ h : (∀ a, ((![e.val, 0, k.val] : Fin 3 → ℕ) a + 1) * S1x3200x1024.size a ≤ S7x3200x4096.size a),
    EltTy.bits .i8 = 32 ∨ (Rect.block (s := S7x3200x4096) S1x3200x1024.size ![e.val, 0, k.val] h).WholeWords (EltTy.packing .i8) := by
  decide +kernel

theorem blk_s2 : ∀ (e : Fin 7) (k : Fin 4), ∃ h : (∀ a, ((![e.val, 0, k.val] : Fin 3 → ℕ) a + 1) * S1x50x1024.size a ≤ S7x50x4096.size a),
    EltTy.bits .bf16 = 32 ∨ (Rect.block (s := S7x50x4096) S1x50x1024.size ![e.val, 0, k.val] h).WholeWords (EltTy.packing .bf16) := by
  decide +kernel

/-- Every block lies inside its array. -/
theorem ok_of_tab (hT : Tab (pf 0) n σ) : ok0 pf := by
  unfold ok0
  refine ⟨fun i => ?_, fun i => ?_, fun i => ?_, fun i => ?_, fun i => ?_, fun i => ?_⟩
  · obtain ⟨e, k, h, -⟩ := gate_blocks hT i
    rw [h]; exact blk_w1 e ⟨k.val, by omega⟩
  · obtain ⟨e, k, -, h, -⟩ := gate_blocks hT i
    rw [h]; exact blk_w1 e ⟨k.val + 5, by omega⟩
  · obtain ⟨e, k, -, -, h, -⟩ := gate_blocks hT i
    rw [h]; exact blk_s1 e ⟨k.val, by omega⟩
  · obtain ⟨e, k, -, -, -, h, -⟩ := gate_blocks hT i
    rw [h]; exact blk_s1 e ⟨k.val + 5, by omega⟩
  · obtain ⟨e, k, h, -⟩ := down_blocks hT i
    rw [h]; exact blk_w2 e k
  · obtain ⟨e, k, -, h, -⟩ := down_blocks hT i
    rw [h]; exact blk_s2 e k

end Cert.KernelIdeal.Body
end
-- ==== Proof.KernelIdealState.lean ====
/-
  What the two scratches hold between grid points: the `h` columns of the expert at hand that are already made, and
  the sum over the experts already done.
-/
module

public import proofs.«01_k».proof.Proof.KernelIdealCols
public import proofs.«01_k».proof.Proof.KernelIdealOk
public import proofs.«01_k».proof.Proof.KernelIdealKit

@[expose] public section

set_option maxRecDepth 16384

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-- The grid point of slot `i` and column `j`. -/
def pt (i : Fin 7) (j : Fin 9) : Fin 63 := ⟨9 * i.val + j.val, by omega⟩

/-- A point's two coordinates. -/
theorem coord0 : ∀ t : Fin 63, ((grid0.coords t) 0).val = t.val / 9 := by decide +kernel
theorem coord1 : ∀ t : Fin 63, ((grid0.coords t) 1).val = t.val % 9 := by decide +kernel

/-- The slot's expert is live, as the body computes it. -/
def live (i : ℕ) (v0 : BitVec 32) : Prop := Scalar.cmpi .slt (BitVec.ofNat 32 i) v0 = 1#1

theorem cond2_iff (i : grid0.Coords) (v0 : BitVec 32) : k0_cond2 i v0 = 1#1 ↔ live (i 0).val v0 ∧ (i 1).val < 5 := by
  have key : ∀ (p : BitVec 1) (n : Fin 9),
      Scalar.cmpi .ne (Scalar.extui (Scalar.andi p (Scalar.cmpi .slt (BitVec.ofNat 32 n.val) 5#32)) : BitVec 32) 0#32 = 1#1
        ↔ p = 1#1 ∧ n.val < 5 := by decide
  exact key _ ⟨(i 1).val, (i 1).isLt⟩
theorem cond3_iff (i : grid0.Coords) (v0 : BitVec 32) : k0_cond3 i v0 = 1#1 ↔ live (i 0).val v0 ∧ 5 ≤ (i 1).val := by
  have key : ∀ (p : BitVec 1) (n : Fin 9),
      Scalar.cmpi .ne (Scalar.extui (Scalar.andi p (Scalar.cmpi .sge (BitVec.ofNat 32 n.val) 5#32)) : BitVec 32) 0#32 = 1#1
        ↔ p = 1#1 ∧ 5 ≤ n.val := by decide
  exact key _ ⟨(i 1).val, (i 1).isLt⟩

/-- The zeroing happens at the first point. -/
theorem isFirst_zero : ∀ t : Fin 63, isFirst (grid0.coords t) ↔ t.val = 0 := by
  unfold isFirst
  decide +kernel
/-- The quantiser runs at the last point. -/
theorem cond4_last : ∀ t : Fin 63, k0_cond4 (grid0.coords t) = 1#1 ↔ t.val = 62 := by decide +kernel

/-- What the inputs' blocks are at every point. -/
structure Ins (F : FTy → Type) where
  T : Vec F S8 .i32
  x : Fin 63 → Vec F S48x4096 .bf16
  wg : Fin 63 → Vec F S1x2048x1280 .i8
  wu : Fin 63 → Vec F S1x2048x1280 .i8
  sg : Fin 63 → Vec F S1x32x1280 .bf16
  su : Fin 63 → Vec F S1x32x1280 .bf16
  w : Fin 63 → Vec F S1x3200x1024 .i8
  s : Fin 63 → Vec F S1x50x1024 .bf16
  ids : Fin 63 → Vec F S48x2 .i32
  ew : Fin 63 → Vec F S48x2 .f32

variable (I : Ins F)

/-- The number of live experts, and the expert of a point's slot, as the body reads them. -/
abbrev Ins.n : Elt F .i32 := tword I.T ![7] inb_S8_S1_7
abbrev Ins.e (t : Fin 63) : Elt F .i32 := tword I.T (k0_off4 (grid0.coords t)) (k0_off4_inb (grid0.coords t))

/-- All `h` columns of slot `i`'s expert. -/
def Hval (i : Fin 7) : Vec F S48x6400 .bf16 := fun y =>
  have h6 : (y 1).val < 6400 := (y 1).isLt
  let t := pt i ⟨(y 1).val / 1280, by omega⟩
  hblock (I.x t) (I.wg t) (I.wu t) (I.sg t) (I.su t) ⟨(y 0).val, (y 0).isLt⟩ ((y 1).val - 1280 * ((y 1).val / 1280)) (by omega)

/-- A step of the accumulator at point `t`. -/
def nextA (t : Fin 63) (A : Vec F S48x4096 .f32) : Vec F S48x4096 .f32 :=
  stepA (grid0.coords t) I.n (I.e t) (I.ids t) (I.ew t) (Hval I ⟨t.val / 9, by omega⟩) (I.w t) (I.s t) (stepZ (grid0.coords t) A)

/-- The accumulator before point `t`. -/
def Adet : ℕ → Vec F S48x4096 .f32
  | 0 => k0_pay1
  | t + 1 => if h : t < 63 then nextA I ⟨t, h⟩ (Adet t) else Adet t

/-- What holds before point `t`. -/
structure Inv (t : ℕ) (H : Vec F S48x6400 .bf16) (A : Vec F S48x4096 .f32) : Prop where
  acc : t ≠ 0 → A = Adet I t
  cols : ∀ i : Fin 7, i.val = t / 9 → live i.val I.n → ∀ y : S48x6400.Idx, (y 1).val < 1280 * min (t % 9) 5 → H y = Hval I i y

/-- The `h` columns after a point of slot `i`, from those before. -/
theorem cols_step (t : Fin 63) (H : Vec F S48x6400 .bf16) (i : Fin 7) (hi : i.val = t.val / 9) (hl : live i.val I.n)
    (h : ∀ y : S48x6400.Idx, (y 1).val < 1280 * min (t.val % 9) 5 → H y = Hval I i y) (y : S48x6400.Idx)
    (hy : (y 1).val < 1280 * min (t.val % 9 + 1) 5) :
    stepH (grid0.coords t) I.n (I.x t) (I.wg t) (I.wu t) (I.sg t) (I.su t) H y = Hval I i y := by
  have c0 := coord0 t
  have c1 := coord1 t
  unfold stepH
  by_cases hj : t.val % 9 < 5
  · rw [if_pos ((cond2_iff _ _).mpr ⟨by rw [c0, ← hi]; exact hl, by rw [c1]; exact hj⟩), fillV_apply]
    by_cases hb : 1280 * (t.val % 9) ≤ (y 1).val
    · have hm : min (t.val % 9 + 1) 5 = t.val % 9 + 1 := by omega
      rw [hm] at hy
      rw [dif_pos (by rw [c1]; omega)]
      unfold Hval
      have hq : (y 1).val / 1280 = t.val % 9 := by omega
      have ht : pt i ⟨(y 1).val / 1280, by omega⟩ = t := Fin.ext (by show 9 * i.val + (y 1).val / 1280 = t.val; omega)
      simp only [ht]
      congr 1
      rw [c1, hq]
    · rw [dif_neg (by rw [c1]; omega)]
      exact h y (by omega)
  · rw [if_neg (fun hc => hj (by have := ((cond2_iff _ _).mp hc).2; omega))]
    exact h y (by omega)

/-- The invariant through a point. -/
theorem inv_step (t : Fin 63) (H : Vec F S48x6400 .bf16) (A : Vec F S48x4096 .f32) (h : Inv I t.val H A) :
    Inv I (t.val + 1) (stepH (grid0.coords t) I.n (I.x t) (I.wg t) (I.wu t) (I.sg t) (I.su t) H)
      (stepA (grid0.coords t) I.n (I.e t) (I.ids t) (I.ew t)
        (stepH (grid0.coords t) I.n (I.x t) (I.wg t) (I.wu t) (I.sg t) (I.su t) H) (I.w t) (I.s t) (stepZ (grid0.coords t) A)) := by
  have c0 := coord0 t
  have c1 := coord1 t
  refine ⟨fun _ => ?_, fun i hi hl y hy => ?_⟩
  · have hz : stepZ (grid0.coords t) A = stepZ (grid0.coords t) (Adet I t.val) := by
      by_cases h0 : t.val = 0
      · unfold stepZ; rw [if_pos ((isFirst_zero t).mpr h0), if_pos ((isFirst_zero t).mpr h0)]
      · rw [h.acc h0]
    show _ = if h : t.val < 63 then nextA I ⟨t.val, h⟩ (Adet I t.val) else Adet I t.val
    rw [dif_pos t.isLt, hz]
    unfold nextA stepA
    by_cases h3 : k0_cond3 (grid0.coords t) I.n = 1#1
    · rw [dif_pos h3, dif_pos h3]
      obtain ⟨hl, h5⟩ := (cond3_iff _ _).mp h3
      rw [c0] at hl
      have hH : stepH (grid0.coords t) I.n (I.x t) (I.wg t) (I.wu t) (I.sg t) (I.su t) H = Hval I ⟨t.val / 9, by omega⟩ :=
        funext fun y => cols_step I t H ⟨t.val / 9, by omega⟩ rfl hl (h.cols ⟨t.val / 9, by omega⟩ rfl hl) y (by
          have h6 : (y 1).val < 6400 := (y 1).isLt
          omega)
      rw [hH]
    · rw [dif_neg h3, dif_neg h3]
  · by_cases h8 : t.val % 9 = 8
    · exfalso; have : (t.val + 1) % 9 = 0 := by omega
      rw [this] at hy; simp at hy
    · have hi' : i.val = t.val / 9 := by omega
      have hm : (t.val + 1) % 9 = t.val % 9 + 1 := by omega
      rw [hm] at hy
      exact cols_step I t H i hi' hl (h.cols i hi' hl) y hy

/-- It holds before the first point whatever the scratches hold. -/
theorem inv_zero (H : Vec F S48x6400 .bf16) (A : Vec F S48x4096 .f32) : Inv I 0 H A :=
  ⟨fun h => absurd rfl h, fun _ _ _ y hy => by simp at hy⟩

end Cert.KernelIdeal.Body
end
-- ==== Proof.KernelIdealRun.lean ====
/-
  The run of `KernelIdeal`: the pipeline's proof data, the body at every point, and what the launch leaves in memory.
-/
module

public import proofs.«01_k».proof.Proof.KernelIdealState

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flags of the experts that some token chose. -/
def seen (c : Dev nD) : Fin 7 → BitVec 1 := flags (usedV (shapeCast S48x2 (m ((c : Thread nD τ).loc main_arg5)) shapeCasts_S48x1x2_S48x2))

/-- The blocks of every window lie inside their arrays, whatever the inputs. -/
theorem ok : Ok m := ok_of_tab (tab m 0 (seen m 0) rfl)

/-- A number as a grid point. -/
abbrev at_ (t : Fin 63) : Fin grid0.N := t.cast N_0.symm

/-- The inputs' blocks as the region finds them. -/
def ins (hO : Ok m) (c : Dev nD) : Ins F where
  T := tbl m 0
  x t := iblk m hO c 0 (at_ t)
  wg t := iblk m hO c 1 (at_ t)
  wu t := iblk m hO c 2 (at_ t)
  sg t := iblk m hO c 3 (at_ t)
  su t := iblk m hO c 4 (at_ t)
  w t := iblk m hO c 5 (at_ t)
  s t := iblk m hO c 6 (at_ t)
  ids t := iblk m hO c 7 (at_ t)
  ew t := iblk m hO c 8 (at_ t)

/-- The accumulator after the last point. -/
def accEnd (hO : Ok m) (c : Dev nD) : Vec F S48x4096 .f32 := Adet (ins m hO c) 63

/-- What holds between points: the scratches at contents the invariant describes, the generator's register, the table. -/
def phi (I : Ins F) (c : Dev nD) (t : ℕ) : sProp 𝕄 :=
  iprop(∃ H A, ⌜Inv I t H A⌝ ∗ owns (c : Thread nD τ) (Memref.whole cc0_scratch0) fullShare H
    ∗ owns (c : Thread nD τ) (Memref.whole cc0_scratch1) fullShare A ∗ (∃ r, prngReg c r)
    ∗ owns (c : Thread nD τ) (Memref.whole main_v25) fullShare.right I.T)

set_option maxHeartbeats 1000000 in
/-- The body at any point, the inputs' blocks given. -/
theorem body_mid (a : (pcfg0 (F := F)).Adm) (I : Ins F) (c : Dev nD) (t : Fin (cfg0 a).N) (R : sProp 𝕄)
    (C : Vec F S48x4096 .fp8e4m3) (S : Vec F S48x32 .f32) :
    iprop(phi I c t.val ∗ R ∗ owns (c : Thread nD τ) (st0_0 a t) fullShare (I.x t) ∗ owns (c : Thread nD τ) (st0_1 a t) fullShare (I.wg t) ∗ owns (c : Thread nD τ) (st0_2 a t) fullShare (I.wu t) ∗ owns (c : Thread nD τ) (st0_3 a t) fullShare (I.sg t) ∗ owns (c : Thread nD τ) (st0_4 a t) fullShare (I.su t) ∗ owns (c : Thread nD τ) (st0_5 a t) fullShare (I.w t) ∗ owns (c : Thread nD τ) (st0_6 a t) fullShare (I.s t) ∗ owns (c : Thread nD τ) (st0_7 a t) fullShare (I.ids t) ∗ owns (c : Thread nD τ) (st0_8 a t) fullShare (I.ew t) ∗ owns (c : Thread nD τ) (st0_9 a t) fullShare C ∗ owns (c : Thread nD τ) (st0_10 a t) fullShare S)
      ⊢ wp frame (wpE (defs₀ (F := F)) Variants.none c none) Set.univ (bodyAt0 a t) (fun _ =>
        iprop(phi I c (t.val + 1) ∗ R ∗ owns (c : Thread nD τ) (st0_0 a t) fullShare (I.x t) ∗ owns (c : Thread nD τ) (st0_1 a t) fullShare (I.wg t) ∗ owns (c : Thread nD τ) (st0_2 a t) fullShare (I.wu t) ∗ owns (c : Thread nD τ) (st0_3 a t) fullShare (I.sg t) ∗ owns (c : Thread nD τ) (st0_4 a t) fullShare (I.su t) ∗ owns (c : Thread nD τ) (st0_5 a t) fullShare (I.w t) ∗ owns (c : Thread nD τ) (st0_6 a t) fullShare (I.s t) ∗ owns (c : Thread nD τ) (st0_7 a t) fullShare (I.ids t) ∗ owns (c : Thread nD τ) (st0_8 a t) fullShare (I.ew t) ∗ owns (c : Thread nD τ) (st0_9 a t) fullShare (stepC (grid0.coords t) (Adet I (t.val + 1)) C) ∗ owns (c : Thread nD τ) (st0_10 a t) fullShare (stepS (grid0.coords t) (Adet I (t.val + 1)) S))) := by
  unfold phi bodyAt0
  iintro ⟨⟨%H, %A, %hI, HH, HA, Hr, HT⟩, Ho, H0, H1, H2, H3, H4, H5, H6, H7, H8, H9, H10⟩
  have hn := inv_step I t H A hI
  have hA := hn.acc (by omega)
  iapply (body_run c Set.univ (grid0.coords t) _ _ _ _ _ _ _ _ _ _ _ _ _ _ _ _ _ _ _ _ _ _ _ _ _ _ _ _
    (I.x t) (I.wg t) (I.wu t) (I.sg t) (I.su t) H I.T (I.w t) (I.s t) (I.ids t) (I.ew t) A C S _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HH]; · iexact HH
  isplitl [HA]; · iexact HA
  rw [hA]
  iintro ⟨HT, H0, H1, H2, H3, H4, H5, H6, H7, H8, H9, H10, HH, HA⟩
  isplitl [HH HA Hr HT]
  · iexists _; iexists _; isplitr
    · ipureintro; rw [hA] at hn; exact hn
    isplitl [HH]; · iexact HH
    isplitl [HA]; · iexact HA
    isplitl [Hr]; · iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => codesV (accEnd m hO c)
    | ⟨10, _⟩ => scalesV (accEnd m hO c)
  Φ t := phi (ins m hO c) c t.val
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := rfl
theorem after0_1 (hO : Ok m) (c : Dev nD) (t : Fin (cfgM m hO).N) : (dats m hO 0 c).after 1 t = iblk m hO c 1 t := rfl
theorem after0_2 (hO : Ok m) (c : Dev nD) (t : Fin (cfgM m hO).N) : (dats m hO 0 c).after 2 t = iblk m hO c 2 t := rfl
theorem after0_3 (hO : Ok m) (c : Dev nD) (t : Fin (cfgM m hO).N) : (dats m hO 0 c).after 3 t = iblk m hO c 3 t := rfl
theorem after0_4 (hO : Ok m) (c : Dev nD) (t : Fin (cfgM m hO).N) : (dats m hO 0 c).after 4 t = iblk m hO c 4 t := rfl
theorem after0_5 (hO : Ok m) (c : Dev nD) (t : Fin (cfgM m hO).N) : (dats m hO 0 c).after 5 t = iblk m hO c 5 t := rfl
theorem after0_6 (hO : Ok m) (c : Dev nD) (t : Fin (cfgM m hO).N) : (dats m hO 0 c).after 6 t = iblk m hO c 6 t := rfl
theorem after0_7 (hO : Ok m) (c : Dev nD) (t : Fin (cfgM m hO).N) : (dats m hO 0 c).after 7 t = iblk m hO c 7 t := rfl
theorem after0_8 (hO : Ok m) (c : Dev nD) (t : Fin (cfgM m hO).N) : (dats m hO 0 c).after 8 t = iblk m hO c 8 t := rfl
theorem after0_9 (hO : Ok m) (c : Dev nD) (t : Fin (cfgM m hO).N) : (dats m hO 0 c).after 9 t = codesV (accEnd m hO c) := rfl
theorem after0_10 (hO : Ok m) (c : Dev nD) (t : Fin (cfgM m hO).N) : (dats m hO 0 c).after 10 t = scalesV (accEnd m hO c) := rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d))
    ∗ (∃ d, owns (c : Thread nD τ) (st0_6 (adm m hO) t) fullShare ((dats m hO 0 c).before 6 t d))
    ∗ (∃ d, owns (c : Thread nD τ) (st0_7 (adm m hO) t) fullShare ((dats m hO 0 c).before 7 t d))
    ∗ (∃ d, owns (c : Thread nD τ) (st0_8 (adm m hO) t) fullShare ((dats m hO 0 c).before 8 t d))
    ∗ (∃ d, owns (c : Thread nD τ) (st0_9 (adm m hO) t) fullShare ((dats m hO 0 c).before 9 t d))
    ∗ (∃ d, owns (c : Thread nD τ) (st0_10 (adm m hO) t) fullShare ((dats m hO 0 c).before 10 t d)))

/-- A result's buffer after a point: what it held, but for the last point. -/
def outPost (hO : Ok m) (c : Dev nD) (t : Fin (cfgM m hO).N) (w : Fin (cfgM m hO).W) : sProp 𝕄 :=
  match (cfgM m hO).idle w ((cfgM m hO).grid.coords t) with
  | true =>
    match ((cfgM m hO).win w).flush t with
    | false => iprop(∃ d, owns (c : Thread nD τ) (((cfgM m hO).win w).stage ((cfgM m hO).slots t w)) fullShare ((dats m hO 0 c).before w t d))
    | true => owns (c : Thread nD τ) (((cfgM m hO).win w).stage ((cfgM m hO).slots t w)) fullShare ((dats m hO 0 c).after w t)
  | false => owns (c : Thread nD τ) (((cfgM m hO).win w).stage ((cfgM m hO).slots t w)) fullShare ((dats m hO 0 c).after w t)

/-- What the body returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0_0 (adm m hO) t) fullShare ((dats m hO 0 c).after 0 t)
    ∗ owns (c : Thread nD τ) (st0_1 (adm m hO) t) fullShare ((dats m hO 0 c).after 1 t)
    ∗ owns (c : Thread nD τ) (st0_2 (adm m hO) t) fullShare ((dats m hO 0 c).after 2 t)
    ∗ owns (c : Thread nD τ) (st0_3 (adm m hO) t) fullShare ((dats m hO 0 c).after 3 t)
    ∗ owns (c : Thread nD τ) (st0_4 (adm m hO) t) fullShare ((dats m hO 0 c).after 4 t)
    ∗ owns (c : Thread nD τ) (st0_5 (adm m hO) t) fullShare ((dats m hO 0 c).after 5 t)
    ∗ owns (c : Thread nD τ) (st0_6 (adm m hO) t) fullShare ((dats m hO 0 c).after 6 t)
    ∗ owns (c : Thread nD τ) (st0_7 (adm m hO) t) fullShare ((dats m hO 0 c).after 7 t)
    ∗ owns (c : Thread nD τ) (st0_8 (adm m hO) t) fullShare ((dats m hO 0 c).after 8 t)
    ∗ outPost m hO c t 9 ∗ outPost m hO c t 10)

/-- A memref that holds contents holds their equals. -/
theorem owns_to (c : Dev nD) {sp : Space} {sh : Shape} {e : EltTy} (M : Memref sig .tc sp sh e) {X Y : sh.Idx → Elt F e} (h : X = Y) :
    (owns (c : Thread nD τ) M fullShare X : sProp 𝕄) ⊢ owns (c : Thread nD τ) M fullShare Y := by
  subst h; exact .rfl

/-- The result windows are idle at every point but the last. -/
theorem idle9 (hO : Ok m) (t : Fin (cfgM m hO).N) : (cfgM m hO).idle 9 ((cfgM m hO).grid.coords t) = !(k0_cond4 (grid0.coords t) == 1#1) := rfl
theorem idle10 (hO : Ok m) (t : Fin (cfgM m hO).N) : (cfgM m hO).idle 10 ((cfgM m hO).grid.coords t) = !(k0_cond4 (grid0.coords t) == 1#1) := rfl

theorem outPost_9 (hO : Ok m) (c : Dev nD) (t : Fin (cfgM m hO).N) (d) :
    (owns (c : Thread nD τ) (st0_9 (adm m hO) t) fullShare (stepC (grid0.coords t) (Adet (ins m hO c) (t.val + 1)) ((dats m hO 0 c).before 9 t d)) : sProp 𝕄) ⊢ outPost m hO c t 9 := by
  unfold outPost
  rw [idle9]
  by_cases h : k0_cond4 (grid0.coords t) = 1#1
  · have e : stepC (grid0.coords t) (Adet (ins m hO c) (t.val + 1)) ((dats m hO 0 c).before 9 t d) = (dats m hO 0 c).after 9 t := by
      refine (if_pos h).trans ?_
      rw [(cond4_last t).mp h]; rfl
    rw [h]
    exact owns_to c (st0_9 (adm m hO) t) e
  · have ht : t.val ≠ 62 := fun e => h ((cond4_last t).mpr e)
    have hf : ((cfgM m hO).win 9).flush t = false := by
      rw [← Bool.not_eq_true, flush0_9]
      have := t.isLt; have e : (cfgM m hO).N = 63 := N_0
      omega
    have e : stepC (grid0.coords t) (Adet (ins m hO c) (t.val + 1)) ((dats m hO 0 c).before 9 t d) = (dats m hO 0 c).before 9 t d := if_neg h
    rw [hf, show (k0_cond4 (grid0.coords t) == 1#1) = false from by simpa using h]
    show _ ⊢ iprop(∃ d, owns (c : Thread nD τ) (st0_9 (adm m hO) t) fullShare ((dats m hO 0 c).before 9 t d))
    iintro H
    iexists d
    iapply (owns_to c (st0_9 (adm m hO) t) e)
    iexact H

theorem outPost_10 (hO : Ok m) (c : Dev nD) (t : Fin (cfgM m hO).N) (d) :
    (owns (c : Thread nD τ) (st0_10 (adm m hO) t) fullShare (stepS (grid0.coords t) (Adet (ins m hO c) (t.val + 1)) ((dats m hO 0 c).before 10 t d)) : sProp 𝕄) ⊢ outPost m hO c t 10 := by
  unfold outPost
  rw [idle10]
  by_cases h : k0_cond4 (grid0.coords t) = 1#1
  · have e : stepS (grid0.coords t) (Adet (ins m hO c) (t.val + 1)) ((dats m hO 0 c).before 10 t d) = (dats m hO 0 c).after 10 t := by
      refine (if_pos h).trans ?_
      rw [(cond4_last t).mp h]; rfl
    rw [h]
    exact owns_to c (st0_10 (adm m hO) t) e
  · have ht : t.val ≠ 62 := fun e => h ((cond4_last t).mpr e)
    have hf : ((cfgM m hO).win 10).flush t = false := by
      rw [← Bool.not_eq_true, flush0_10]
      have := t.isLt; have e : (cfgM m hO).N = 63 := N_0
      omega
    have e : stepS (grid0.coords t) (Adet (ins m hO c) (t.val + 1)) ((dats m hO 0 c).before 10 t d) = (dats m hO 0 c).before 10 t d := if_neg h
    rw [hf, show (k0_cond4 (grid0.coords t) == 1#1) = false from by simpa using h]
    show _ ⊢ iprop(∃ d, owns (c : Thread nD τ) (st0_10 (adm m hO) t) fullShare ((dats m hO 0 c).before 10 t d))
    iintro H
    iexists d
    iapply (owns_to c (st0_10 (adm m hO) t) e)
    iexact H

/-- An input's buffer holds its block. -/
theorem in_of (hO : Ok m) (c : Dev nD) (t : Fin (cfgM m hO).N) (w : Fin (cfgM m hO).W) (X)
    (h : ∀ d, (dats m hO 0 c).before w t d = X) :
    (iprop(∃ d, owns (c : Thread nD τ) (((cfgM m hO).win w).stage ((cfgM m hO).slots t w)) fullShare ((dats m hO 0 c).before w t d)) : sProp 𝕄)
      ⊢ owns (c : Thread nD τ) (((cfgM m hO).win w).stage ((cfgM m hO).slots t w)) fullShare X := by
  iintro ⟨%d, H⟩
  rw [h d]
  iexact H

/-- What the body leaves is what the pipeline asks of it. -/
theorem body_post (hO : Ok m) (c : Dev nD) (t : Fin (cfgM m hO).N) (d9) (d10) (_ : PUnit) :
    (iprop(phi (ins m hO c) c (t.val + 1) ∗ (dats m hO 0 c).owesAt () t.castSucc ∗ owns (c : Thread nD τ) (st0_0 (adm m hO) t) fullShare ((ins m hO c).x t) ∗ owns (c : Thread nD τ) (st0_1 (adm m hO) t) fullShare ((ins m hO c).wg t) ∗ owns (c : Thread nD τ) (st0_2 (adm m hO) t) fullShare ((ins m hO c).wu t) ∗ owns (c : Thread nD τ) (st0_3 (adm m hO) t) fullShare ((ins m hO c).sg t) ∗ owns (c : Thread nD τ) (st0_4 (adm m hO) t) fullShare ((ins m hO c).su t) ∗ owns (c : Thread nD τ) (st0_5 (adm m hO) t) fullShare ((ins m hO c).w t) ∗ owns (c : Thread nD τ) (st0_6 (adm m hO) t) fullShare ((ins m hO c).s t) ∗ owns (c : Thread nD τ) (st0_7 (adm m hO) t) fullShare ((ins m hO c).ids t) ∗ owns (c : Thread nD τ) (st0_8 (adm m hO) t) fullShare ((ins m hO c).ew t)
      ∗ owns (c : Thread nD τ) (st0_9 (adm m hO) t) fullShare (stepC (grid0.coords t) (Adet (ins m hO c) (t.val + 1)) ((dats m hO 0 c).before 9 t d9))
      ∗ owns (c : Thread nD τ) (st0_10 (adm m hO) t) fullShare (stepS (grid0.coords t) (Adet (ins m hO c) (t.val + 1)) ((dats m hO 0 c).before 10 t d10))) : sProp 𝕄)
      ⊢ bodyPost m hO c t := by
  unfold bodyPost
  rw [show (dats m hO 0 c).Φ t.succ = phi (ins m hO c) c (t.val + 1) from rfl]
  iintro ⟨HP, Ho, H0, H1, H2, H3, H4, H5, H6, H7, H8, H9, H10⟩
  isplitl [HP]; · iexact HP
  isplitl [Ho]; · iexact Ho
  isplitl [H0]; · iapply (owns_to c (st0_0 (adm m hO) t) (after0_0 m hO c t).symm); iexact H0
  isplitl [H1]; · iapply (owns_to c (st0_1 (adm m hO) t) (after0_1 m hO c t).symm); iexact H1
  isplitl [H2]; · iapply (owns_to c (st0_2 (adm m hO) t) (after0_2 m hO c t).symm); iexact H2
  isplitl [H3]; · iapply (owns_to c (st0_3 (adm m hO) t) (after0_3 m hO c t).symm); iexact H3
  isplitl [H4]; · iapply (owns_to c (st0_4 (adm m hO) t) (after0_4 m hO c t).symm); iexact H4
  isplitl [H5]; · iapply (owns_to c (st0_5 (adm m hO) t) (after0_5 m hO c t).symm); iexact H5
  isplitl [H6]; · iapply (owns_to c (st0_6 (adm m hO) t) (after0_6 m hO c t).symm); iexact H6
  isplitl [H7]; · iapply (owns_to c (st0_7 (adm m hO) t) (after0_7 m hO c t).symm); iexact H7
  isplitl [H8]; · iapply (owns_to c (st0_8 (adm m hO) t) (after0_8 m hO c t).symm); iexact H8
  isplitl [H9]; · iapply (outPost_9 m hO c t d9); iexact H9
  iapply (outPost_10 m hO c t d10); iexact H10

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  rw [show (dats m hO 0 c).Φ t.castSucc = phi (ins m hO c) c t.val from rfl]
  iintro ⟨HP, Ho, H0, H1, H2, H3, H4, H5, H6, H7, H8, ⟨%d9, H9⟩, ⟨%d10, H10⟩⟩
  iapply (wp_mono frame (wpE (defs₀ (F := F)) Variants.none c none) Set.univ (body_post m hO c t d9 d10))
  iapply (body_mid (adm m hO) (ins m hO c) c t ((dats m hO 0 c).owesAt () t.castSucc) ((dats m hO 0 c).before 9 t d9) ((dats m hO 0 c).before 10 t d10))
  isplitl [HP]; · iexact HP
  isplitl [Ho]; · iexact Ho
  isplitl [H0]; · iapply (in_of m hO c t 0 _ (before0_0 m hO c t)); iexact H0
  isplitl [H1]; · iapply (in_of m hO c t 1 _ (before0_1 m hO c t)); iexact H1
  isplitl [H2]; · iapply (in_of m hO c t 2 _ (before0_2 m hO c t)); iexact H2
  isplitl [H3]; · iapply (in_of m hO c t 3 _ (before0_3 m hO c t)); iexact H3
  isplitl [H4]; · iapply (in_of m hO c t 4 _ (before0_4 m hO c t)); iexact H4
  isplitl [H5]; · iapply (in_of m hO c t 5 _ (before0_5 m hO c t)); iexact H5
  isplitl [H6]; · iapply (in_of m hO c t 6 _ (before0_6 m hO c t)); iexact H6
  isplitl [H7]; · iapply (in_of m hO c t 7 _ (before0_7 m hO c t)); iexact H7
  isplitl [H8]; · iapply (in_of m hO c t 8 _ (before0_8 m hO c t)); iexact H8
  isplitl [H9]; · iexact H9
  iexact H10

/-- The body table's row at point `t`'s slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row]
  exact triple_restated (sound_body m hO c t) rfl .rfl fun _ => .rfl

end Cert.KernelIdeal.Body
end
-- ==== Proof.KernelIdealFrame.lean ====
/-
  The launch of `KernelIdeal`: from any memory every execution terminates, the argument arrays end unchanged, every
  semaphore is back at zero, and the two results are the codes and the scales of the accumulator after the last point.
-/
module

public import proofs.«01_k».proof.Proof.KernelIdealRun
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the first point. -/
theorem phi_in (hO : Ok m) (c : Dev nD) :
    (iprop(Pipeline.ΦA spec0 c ∗ Pipeline.ΦT pre0 (tbl m) c) : sProp 𝕄) ⊢ phi (ins m hO c) c 0 := by
  unfold Pipeline.ΦA phi
  rw [scopedRest0_eq, PhiT0_eq]
  simp only [owns_whole]
  iintro ⟨⟨⟨⟨%H, HH⟩, ⟨%A, HA⟩⟩, Hr⟩, HT⟩
  iexists H; iexists A
  isplitr
  · ipureintro; exact inv_zero _ _ _
  isplitl [HH]; · iexact HH
  isplitl [HA]; · iexact HA
  isplitl [Hr]; · iexact Hr
  iexact HT

/-- What the last point hands back. -/
theorem phi_out (hO : Ok m) (c : Dev nD) (t : ℕ) : (phi (ins m hO c) c t : sProp 𝕄) ⊢ Pipeline.ΦA spec0 c := by
  unfold Pipeline.ΦA phi
  rw [scopedRest0_eq]
  simp only [owns_whole]
  iintro ⟨%H, %A, %hI, HH, HA, Hr, HT⟩
  isplitl [HH HA]
  · isplitl [HH]
    · iexists H; iexact HH
    · iexists A; iexact HA
  iexact Hr

set_option backward.isDefEq.respectTransparency.types false in
set_option maxHeartbeats 800000 in
/-- The launch. -/
theorem run (hO : Ok m) : θ_run defs (onTc (τ := τ) (main (F := F))) (s₀ m ρ) (fun r =>
    (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl) (howed := fun _ _ => rfl) (V := V m)
    (hmain := hmain m Variants.none) (hA := A_eq m hO) (hpf := V_pre m) (hin := phi_in m hO) (hout := fun c => phi_out m hO c _)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (ok m) (dats m (ok m)) (A_eq m (ok m)) ((θ_run defs _ _).mono (fun _ h => h.1) (run m ρ (ok m))))
    ((θ_run defs _ _).mono (fun _ h => h.2) (run m ρ (ok m)))

/-- The last point. -/
def tEnd : Fin grid0.N := ⟨62, by rw [N_0]; omega⟩

/-- The codes are written back whole, once. -/
theorem whole9 (hO : Ok m) : ((cfgM m hO).win 9).WholeAt tEnd := by
  refine ⟨(flush0_9 (adm m hO) tEnd).mpr rfl, fun t h => ?_, fun a => ?_⟩
  · have h1 := (flush0_9 (adm m hO) t).mp h
    have h2 : t.val < 63 := lt_of_lt_of_eq t.isLt N_0
    exact Fin.ext (by show t.val = 62; omega)
  · match a with
    | ⟨0, _⟩ => exact ⟨rfl, rfl⟩
    | ⟨1, _⟩ => exact ⟨rfl, rfl⟩
/-- The scales are written back whole, once. -/
theorem whole10 (hO : Ok m) : ((cfgM m hO).win 10).WholeAt tEnd := by
  refine ⟨(flush0_10 (adm m hO) tEnd).mpr rfl, fun t h => ?_, fun a => ?_⟩
  · have h1 := (flush0_10 (adm m hO) t).mp h
    have h2 : t.val < 63 := lt_of_lt_of_eq t.isLt N_0
    exact Fin.ext (by show t.val = 62; omega)
  · match a with
    | ⟨0, _⟩ => exact ⟨rfl, rfl⟩
    | ⟨1, _⟩ => exact ⟨rfl, rfl⟩

theorem arr9 (hO : Ok m) (c : Dev nD) : (dats m hO 0 c).arrAt 9 (cfgM m hO).N = codesV (accEnd m hO c) :=
  (dats m hO 0 c).arrAt_eq_of_after_last 9 tEnd (whole9 m hO) _ fun j => rfl
theorem arr10 (hO : Ok m) (c : Dev nD) : (dats m hO 0 c).arrAt 10 (cfgM m hO).N = scalesV (accEnd m hO c) :=
  (dats m hO 0 c).arrAt_eq_of_after_last 10 tEnd (whole10 m hO) _ fun j => rfl

/-- The results: the codes and the scales of the accumulator after the last point. -/
theorem results : θ_run defs (onTc (τ := τ) (main (F := F))) ⟨m, fun _ => 0, ρ⟩ (fun r => ∀ c : Dev nD,
      r.2.mem ((c.tc : Thread nD τ).loc main_v27_0) = codesV (accEnd m (ok m) c)
      ∧ r.2.mem ((c.tc : Thread nD τ).loc main_v27_1) = scalesV (accEnd m (ok m) c)) :=
  (θ_run defs _ _).mono (fun _ h c => ⟨((h.1 c).1 9).trans (arr9 m (ok m) c), ((h.1 c).1 10).trans (arr10 m (ok m) c)⟩) (run m ρ (ok m))

end Cert.KernelIdeal.Body
end
-- ==== Proof.Power.lean ====
/-
  The block scale as a power of two, two ways: by counting the powers of two that a magnitude reaches, and by a table
  of the powers of two in which one entry fits. For the magnitudes of finite sums the two agree.
-/
module

public import Idealize.ShloMosaic.PureOps.Ideal.Laws
public import Idealize.ShloMosaic.Lib.IdealHost

@[expose] public section

noncomputable section

namespace Cert.Power

open Idealize.ShloMosaic
open scoped BigOperators

/-- The word whose exponent field is `k` and whose fraction is zero. -/
def word (k : ℕ) : BitVec 32 := BitVec.ofNat 32 k <<< 23

/-- A word with an exponent field from 1 to 254 reads as a power of two. -/
theorem ofBits_word (k : ℕ) (h1 : 1 ≤ k) (h2 : k ≤ 254) : Ideal.ofBits .f32 (word k) = (((2 : ℝ) ^ ((k : ℤ) - 127) : ℝ) : EReal) := by
  have key : ∀ k : Fin 255, ((word k.val).extractLsb' 31 1 == 1#1) = false ∧ ((word k.val).extractLsb' 23 8).toNat = k.val
      ∧ ((word k.val).extractLsb' 0 23).toNat = 0 := by decide +kernel
  obtain ⟨a, b, c⟩ := key ⟨k, by omega⟩
  simp only at a b c
  show Ideal.ieee 8 23 (word k) = _
  unfold Ideal.ieee
  simp only [show 8 + 23 = 31 from rfl, a, b, c]
  rw [if_neg (by omega), if_neg (by omega)]
  norm_num
  rw [show (8388608 : ℝ) = (2 : ℝ) ^ (23 : ℤ) by norm_num, ← EReal.coe_mul, ← zpow_add₀ (by norm_num : (2 : ℝ) ≠ 0)]
  rw [show (23 : ℤ) + ((k : ℤ) - 127 - 23) = (k : ℤ) - 127 by ring]

/-- A word with exponent field zero reads as zero. -/
theorem ofBits_word_zero : Ideal.ofBits .f32 (word 0) = 0 := Ideal.ofBits_zero_f32

/-- A word with exponent field 255 reads as infinity. -/
theorem ofBits_word_top : Ideal.ofBits .f32 (word 255) = ⊤ := by
  have a : ((word 255).extractLsb' 31 1 == 1#1) = false := by decide +kernel
  have b : ((word 255).extractLsb' 23 8).toNat = 255 := by decide +kernel
  have c : ((word 255).extractLsb' 0 23).toNat = 0 := by decide +kernel
  show Ideal.ieee 8 23 (word 255) = _
  unfold Ideal.ieee
  simp only [show 8 + 23 = 31 from rfl, a, b, c]
  norm_num

/-- The exponent field of a magnitude: how many of the 256 words are at most it, less one. -/
def expo (a : EReal) : BitVec 32 :=
  IntOp.subi (Finset.fold IntOp.addi (0#32)
    (fun x : Fin 256 => if a < Ideal.ofBits .f32 (IntOp.shli ArithUnit.vector (BitVec.ofNat 32 x.val) 23#32) then 0#32 else 1#32) Finset.univ) 1#32

/-- The scale's exponent. -/
def kexp (a : EReal) : BitVec 32 :=
  Scalar.select (IntOp.ori (IntOp.cmpi CmpIPredicate.eq (expo a) 0#32) (IntOp.cmpi CmpIPredicate.eq (expo a) 255#32)) (0#32)
    (IntOp.subi (expo a) 126#32)

/-- The scale by its exponent. -/
def scaleK (a : EReal) : EReal := Ideal.ofBits .f32 (IntOp.shli ArithUnit.vector (IntOp.addi (kexp a) 127#32) 23#32)

/-- The scale's reciprocal by its exponent. -/
def invK (a : EReal) : EReal := Ideal.ofBits .f32 (IntOp.shli ArithUnit.vector (IntOp.subi 127#32 (kexp a)) 23#32)

/-- Whether table entry `x` fits a magnitude. -/
def fits (p : Fin 253 → EReal) (a : EReal) (x : Fin 253) : BitVec 1 :=
  IntOp.andi (BitVec.ofBool (decide (p x * Ideal.ofBits .f32 1056964608#32 ≤ a))) (BitVec.ofBool (decide (a < p x)))

/-- The scale by the table. -/
def scaleT (p : Fin 253 → EReal) (a : EReal) : EReal :=
  Scalar.select (Finset.fold IntOp.ori (0#1) (fun x => fits p a x) Finset.univ) (∑ x, Scalar.select (fits p a x) (p x) 0) 1

/-- The words' starting points, in order. -/
theorem start_eq (x : Fin 256) : Ideal.ofBits .f32 (IntOp.shli ArithUnit.vector (BitVec.ofNat 32 x.val) 23#32)
    = Ideal.ofBits .f32 (word x.val) := rfl

/-- A fold by addition of words that are 0 or 1 is the count. -/
theorem fold_count (p : Fin 256 → Prop) [DecidablePred p] (S : Finset (Fin 256)) :
    S.fold IntOp.addi (0#32) (fun x => if p x then 0#32 else 1#32) = BitVec.ofNat 32 (∑ x ∈ S, if p x then 0 else 1) := by
  classical
  induction S using Finset.induction_on with
  | empty => rfl
  | insert a S ha ih =>
    rw [Finset.fold_insert ha, ih, Finset.sum_insert ha, BitVec.ofNat_add]
    show _ + _ = _
    congr 1
    split <;> rfl

/-- How many of the 256 fields are at most `E`. -/
theorem count_le (E : Fin 256) : (∑ x : Fin 256, if E < x then 0 else 1) = E.val + 1 := by
  have h := Fin.sum_univ_eq_sum_range (fun x => if E.val < x then 0 else 1) 256
  have e : (∑ x : Fin 256, if E < x then 0 else 1) = ∑ x ∈ Finset.range 256, if E.val < x then 0 else 1 := by
    rw [← h]; rfl
  rw [e, Finset.sum_ite, Finset.sum_const_zero, zero_add, Finset.sum_const, smul_eq_mul, mul_one]
  have : (Finset.range 256).filter (fun x => ¬ E.val < x) = Finset.range (E.val + 1) := by
    ext x; simp only [Finset.mem_filter, Finset.mem_range]; omega
  rw [this, Finset.card_range]

/-- A magnitude's exponent field, from its place between two words. -/
theorem expo_eq (a : EReal) (E : Fin 256) (h : ∀ x : Fin 256, a < Ideal.ofBits .f32 (word x.val) ↔ E < x) :
    expo a = BitVec.ofNat 32 E.val := by
  unfold expo
  simp only [start_eq, h]
  rw [fold_count, count_le]
  show BitVec.ofNat 32 (E.val + 1) - 1#32 = _
  rw [BitVec.ofNat_add]
  exact BitVec.add_sub_cancel _ _

/-- A magnitude below `2 ^ 123` has a place between two words. -/
theorem place (r : ℝ) (h0 : 0 ≤ r) (h1 : r < 2 ^ (123 : ℤ)) :
    ∃ E : ℕ, E ≤ 250 ∧ (1 ≤ E → (2 : ℝ) ^ ((E : ℤ) - 127) ≤ r) ∧ r < (2 : ℝ) ^ ((E : ℤ) - 126) := by
  by_cases hs : r < (2 : ℝ) ^ (-126 : ℤ)
  · exact ⟨0, by omega, fun h => by omega, by simpa using hs⟩
  · push Not at hs
    have hr : 0 < r := lt_of_lt_of_le (by positivity) hs
    obtain ⟨n, hn1, hn2⟩ := exists_mem_Ico_zpow hr (by norm_num : (1 : ℝ) < 2)
    have ha : n < 123 := (zpow_lt_zpow_iff_right₀ (by norm_num : (1 : ℝ) < 2)).1 (lt_of_le_of_lt hn1 h1)
    have hb : -126 < n + 1 := (zpow_lt_zpow_iff_right₀ (by norm_num : (1 : ℝ) < 2)).1 (lt_of_le_of_lt hs hn2)
    refine ⟨(n + 127).toNat, by omega, fun _ => ?_, ?_⟩
    · rw [show (((n + 127).toNat : ℕ) : ℤ) - 127 = n by omega]; exact hn1
    · rw [show (((n + 127).toNat : ℕ) : ℤ) - 126 = n + 1 by omega]; exact hn2

/-- The words on either side of a magnitude. -/
theorem lt_word (r : ℝ) (h0 : 0 ≤ r) (E : ℕ) (hE : E ≤ 250) (h1 : 1 ≤ E → (2 : ℝ) ^ ((E : ℤ) - 127) ≤ r) (h2 : r < (2 : ℝ) ^ ((E : ℤ) - 126))
    (x : Fin 256) : (r : EReal) < Ideal.ofBits .f32 (word x.val) ↔ (⟨E, by omega⟩ : Fin 256) < x := by
  rw [Fin.lt_def]
  show _ ↔ E < x.val
  have hx := x.isLt
  by_cases c0 : x.val = 0
  · rw [c0, ofBits_word_zero]
    refine ⟨fun h => absurd h (not_lt.2 (EReal.coe_nonneg.2 h0)), fun h => by omega⟩
  by_cases c1 : x.val = 255
  · rw [c1, ofBits_word_top]
    exact ⟨fun _ => by omega, fun _ => EReal.coe_lt_top r⟩
  rw [ofBits_word _ (by omega) (by omega), EReal.coe_lt_coe_iff]
  constructor
  · intro h
    by_contra hc
    have hE1 : 1 ≤ E := by omega
    have := (zpow_lt_zpow_iff_right₀ (by norm_num : (1 : ℝ) < 2)).1 (lt_of_le_of_lt (h1 hE1) h)
    omega
  · intro h
    exact lt_of_lt_of_le h2 ((zpow_le_zpow_iff_right₀ (by norm_num : (1 : ℝ) < 2)).2 (by omega))

theorem half_eq : Ideal.ofBits .f32 1056964608#32 = (((2 : ℝ) ^ (-1 : ℤ) : ℝ) : EReal) := ofBits_word 126 (by omega) (by omega)

/-- Which table entry fits. -/
theorem fits_eq (p : Fin 253 → EReal) (hp : ∀ x, p x = Ideal.ofBits .f32 (word (x.val + 2))) (r : ℝ) (E : ℕ) (hE : E ≤ 250)
    (h1 : 1 ≤ E → (2 : ℝ) ^ ((E : ℤ) - 127) ≤ r) (h2 : r < (2 : ℝ) ^ ((E : ℤ) - 126)) (x : Fin 253) :
    fits p r x = if x.val + 1 = E then 1#1 else 0#1 := by
  have hx := x.isLt
  have e2 : p x = (((2 : ℝ) ^ ((x.val : ℤ) - 125) : ℝ) : EReal) := by
    rw [hp, ofBits_word _ (by omega) (by omega)]; congr 2; push_cast; ring
  have e1 : p x * Ideal.ofBits .f32 1056964608#32 = (((2 : ℝ) ^ ((x.val : ℤ) - 126) : ℝ) : EReal) := by
    rw [e2, half_eq, ← EReal.coe_mul, ← zpow_add₀ (by norm_num : (2 : ℝ) ≠ 0)]; congr 2; ring
  have key : (p x * Ideal.ofBits .f32 1056964608#32 ≤ (r : EReal) ∧ (r : EReal) < p x) ↔ x.val + 1 = E := by
    rw [e1, e2, EReal.coe_le_coe_iff, EReal.coe_lt_coe_iff]
    constructor
    · rintro ⟨a, b⟩
      have c := (zpow_lt_zpow_iff_right₀ (by norm_num : (1 : ℝ) < 2)).1 (lt_of_le_of_lt a h2)
      have d := (zpow_lt_zpow_iff_right₀ (by norm_num : (1 : ℝ) < 2)).1 (lt_of_le_of_lt (h1 (by omega)) b)
      omega
    · intro h
      refine ⟨?_, ?_⟩
      · rw [show ((x.val : ℤ) - 126) = (E : ℤ) - 127 by omega]; exact h1 (by omega)
      · rw [show ((x.val : ℤ) - 125) = (E : ℤ) - 126 by omega]; exact h2
  unfold fits
  by_cases h : x.val + 1 = E
  · obtain ⟨a, b⟩ := key.2 h
    rw [if_pos h, decide_eq_true a, decide_eq_true b]; rfl
  · rw [if_neg h]
    by_cases a : p x * Ideal.ofBits .f32 1056964608#32 ≤ (r : EReal)
    · have b : ¬ (r : EReal) < p x := fun b => h (key.1 ⟨a, b⟩)
      rw [decide_eq_true a, decide_eq_false b]; rfl
    · rw [decide_eq_false a]; cases decide ((r : EReal) < p x) <;> rfl

/-- A fold by `or` is 1 when a term is, and 0 when none is. -/
theorem fold_or (f : Fin 253 → BitVec 1) (S : Finset (Fin 253)) :
    S.fold IntOp.ori (0#1) f = if ∃ x ∈ S, f x = 1#1 then 1#1 else 0#1 := by
  classical
  induction S using Finset.induction_on with
  | empty => simp
  | insert a S ha ih =>
    rw [Finset.fold_insert ha, ih]
    have key : ∀ u : BitVec 1, u = 0#1 ∨ u = 1#1 := by decide
    by_cases hS : ∃ x ∈ S, f x = 1#1
    · rw [if_pos hS, if_pos (by obtain ⟨x, hx, h⟩ := hS; exact ⟨x, Finset.mem_insert_of_mem hx, h⟩)]
      rcases key (f a) with h | h <;> rw [h] <;> rfl
    · rw [if_neg hS]
      rcases key (f a) with h | h
      · rw [h, if_neg]
        · rfl
        · rintro ⟨x, hx, hfx⟩
          rcases Finset.mem_insert.1 hx with rfl | hx
          · rw [h] at hfx; exact absurd hfx (by decide)
          · exact hS ⟨x, hx, hfx⟩
      · rw [h, if_pos ⟨a, Finset.mem_insert_self _ _, h⟩]; rfl

/-- The scale of a magnitude is one real power of two by either road, and its reciprocal is the kernel's. -/
theorem scales (p : Fin 253 → EReal) (hp : ∀ x, p x = Ideal.ofBits .f32 (word (x.val + 2))) (r : ℝ) (h0 : 0 ≤ r) (h1 : r < 2 ^ (123 : ℤ)) :
    ∃ n : ℤ, scaleK r = (((2 : ℝ) ^ n : ℝ) : EReal) ∧ scaleT p r = (((2 : ℝ) ^ n : ℝ) : EReal) ∧ invK r = (((2 : ℝ) ^ (-n) : ℝ) : EReal) := by
  obtain ⟨E, hE, hlo, hhi⟩ := place r h0 h1
  have hexpo : expo (r : EReal) = BitVec.ofNat 32 E := expo_eq _ ⟨E, by omega⟩ (lt_word r h0 E hE hlo hhi)
  have hfit := fits_eq p hp r E hE hlo hhi
  by_cases c : E = 0
  · subst c
    refine ⟨0, ?_, ?_, ?_⟩
    · unfold scaleK kexp; rw [hexpo]
      exact (ofBits_word 127 (by omega) (by omega)).trans (by norm_num)
    · unfold scaleT
      rw [fold_or, if_neg]
      · show (1 : EReal) = _; norm_num
      · rintro ⟨x, _, hx⟩
        rw [hfit, if_neg (by omega)] at hx
        exact absurd hx (by decide)
    · unfold invK kexp; rw [hexpo]
      exact (ofBits_word 127 (by omega) (by omega)).trans (by norm_num)
  · refine ⟨(E : ℤ) - 126, ?_, ?_, ?_⟩
    · have hk : ∀ E : Fin 251, E.val ≠ 0 → IntOp.addi (Scalar.select (IntOp.ori (IntOp.cmpi CmpIPredicate.eq (BitVec.ofNat 32 E.val) 0#32)
          (IntOp.cmpi CmpIPredicate.eq (BitVec.ofNat 32 E.val) 255#32)) (0#32) (IntOp.subi (BitVec.ofNat 32 E.val) 126#32)) 127#32
          = BitVec.ofNat 32 (E.val + 1) := by decide +kernel
      unfold scaleK kexp; rw [hexpo, hk ⟨E, by omega⟩ c]
      refine (ofBits_word (E + 1) (by omega) (by omega)).trans ?_
      congr 2; push_cast; ring
    · unfold scaleT
      rw [fold_or, if_pos ⟨⟨E - 1, by omega⟩, Finset.mem_univ _, by rw [hfit, if_pos (by show E - 1 + 1 = E; omega)]⟩]
      show (∑ x, Scalar.select (fits p r x) (p x) 0) = _
      rw [Finset.sum_eq_single (⟨E - 1, by omega⟩ : Fin 253)]
      · rw [hfit, if_pos (by show E - 1 + 1 = E; omega)]
        show p _ = _
        rw [hp, ofBits_word _ (by show 1 ≤ E - 1 + 2; omega) (by show E - 1 + 2 ≤ 254; omega)]
        congr 2; push_cast [show 1 ≤ E by omega]; ring
      · intro x _ hx
        rw [hfit, if_neg]
        · rfl
        · intro h; exact hx (Fin.ext (by show x.val = E - 1; omega))
      · intro h; exact absurd (Finset.mem_univ _) h
    · have hk : ∀ E : Fin 251, E.val ≠ 0 → IntOp.subi 127#32 (Scalar.select (IntOp.ori (IntOp.cmpi CmpIPredicate.eq (BitVec.ofNat 32 E.val) 0#32)
          (IntOp.cmpi CmpIPredicate.eq (BitVec.ofNat 32 E.val) 255#32)) (0#32) (IntOp.subi (BitVec.ofNat 32 E.val) 126#32))
          = BitVec.ofNat 32 (253 - E.val) := by decide +kernel
      unfold invK kexp; rw [hexpo, hk ⟨E, by omega⟩ c]
      refine (ofBits_word (253 - E) (by omega) (by omega)).trans ?_
      congr 2; push_cast [show E ≤ 253 by omega]; ring

/-- Multiplying by the reciprocal is dividing by the scale, and the scales agree. -/
theorem scale_eq (p : Fin 253 → EReal) (hp : ∀ x, p x = Ideal.ofBits .f32 (word (x.val + 2))) (r : ℝ) (h0 : 0 ≤ r) (h1 : r < 2 ^ (123 : ℤ)) :
    scaleK r = scaleT p r ∧ ∀ v : EReal, v * invK r = Ideal.div v (scaleT p r) := by
  obtain ⟨n, a, b, c⟩ := scales p hp r h0 h1
  refine ⟨a.trans b.symm, fun v => ?_⟩
  rw [b, c]
  unfold Ideal.div
  rw [if_neg]
  · rw [← EReal.coe_inv, zpow_neg]
  · intro h
    exact absurd (EReal.coe_eq_zero.1 h) (by positivity)

end Cert.Power

end
-- ==== Proof.Spec.lean ====
/-
  The mathematics of the layer, as functions of an index: the experts' int4 products, the hidden activations, the
  weighted sum of the chosen experts, and its quantisation in blocks of 128 columns.
-/
module

public import proofs.«01_k».proof.Proof.Power

@[expose] public section

noncomputable section

namespace Cert.Spec

open Idealize.ShloMosaic
open scoped BigOperators

/-- The layer's arguments, as functions. -/
structure Args where
  X : Fin 48 → Fin 4096 → EReal
  W1 : Fin 7 → Fin 2048 → Fin 12800 → BitVec 8
  S1 : Fin 7 → Fin 32 → Fin 12800 → EReal
  W2 : Fin 7 → Fin 3200 → Fin 4096 → BitVec 8
  S2 : Fin 7 → Fin 50 → Fin 4096 → EReal
  ids : Fin 48 → Fin 2 → BitVec 32
  ew : Fin 48 → Fin 2 → EReal

/-- The int4 number in row `r`: the low half of a byte for an even row, the high half for an odd row, less 8. -/
def nib (w : BitVec 8) (r : ℕ) : EReal := (((((if r % 2 = 0 then w.toNat % 16 else w.toNat / 16 : ℕ) : ℤ) - 8 : ℤ) : ℝ) : EReal)

/-- A column of int4 rows with scales for groups of 128 rows, against a vector. -/
def dot {n g : ℕ} (x : Fin (2 * n) → EReal) (w : Fin n → BitVec 8) (s : Fin g → EReal) (h : 2 * n = 128 * g) : EReal :=
  ∑ r : Fin (2 * n), x r * (nib (w ⟨r.val / 2, by omega⟩) r.val * s ⟨r.val / 128, by omega⟩)

/-- The gate (columns below 6400) and up (the others) products. -/
def gu (A : Args) (e : Fin 7) (t : Fin 48) (n : Fin 12800) : EReal :=
  dot (n := 2048) (g := 32) (A.X t) (fun r => A.W1 e r n) (fun r => A.S1 e r n) rfl

/-- A gate and an up product's hidden activation. -/
def act (g u : EReal) : EReal := g * Ideal.logistic g * u

/-- The hidden activations. -/
def hid (A : Args) (e : Fin 7) (t : Fin 48) (k : Fin 6400) : EReal :=
  act (gu A e t ⟨k.val, by omega⟩) (gu A e t ⟨6400 + k.val, by omega⟩)

/-- An expert's output. -/
def y (A : Args) (e : Fin 7) (t : Fin 48) (d : Fin 4096) : EReal :=
  dot (n := 3200) (g := 50) (hid A e t) (fun r => A.W2 e r d) (fun r => A.S2 e r d) rfl

/-- The layer's output: each token's chosen experts by their weights. -/
def out (A : Args) (t : Fin 48) (d : Fin 4096) : EReal :=
  ∑ e : Fin 7, ∑ s : Fin 2, if A.ids t s = BitVec.ofNat 32 e.val then A.ew t s * y A e t d else 0

/-- One expert's part of the output, with its weights added first. -/
def part (A : Args) (e : Fin 7) (t : Fin 48) (d : Fin 4096) : EReal :=
  if ∃ s, A.ids t s = BitVec.ofNat 32 e.val then
    (∑ s : Fin 2, if A.ids t s = BitVec.ofNat 32 e.val then A.ew t s else 0) * y A e t d
  else 0

/-- A block's largest magnitude over 448. -/
def mag (v : Fin 128 → EReal) : EReal :=
  Finset.fold max (Ideal.ofBits FTy.f32 4286578688#32) (fun x => max (v x) (-v x)) Finset.univ * Ideal.ofBits FTy.f32 991054117#32

/-- A sum over rows by its even and its odd rows. -/
theorem sum_halves {M : Type*} [AddCommMonoid M] (n : ℕ) (f : Fin (2 * n) → M) :
    ∑ r, f r = (∑ r : Fin n, f ⟨2 * r.val, by omega⟩) + ∑ r : Fin n, f ⟨1 + 2 * r.val, by omega⟩ := by
  have h : 2 * n = n * 2 := Nat.mul_comm _ _
  rw [← Finset.sum_add_distrib, ← (finCongr h).symm.sum_comp, ← finProdFinEquiv.sum_comp, Fintype.sum_prod_type]
  refine Finset.sum_congr rfl fun r _ => ?_
  rw [Fin.sum_univ_two]
  congr 2 <;> apply Fin.ext <;> simp [finProdFinEquiv]

/-- The product by its even and its odd rows. -/
theorem dot_halves {n g : ℕ} (x : Fin (2 * n) → EReal) (w : Fin n → BitVec 8) (s : Fin g → EReal) (h : 2 * n = 128 * g) :
    dot x w s h = (∑ r : Fin n, x ⟨2 * r.val, by omega⟩ * (nib (w r) 0 * s ⟨r.val / 64, by omega⟩))
      + ∑ r : Fin n, x ⟨1 + 2 * r.val, by omega⟩ * (nib (w r) 1 * s ⟨r.val / 64, by omega⟩) := by
  unfold dot
  rw [sum_halves]
  congr 1 <;> refine Finset.sum_congr rfl fun r _ => ?_
  · have a : (⟨2 * r.val / 2, by omega⟩ : Fin n) = r := Fin.ext (by show 2 * r.val / 2 = r.val; omega)
    have b : (⟨2 * r.val / 128, by omega⟩ : Fin g) = ⟨r.val / 64, by omega⟩ := Fin.ext (by show 2 * r.val / 128 = r.val / 64; omega)
    have c : nib (w r) (2 * r.val) = nib (w r) 0 := by unfold nib; rw [if_pos (by omega), if_pos rfl]
    simp only [a, b, c]
  · have a : (⟨(1 + 2 * r.val) / 2, by omega⟩ : Fin n) = r := Fin.ext (by show (1 + 2 * r.val) / 2 = r.val; omega)
    have b : (⟨(1 + 2 * r.val) / 128, by omega⟩ : Fin g) = ⟨r.val / 64, by omega⟩ := Fin.ext (by show (1 + 2 * r.val) / 128 = r.val / 64; omega)
    have c : nib (w r) (1 + 2 * r.val) = nib (w r) 1 := by unfold nib; rw [if_neg (by omega), if_neg (by omega)]
    simp only [a, b, c]

/-- A real number of magnitude at most `B`. -/
def Bd (B : ℝ) (v : EReal) : Prop := ∃ r : ℝ, v = r ∧ |r| ≤ B

theorem Bd.mul {B C : ℝ} {u v : EReal} (hu : Bd B u) (hv : Bd C v) : Bd (B * C) (u * v) := by
  obtain ⟨a, rfl, ha⟩ := hu; obtain ⟨b, rfl, hb⟩ := hv
  exact ⟨a * b, (EReal.coe_mul a b).symm, by rw [abs_mul]; exact mul_le_mul ha hb (abs_nonneg _) (le_trans (abs_nonneg _) ha)⟩

theorem Bd.add {B C : ℝ} {u v : EReal} (hu : Bd B u) (hv : Bd C v) : Bd (B + C) (u + v) := by
  obtain ⟨a, rfl, ha⟩ := hu; obtain ⟨b, rfl, hb⟩ := hv
  exact ⟨a + b, (EReal.coe_add a b).symm, le_trans (abs_add_le a b) (add_le_add ha hb)⟩

theorem Bd.mono {B C : ℝ} {u : EReal} (hu : Bd B u) (h : B ≤ C) : Bd C u := by
  obtain ⟨a, rfl, ha⟩ := hu; exact ⟨a, rfl, le_trans ha h⟩

theorem Bd.zero {B : ℝ} (h : 0 ≤ B) : Bd B 0 := ⟨0, rfl, by simpa using h⟩

theorem Bd.sum {n : ℕ} {B : ℝ} {f : Fin n → EReal} (h : ∀ i, Bd B (f i)) : Bd (n * B) (∑ i, f i) := by
  induction n with
  | zero => simpa using Bd.zero (B := 0) le_rfl
  | succ n ih =>
    rw [Fin.sum_univ_castSucc]
    exact ((ih fun i => h i.castSucc).add (h (Fin.last n))).mono (by push_cast; linarith)

theorem Bd.nib (w : BitVec 8) (r : ℕ) : Bd 8 (nib w r) := by
  refine ⟨_, rfl, ?_⟩
  have hw := w.isLt
  have h : (-8 : ℤ) ≤ (((if r % 2 = 0 then w.toNat % 16 else w.toNat / 16 : ℕ) : ℤ) - 8)
      ∧ (((if r % 2 = 0 then w.toNat % 16 else w.toNat / 16 : ℕ) : ℤ) - 8) ≤ 8 := by split <;> omega
  rw [abs_le]
  exact ⟨by exact_mod_cast h.1, by exact_mod_cast h.2⟩

theorem Bd.dot {n g : ℕ} {B C : ℝ} {x : Fin (2 * n) → EReal} {w : Fin n → BitVec 8} {s : Fin g → EReal} {h : 2 * n = 128 * g}
    (hx : ∀ r, Bd B (x r)) (hs : ∀ r, Bd C (s r)) : Bd ((2 * n : ℕ) * (B * (8 * C))) (dot x w s h) :=
  Bd.sum fun r => (hx r).mul ((Bd.nib _ _).mul (hs _))

theorem Bd.logistic {B : ℝ} {v : EReal} (h : Bd B v) : Bd 1 (Ideal.logistic v) := by
  obtain ⟨a, rfl, _⟩ := h
  refine ⟨_, Ideal.logistic_coe .., ?_⟩
  have : 0 < Real.exp (-a) := Real.exp_pos _
  rw [abs_of_nonneg (by positivity)]
  exact inv_le_one_of_one_le₀ (by linarith)

theorem Bd.act {B C : ℝ} {g u : EReal} (hg : Bd B g) (hu : Bd C u) : Bd (B * 1 * C) (act g u) := (hg.mul hg.logistic).mul hu

/-- The arguments' bounds. -/
structure Args.Bounded (A : Args) : Prop where
  X : ∀ t k, Bd (2 ^ 20) (A.X t k)
  S1 : ∀ e g n, Bd (2 ^ 10) (A.S1 e g n)
  S2 : ∀ e g n, Bd (2 ^ 10) (A.S2 e g n)
  ew : ∀ t s, Bd (2 ^ 3) (A.ew t s)

variable {A : Args} (hA : A.Bounded)

include hA

theorem gu_bd (e : Fin 7) (t : Fin 48) (n : Fin 12800) : Bd (2 ^ 45) (gu A e t n) :=
  (Bd.dot (hA.X t) (fun r => hA.S1 e r n)).mono (by norm_num)

theorem hid_bd (e : Fin 7) (t : Fin 48) (k : Fin 6400) : Bd (2 ^ 90) (hid A e t k) :=
  (Bd.act (gu_bd hA e t _) (gu_bd hA e t _)).mono (by norm_num)

theorem y_bd (e : Fin 7) (t : Fin 48) (d : Fin 4096) : Bd (2 ^ 116) (y A e t d) :=
  (Bd.dot (hid_bd hA e t) (fun r => hA.S2 e r d)).mono (by norm_num)

theorem out_bd (t : Fin 48) (d : Fin 4096) : Bd (2 ^ 123) (out A t d) := by
  refine (Bd.sum (B := (2 : ℕ) * 2 ^ 119) fun e => Bd.sum fun s => ?_).mono (by norm_num)
  split
  · exact ((hA.ew t s).mul (y_bd hA e t d)).mono (by norm_num)
  · exact Bd.zero (by norm_num)

/-- Adding an expert's weights first changes nothing. -/
theorem part_eq (e : Fin 7) (t : Fin 48) (d : Fin 4096) :
    part A e t d = ∑ s : Fin 2, if A.ids t s = BitVec.ofNat 32 e.val then A.ew t s * y A e t d else 0 := by
  obtain ⟨r, hr, -⟩ := y_bd hA e t d
  obtain ⟨a, ha, -⟩ := hA.ew t 0
  obtain ⟨b, hb, -⟩ := hA.ew t 1
  unfold part
  rw [hr, Fin.sum_univ_two, Fin.sum_univ_two, ha, hb]
  by_cases h0 : A.ids t 0 = BitVec.ofNat 32 e.val <;> by_cases h1 : A.ids t 1 = BitVec.ofNat 32 e.val
  · rw [if_pos ⟨0, h0⟩, if_pos h0, if_pos h0, if_pos h1, if_pos h1]
    rw [← EReal.coe_add, ← EReal.coe_mul, ← EReal.coe_mul, ← EReal.coe_mul, ← EReal.coe_add, add_mul]
  · rw [if_pos ⟨0, h0⟩, if_pos h0, if_pos h0, if_neg h1, if_neg h1, add_zero, add_zero]
  · rw [if_pos ⟨1, h1⟩, if_neg h0, if_neg h0, if_pos h1, if_pos h1, zero_add, zero_add]
  · rw [if_neg, if_neg h0, if_neg h1, add_zero]
    rintro ⟨s, hs⟩
    match s with
    | 0 => exact h0 hs
    | 1 => exact h1 hs

/-- The output as the sum of the experts' parts. -/
theorem sum_part (t : Fin 48) (d : Fin 4096) : ∑ e, part A e t d = out A t d :=
  Finset.sum_congr rfl fun e _ => part_eq hA e t d

omit hA

/-- The magnitude of a block of bounded numbers. -/
theorem mag_bd (v : Fin 128 → EReal) (h : ∀ x, Bd (2 ^ 123) (v x)) : ∃ r : ℝ, mag v = r ∧ 0 ≤ r ∧ r < 2 ^ (123 : ℤ) := by
  have hbot : Ideal.ofBits FTy.f32 4286578688#32 = ⊥ := by simp [Ideal.ofBits, Ideal.ieee]
  have hc : ∃ c : ℝ, Ideal.ofBits FTy.f32 991054117#32 = c ∧ 0 ≤ c ∧ c < 1 := by
    have a : ((991054117#32).extractLsb' 31 1 == 1#1) = false := by decide +kernel
    have b : ((991054117#32).extractLsb' 23 8).toNat = 118 := by decide +kernel
    have c : ((991054117#32).extractLsb' 0 23).toNat = 1198373 := by decide +kernel
    have e : Ideal.ofBits FTy.f32 991054117#32 = ((9586981 * (2 : ℝ) ^ (-32 : ℤ) : ℝ) : EReal) := by
      show Ideal.ieee 8 23 (991054117#32) = _
      unfold Ideal.ieee
      simp only [show 8 + 23 = 31 from rfl, a, b, c]
      rw [if_neg (by omega), if_neg (by omega)]
      norm_num
    exact ⟨_, e, by positivity, by norm_num⟩
  have key : ∀ S : Finset (Fin 128), (S = ∅ ∧ S.fold max (Ideal.ofBits FTy.f32 4286578688#32) (fun x => max (v x) (-v x)) = ⊥)
      ∨ ∃ M : ℝ, S.fold max (Ideal.ofBits FTy.f32 4286578688#32) (fun x => max (v x) (-v x)) = M ∧ 0 ≤ M ∧ M ≤ 2 ^ 123 := by
    classical
    intro S
    induction S using Finset.induction_on with
    | empty => exact Or.inl ⟨rfl, by rw [Finset.fold_empty, hbot]⟩
    | insert a S ha ih =>
      refine Or.inr ?_
      obtain ⟨b, hb, hb'⟩ := h a
      have e : max (v a) (-v a) = ((|b| : ℝ) : EReal) := by
        rw [hb, ← EReal.coe_neg, abs_eq_max_neg]; exact (EReal.coe_strictMono.monotone.map_max).symm
      rw [Finset.fold_insert ha, e]
      rcases ih with ⟨_, ih⟩ | ⟨M, ih, h0, h1⟩
      · exact ⟨|b|, by rw [ih, max_bot_right], abs_nonneg b, hb'⟩
      · exact ⟨max |b| M, by rw [ih]; exact (EReal.coe_strictMono.monotone.map_max).symm, le_max_of_le_right h0, max_le hb' h1⟩
  obtain ⟨c, hc, c0, c1⟩ := hc
  unfold mag
  rcases key Finset.univ with ⟨he, _⟩ | ⟨M, hM, h0, h1⟩
  · exact absurd (he ▸ Finset.mem_univ (0 : Fin 128)) (Finset.notMem_empty _)
  · refine ⟨M * c, by rw [hM, hc, EReal.coe_mul], mul_nonneg h0 c0, ?_⟩
    calc M * c ≤ 2 ^ 123 * c := mul_le_mul_of_nonneg_right h1 c0
      _ < 2 ^ 123 * 1 := mul_lt_mul_of_pos_left c1 (by positivity)
      _ = 2 ^ (123 : ℤ) := by norm_num

end Cert.Spec

end
-- ==== Proof.Arrays.lean ====
/-
  The layer's arguments from the argument arrays, the int4 numbers of the packed bytes, and a sum over two of an
  array's four axes.
-/
module

public import proofs.«01_k».proof.Proof.Spec
public import Idealize.ShloMosaic.Lib.Pointwise

@[expose] public section

set_option maxRecDepth 16384

noncomputable section

namespace Cert.Spec

open Idealize.ShloMosaic
open scoped BigOperators

/-- The argument arrays as the layer's arguments. -/
def args (x : Vec Ideal ⟨3, ![48, 1, 4096]⟩ .bf16) (w1 : Vec Ideal ⟨3, ![7, 2048, 12800]⟩ .i8) (s1 : Vec Ideal ⟨3, ![7, 32, 12800]⟩ .bf16)
    (w2 : Vec Ideal ⟨3, ![7, 3200, 4096]⟩ .i8) (s2 : Vec Ideal ⟨3, ![7, 50, 4096]⟩ .bf16) (ids : Vec Ideal ⟨3, ![48, 1, 2]⟩ .i32)
    (ew : Vec Ideal ⟨3, ![48, 1, 2]⟩ .f32) : Args where
  X t k := x (ix3 t 0 k)
  W1 e r n := w1 (ix3 e r n)
  S1 e g n := s1 (ix3 e g n)
  W2 e r d := w2 (ix3 e r d)
  S2 e g d := s2 (ix3 e g d)
  ids t s := ids (ix3 t 0 s)
  ew t s := ew (ix3 t 0 s)

/-- Eight, as the constant the weights subtract. -/
theorem eight : Ideal.ofBits .bf16 16640#16 = ((8 : ℝ) : EReal) := by
  have a : ((16640#16).extractLsb' 15 1 == 1#1) = false := by decide +kernel
  have b : ((16640#16).extractLsb' 7 8).toNat = 130 := by decide +kernel
  have c : ((16640#16).extractLsb' 0 7).toNat = 0 := by decide +kernel
  show Ideal.ieee 8 7 (16640#16) = _
  unfold Ideal.ieee
  simp only [show 8 + 7 = 15 from rfl, a, b, c]
  rw [if_neg (by omega), if_neg (by omega)]
  norm_num

theorem lo_toInt : ∀ w : BitVec 8, (IntOp.andi (BitVec.setWidth 32 w) 15#32).toInt = ((w.toNat % 16 : ℕ) : ℤ) := by decide +kernel
theorem hi_toInt : ∀ w : BitVec 8, (IntOp.shrsi ArithUnit.host (BitVec.setWidth 32 w) 4#32).toInt = ((w.toNat / 16 : ℕ) : ℤ) := by decide +kernel

/-- The low half of a byte. -/
theorem lo_eq (w : BitVec 8) : FloatOps.sitofp (F := Ideal) .bf16 (IntOp.andi (BitVec.setWidth 32 w) 15#32) - Ideal.ofBits .bf16 16640#16 = nib w 0 := by
  rw [eight]
  show (((IntOp.andi (BitVec.setWidth 32 w) 15#32).toInt : ℝ) : EReal) - _ = _
  rw [lo_toInt, ← EReal.coe_sub]
  unfold nib
  rw [if_pos rfl]
  push_cast
  rfl

/-- The high half of a byte. -/
theorem hi_eq (w : BitVec 8) : FloatOps.sitofp (F := Ideal) .bf16 (IntOp.shrsi ArithUnit.host (BitVec.setWidth 32 w) 4#32) - Ideal.ofBits .bf16 16640#16 = nib w 1 := by
  rw [eight]
  show (((IntOp.shrsi ArithUnit.host (BitVec.setWidth 32 w) 4#32).toInt : ℝ) : EReal) - _ = _
  rw [hi_toInt, ← EReal.coe_sub]
  unfold nib
  rw [if_neg (by omega)]
  push_cast
  rfl

/-- Both halves of a byte in one word, each less 8. -/
def pair (w : BitVec 8) : BitVec 32 :=
  IntOp.ori (IntOp.andi (IntOp.subi (IntOp.andi (BitVec.setWidth 32 w) 15#32) 8#32) 65535#32)
    (IntOp.shli ArithUnit.vector (IntOp.subi (IntOp.shrsi ArithUnit.vector (BitVec.setWidth 32 w) 4#32) 8#32) 16#32)

theorem pair_toInt : ∀ (w : BitVec 8) (b : Fin 2), ((pair w).extractLsb' (16 * b.val) 16).toInt = ((if b.val = 0 then w.toNat % 16 else w.toNat / 16 : ℕ) : ℤ) - 8 := by
  decide +kernel

/-- The word's half for a row's parity is the row's int4 number. -/
theorem pair_eq (w : BitVec 8) (r : ℕ) : FloatOps.sitofp (F := Ideal) .bf16 ((pair w).extractLsb' (16 * (r % 2)) 16) = nib w r := by
  show ((((pair w).extractLsb' (16 * (r % 2)) 16).toInt : ℝ) : EReal) = _
  rw [pair_toInt w ⟨r % 2, by omega⟩]
  rfl

/-- A choice by an equality of words. -/
theorem select_eq {α : Type} (a b : BitVec 32) (u v : α) : Scalar.select (IntOp.cmpi CmpIPredicate.eq a b) u v = if a = b then u else v := by
  unfold Scalar.select IntOp.cmpi
  by_cases h : a = b
  · simp [h]
  · simp [h, beq_eq_false_iff_ne.2 h]

/-- A sum over the first and the third of four axes. -/
theorem sum_axes {M : Type*} [AddCommMonoid M] (h : Shape.ReducesTo ⟨4, ![7, 48, 2, 4096]⟩ [0, 2] ⟨2, ![48, 4096]⟩)
    (x : (⟨4, ![7, 48, 2, 4096]⟩ : Shape).Idx → M) (t : Fin 48) (n : Fin 4096) :
    ∑ i ∈ Finset.univ.filter (fun i => h.drop i = ix2 t n), x i = ∑ e : Fin 7, ∑ s : Fin 2, x (ix4 e t s n) := by
  rw [← Fintype.sum_prod_type' (fun (e : Fin 7) (s : Fin 2) => x (ix4 e t s n))]
  symm
  refine Finset.sum_nbij (fun p => ix4 p.1 t p.2 n) ?_ ?_ ?_ fun _ _ => rfl
  · intro p _
    refine Finset.mem_filter.2 ⟨Finset.mem_univ _, funext fun k => Fin.ext ?_⟩
    match k with
    | ⟨0, _⟩ => exact h.drop_apply_val_of_eq (ix4 p.1 t p.2 n) 0 1
    | ⟨1, _⟩ => exact h.drop_apply_val_of_eq (ix4 p.1 t p.2 n) 1 3
  · intro p _ q _ e
    exact Prod.ext (congrFun e 0) (congrFun e 2)
  · intro i hi
    have hi := (Finset.mem_filter.1 hi).2
    refine ⟨(i 0, i 2), Finset.mem_coe.2 (Finset.mem_univ _), funext fun k => Fin.ext ?_⟩
    match k with
    | ⟨0, _⟩ => rfl
    | ⟨1, _⟩ =>
      have := congrArg (fun j => (j 0).val) hi
      exact (this.symm.trans (h.drop_apply_val_of_eq i 0 1))
    | ⟨2, _⟩ => rfl
    | ⟨3, _⟩ =>
      have := congrArg (fun j => (j 1).val) hi
      exact (this.symm.trans (h.drop_apply_val_of_eq i 1 3))

end Cert.Spec

end
-- ==== Proof.KernelIdealChunk.lean ====
/-
  The two chunks' values at an index: a chunk of `h` columns is the gate's and the up product's activation, and a chunk
  of accumulator columns adds the expert's weighted product where the token chose the expert.
-/
module

public import proofs.«01_k».proof.Proof.KernelIdealState
public import proofs.«01_k».proof.Proof.Arrays
public import Idealize.ShloMosaic.Lib.BitcastPair

@[expose] public section

set_option maxRecDepth 16384

noncomputable section

namespace Cert.KernelIdeal.Body

open Cert.KernelIdeal Cert.KernelIdeal.Gen
open Idealize.ShloMosaic Idealize.ShloMosaic.TcCoe Cert.Spec
open scoped BigOperators

/-- A column of words read as twice as many halves. -/
theorem halves {p q n : ℕ} (v : IVec ⟨2, ![p, n]⟩ 32) (h : Shape.Bitcasts ⟨2, ![p, n]⟩ 32 ⟨2, ![q, n]⟩ 16) (r : Fin q) (k : Fin n) (hr : r.val / 2 < p) :
    bitcast ⟨2, ![q, n]⟩ 16 v h (ix2 r k) = (v (ix2 ⟨r.val / 2, hr⟩ k)).extractLsb' (16 * (r.val % 2)) 16 := by
  have e : (⟨2, ![q, n]⟩ : Shape).row (ix2 r k) = r.val := rfl
  rw [bitcast_32_16 v h (ix2 r k)]
  simp only [e]
  refine congrArg (fun j => (v j).extractLsb' (16 * (r.val % 2)) 16) (funext fun a => Fin.ext ?_)
  match a with
  | ⟨0, _⟩ => exact Shape.Bitcasts.srcIdx_row h _ _ _ _ rfl
  | ⟨1, _⟩ => exact Shape.Bitcasts.srcIdx_other h _ _ _ _ (by show ¬ 1 + 2 = 2; decide)

set_option maxHeartbeats 1000000 in
theorem gate_eq (x : Vec Ideal S48x4096 .bf16) (w : Vec Ideal S1x2048x256 .i8) (s : Vec Ideal S1x32x256 .bf16) (t : Fin 48) (k : Fin 256) :
    k0_pay5 x w s (ix2 t k) = dot (n := 2048) (g := 32) (fun r => x (ix2 t r)) (fun r => w (ix3 0 r k)) (fun g => s (ix3 0 g k)) rfl := by
  pointwise! [k0_pay5, k0_pay4]
  refine Finset.sum_congr rfl fun r _ => congrArg₂ (· * ·) rfl (congrArg₂ (· * ·) ?_ rfl)
  refine Eq.trans ?_ (pair_eq _ r.val)
  refine congrArg (FloatOps.sitofp (F := Ideal) .bf16) ?_
  refine (halves _ _ r k (by omega)).trans ?_
  pointwise!

set_option maxHeartbeats 1000000 in
theorem hchunk_eq (x : Vec Ideal S48x4096 .bf16) (wg wu : Vec Ideal S1x2048x256 .i8) (sg su : Vec Ideal S1x32x256 .bf16) (t : Fin 48) (k : Fin 256) :
    hchunk x wg wu sg su (ix2 t k) = act (dot (n := 2048) (g := 32) (fun r => x (ix2 t r)) (fun r => wg (ix3 0 r k)) (fun g => sg (ix3 0 g k)) rfl)
      (dot (n := 2048) (g := 32) (fun r => x (ix2 t r)) (fun r => wu (ix3 0 r k)) (fun g => su (ix3 0 g k)) rfl) := by
  rw [← gate_eq]
  unfold hchunk
  generalize k0_pay5 x wg sg = v
  pointwise! [k0_pay9, k0_pay8, k0_pay7, k0_pay6, k0_pay4]
  unfold act
  refine congrArg₂ (· * ·) rfl ?_
  refine Finset.sum_congr rfl fun r _ => congrArg₂ (· * ·) rfl (congrArg₂ (· * ·) ?_ rfl)
  refine Eq.trans ?_ (pair_eq _ r.val)
  refine congrArg (FloatOps.sitofp (F := Ideal) .bf16) ?_
  refine (halves _ _ r k (by omega)).trans ?_
  pointwise!

/-- One expert's part of the sum, as a chunk adds it. -/
def addend (e : BitVec 32) (ids : Vec Ideal S48x2 .i32) (ew : Vec Ideal S48x2 .f32) (t : Fin 48) (p : EReal) : EReal :=
  if ∃ s, ids (ix2 t s) = e then (∑ s : Fin 2, if ids (ix2 t s) = e then ew (ix2 t s) else 0) * p else 0

theorem chosen (f : Fin 2 → BitVec 32) (e : BitVec 32) :
    IntOp.cmpi CmpIPredicate.sgt (Finset.fold IntOp.maxsi (2147483648#32) (fun x => Scalar.select (IntOp.cmpi CmpIPredicate.eq (f x) e) 1#32 0#32) Finset.univ) 0#32
      = if ∃ s, f s = e then 1#1 else 0#1 := by
  have hu : (Finset.univ : Finset (Fin 2)) = {0, 1} := rfl
  rw [hu, Finset.fold_insert (by decide), Finset.fold_singleton, select_eq, select_eq]
  by_cases h0 : f 0 = e <;> by_cases h1 : f 1 = e
  · rw [if_pos h0, if_pos h1, if_pos ⟨0, h0⟩]; decide
  · rw [if_pos h0, if_neg h1, if_pos ⟨0, h0⟩]; decide
  · rw [if_neg h0, if_pos h1, if_pos ⟨1, h1⟩]; decide
  · rw [if_neg h0, if_neg h1, if_neg]
    · decide
    · rintro ⟨s, hs⟩
      match s with
      | 0 => exact h0 hs
      | 1 => exact h1 hs

set_option maxHeartbeats 1000000 in
theorem achunk_eq (e : BitVec 32) (ids : Vec Ideal S48x2 .i32) (ew : Vec Ideal S48x2 .f32) (h : Vec Ideal S48x6400 .bf16)
    (w : Vec Ideal S1x3200x256 .i8) (s : Vec Ideal S1x50x256 .bf16) (a : Vec Ideal S48x256 .f32) (t : Fin 48) (k : Fin 256) :
    achunk e ids ew h w s a (ix2 t k) = a (ix2 t k) + addend e ids ew t
      (dot (n := 3200) (g := 50) (fun r => h (ix2 t r)) (fun r => w (ix3 0 r k)) (fun g => s (ix3 0 g k)) rfl) := by
  unfold addend
  pointwise! [achunk, k0_pay36, k0_pay28, k0_pay29, k0_pay30, k0_pay31, k0_pay32, k0_pay33, k0_pay34, k0_pay35]
  refine congrArg₂ (· + ·) rfl ?_
  rw [chosen (fun x => ids (ix2 t x)) e]
  have hs : ∀ (p : Prop) [Decidable p] (u v : EReal), Scalar.select (if p then 1#1 else 0#1) u v = if p then u else v := by
    intro p _ u v
    by_cases hp : p
    · rw [if_pos hp, if_pos hp]; rfl
    · rw [if_neg hp, if_neg hp]; rfl
  rw [hs]
  refine if_congr Iff.rfl (congrArg₂ (· * ·) (Finset.sum_congr rfl fun x _ => select_eq _ _ _ _) ?_) rfl
  refine Finset.sum_congr rfl fun r _ => congrArg₂ (· * ·) rfl (congrArg₂ (· * ·) ?_ rfl)
  refine Eq.trans ?_ (pair_eq _ r.val)
  refine congrArg (FloatOps.sitofp (F := Ideal) .bf16) ?_
  refine (halves _ _ r k (by omega)).trans ?_
  pointwise!

end Cert.KernelIdeal.Body

end
-- ==== Proof.KernelIdealSum.lean ====
/-
  The accumulator after the last point: if the blocks the body reads are the arguments' blocks of the live experts, it
  is the layer's output.
-/
module

public import proofs.«01_k».proof.Proof.KernelIdealChunk

@[expose] public section

set_option maxRecDepth 16384

noncomputable section

namespace Cert.KernelIdeal.Body

open Cert.KernelIdeal Cert.KernelIdeal.Gen
open Idealize.ShloMosaic Idealize.ShloMosaic.TcCoe Cert.Spec
open scoped BigOperators

/-- A whole block, read at zero offsets. -/
theorem ld_whole {e : EltTy} {a b : ℕ} (x : Vec Ideal ⟨2, ![a, b]⟩ e) (h : ∀ k, ![0, 0] k + ![a, b] k ≤ (⟨2, ![a, b]⟩ : Shape).size k)
    (t : Fin a) (k : Fin b) : View.ld x (Rect.unit (s := ⟨2, ![a, b]⟩) ![0, 0] ![a, b] h) (ix2 t k) = x (ix2 t k) := by
  refine congrArg x (funext fun d => Fin.ext ((Rect.emb_apply _ _ _).trans ?_))
  match d with
  | ⟨0, _⟩ => show 0 + 1 * t.val = t.val; omega
  | ⟨1, _⟩ => show 0 + 1 * k.val = k.val; omega

/-- Some columns of a block. -/
theorem ld_cols {e : EltTy} {b n q o : ℕ} (x : Vec Ideal ⟨3, ![1, b, n]⟩ e) (h : ∀ k, ![0, 0, o] k + ![1, b, q] k ≤ (⟨3, ![1, b, n]⟩ : Shape).size k)
    (r : Fin b) (k : Fin q) (k' : Fin n) (hk : k'.val = o + k.val) :
    View.ld x (Rect.unit (s := ⟨3, ![1, b, n]⟩) ![0, 0, o] ![1, b, q] h) (ix3 0 r k) = x (ix3 0 r k') := by
  refine congrArg x (funext fun d => Fin.ext ((Rect.emb_apply _ _ _).trans ?_))
  match d with
  | ⟨0, _⟩ => rfl
  | ⟨1, _⟩ => show 0 + 1 * r.val = r.val; omega
  | ⟨2, _⟩ => show o + 1 * k.val = k'.val; omega

/-- Some columns of the accumulator. -/
theorem ld_acc {o : ℕ} (x : Vec Ideal S48x4096 .f32) (h : ∀ a, ![0, o] a + S48x256.size a ≤ S48x4096.size a)
    (t : Fin 48) (k : Fin 256) (k' : Fin 4096) (hk : k'.val = o + k.val) : ldA x ![0, o] h (ix2 t k) = x (ix2 t k') := by
  refine congrArg x (funext fun d => Fin.ext ((Rect.emb_apply _ _ _).trans ?_))
  match d with
  | ⟨0, _⟩ => show 0 + 1 * t.val = t.val; omega
  | ⟨1, _⟩ => show o + 1 * k.val = k'.val; omega

/-- A column of `h` of a block. -/
theorem hblock_eq (x : Vec Ideal S48x4096 .bf16) (wg wu : Vec Ideal S1x2048x1280 .i8) (sg su : Vec Ideal S1x32x1280 .bf16) (t : Fin 48)
    (k : ℕ) (hk : k < 1280) : hblock x wg wu sg su t k hk
      = act (dot (n := 2048) (g := 32) (fun r => x (ix2 t r)) (fun r => wg (ix3 0 r ⟨k, hk⟩)) (fun g => sg (ix3 0 g ⟨k, hk⟩)) rfl)
        (dot (n := 2048) (g := 32) (fun r => x (ix2 t r)) (fun r => wu (ix3 0 r ⟨k, hk⟩)) (fun g => su (ix3 0 g ⟨k, hk⟩)) rfl) := by
  unfold hblock hcol
  refine (hchunk_eq _ _ _ _ _ t ⟨k % 256, by omega⟩).trans ?_
  have hk' : k = 256 * (k / 256) + k % 256 := by omega
  congr 1 <;> congr 1 <;> funext r <;> first
    | exact ld_whole x _ t r
    | exact ld_cols _ _ r _ ⟨k, hk⟩ hk'

/-- A column of a block of the accumulator. -/
theorem ablock_eq (e : BitVec 32) (ids : Vec Ideal S48x2 .i32) (ew : Vec Ideal S48x2 .f32) (H : Vec Ideal S48x6400 .bf16)
    (w : Vec Ideal S1x3200x1024 .i8) (s : Vec Ideal S1x50x1024 .bf16) (A : Vec Ideal S48x4096 .f32) (j : ℕ) (hj : j < 4) (t : Fin 48)
    (k : ℕ) (hk : k < 1024) (d : Fin 4096) (hd : d.val = 1024 * j + k) : ablock e ids ew H w s A j hj t k hk
      = A (ix2 t d) + addend e ids ew t
        (dot (n := 3200) (g := 50) (fun r => H (ix2 t r)) (fun r => w (ix3 0 r ⟨k, hk⟩)) (fun g => s (ix3 0 g ⟨k, hk⟩)) rfl) := by
  unfold ablock acol
  refine (achunk_eq _ _ _ _ _ _ _ t ⟨k % 256, by omega⟩).trans ?_
  have hk' : k = 256 * (k / 256) + k % 256 := by omega
  have hi (s : Fin 2) : ldI ids (ix2 t s) = ids (ix2 t s) := ld_whole ids _ t s
  have he (s : Fin 2) : ldE ew (ix2 t s) = ew (ix2 t s) := ld_whole ew _ t s
  refine congrArg₂ (· + ·) (ld_acc A _ t _ d (by show d.val = 1024 * j + 256 * (k / 256) + k % 256; omega)) ?_
  unfold addend
  simp only [hi, he]
  refine if_congr Iff.rfl (congrArg₂ (· * ·) rfl ?_) rfl
  congr 1 <;> funext r <;> first
    | exact ld_whole H _ t r
    | exact ld_cols _ _ r _ ⟨k, hk⟩ hk'

/-- The blocks the body reads are the arguments' blocks of the live experts. -/
structure Reads (I : Ins Ideal) (A : Args) (n : ℕ) (σ : Fin 7 → Fin 7) : Prop where
  n_le : n ≤ 7
  num : I.n = BitVec.ofNat 32 n
  e : ∀ (i : Fin 7) (j : Fin 9), i.val < n → I.e (pt i j) = BitVec.ofNat 32 (σ i).val
  x : ∀ p t k, I.x p (ix2 t k) = A.X t k
  ids : ∀ p t s, I.ids p (ix2 t s) = A.ids t s
  ew : ∀ p t s, I.ew p (ix2 t s) = A.ew t s
  wg : ∀ (i : Fin 7) (j : Fin 9), i.val < n → j.val < 5 → ∀ r (k : Fin 1280) (c : Fin 12800), c.val = 1280 * j.val + k.val →
    I.wg (pt i j) (ix3 0 r k) = A.W1 (σ i) r c
  wu : ∀ (i : Fin 7) (j : Fin 9), i.val < n → j.val < 5 → ∀ r (k : Fin 1280) (c : Fin 12800), c.val = 6400 + (1280 * j.val + k.val) →
    I.wu (pt i j) (ix3 0 r k) = A.W1 (σ i) r c
  sg : ∀ (i : Fin 7) (j : Fin 9), i.val < n → j.val < 5 → ∀ r (k : Fin 1280) (c : Fin 12800), c.val = 1280 * j.val + k.val →
    I.sg (pt i j) (ix3 0 r k) = A.S1 (σ i) r c
  su : ∀ (i : Fin 7) (j : Fin 9), i.val < n → j.val < 5 → ∀ r (k : Fin 1280) (c : Fin 12800), c.val = 6400 + (1280 * j.val + k.val) →
    I.su (pt i j) (ix3 0 r k) = A.S1 (σ i) r c
  w : ∀ (i : Fin 7) (j : Fin 9), i.val < n → 5 ≤ j.val → ∀ r (k : Fin 1024) (c : Fin 4096), c.val = 1024 * (j.val - 5) + k.val →
    I.w (pt i j) (ix3 0 r k) = A.W2 (σ i) r c
  s : ∀ (i : Fin 7) (j : Fin 9), i.val < n → 5 ≤ j.val → ∀ r (k : Fin 1024) (c : Fin 4096), c.val = 1024 * (j.val - 5) + k.val →
    I.s (pt i j) (ix3 0 r k) = A.S2 (σ i) r c

theorem live_table : ∀ (a : Fin 7) (n : Fin 8), live a.val (BitVec.ofNat 32 n.val) ↔ a.val < n.val := by
  unfold live
  decide +kernel

variable {I : Ins Ideal} {A : Args} {n : ℕ} {σ : Fin 7 → Fin 7}

theorem Reads.live_iff (R : Reads I A n σ) (i : Fin 7) : live i.val I.n ↔ i.val < n := by
  rw [R.num]; exact live_table i ⟨n, by have := R.n_le; omega⟩

/-- A live slot's `h` columns are its expert's hidden activations. -/
theorem Hval_eq (R : Reads I A n σ) (i : Fin 7) (hi : i.val < n) (t : Fin 48) (k : Fin 6400) : Hval I i (ix2 t k) = hid A (σ i) t k := by
  have h5 : k.val / 1280 < 5 := by omega
  refine (hblock_eq _ _ _ _ _ t _ (by show k.val - 1280 * (k.val / 1280) < 1280; omega)).trans ?_
  unfold hid gu
  have hc : (⟨k.val, by omega⟩ : Fin 12800).val = 1280 * (⟨k.val / 1280, by omega⟩ : Fin 9).val + (⟨k.val - 1280 * (k.val / 1280), by omega⟩ : Fin 1280).val := by
    show k.val = 1280 * (k.val / 1280) + (k.val - 1280 * (k.val / 1280)); omega
  have hc' : (⟨6400 + k.val, by omega⟩ : Fin 12800).val
      = 6400 + (1280 * (⟨k.val / 1280, by omega⟩ : Fin 9).val + (⟨k.val - 1280 * (k.val / 1280), by omega⟩ : Fin 1280).val) := by
    show 6400 + k.val = 6400 + (1280 * (k.val / 1280) + (k.val - 1280 * (k.val / 1280))); omega
  congr 1 <;> congr 1 <;> funext r <;> first
    | exact R.x _ t r
    | exact R.wg i _ hi h5 r _ _ hc
    | exact R.sg i _ hi h5 r _ _ hc
    | exact R.wu i _ hi h5 r _ _ hc'
    | exact R.su i _ hi h5 r _ _ hc'

/-- A step of the accumulator at an index. -/
theorem nextA_eq (R : Reads I A n σ) (i : Fin 7) (j : Fin 9) (B : Vec Ideal S48x4096 .f32) (hz : i.val = 0 → j.val = 0 → B = k0_pay1 (F := Ideal))
    (t : Fin 48) (d : Fin 4096) :
    nextA I (pt i j) B (ix2 t d) = B (ix2 t d) + if i.val < n ∧ j.val = 5 + d.val / 1024 then part A (σ i) t d else 0 := by
  have c0 : ((grid0.coords (pt i j)) 0).val = i.val := (coord0 (pt i j)).trans (by show (9 * i.val + j.val) / 9 = i.val; omega)
  have c1 : ((grid0.coords (pt i j)) 1).val = j.val := (coord1 (pt i j)).trans (by show (9 * i.val + j.val) % 9 = j.val; omega)
  have hB : stepZ (grid0.coords (pt i j)) B = B := by
    unfold stepZ
    by_cases h : isFirst (grid0.coords (pt i j))
    · rw [if_pos h]
      have h0 : 9 * i.val + j.val = 0 := (isFirst_zero (pt i j)).mp h
      exact (hz (by omega) (by omega)).symm
    · rw [if_neg h]
  have hq : (⟨(pt i j).val / 9, by omega⟩ : Fin 7) = i := Fin.ext (by show (9 * i.val + j.val) / 9 = i.val; omega)
  unfold nextA stepA
  rw [hB]
  by_cases h3 : k0_cond3 (grid0.coords (pt i j)) I.n = 1#1
  · rw [dif_pos h3]
    obtain ⟨hl, h5⟩ := (cond3_iff _ _).mp h3
    rw [c0] at hl
    rw [c1] at h5
    have hi := (R.live_iff i).mp hl
    refine (accV_apply _ _ _ h3 _ _ _ _ _ _ B (ix2 t d) (j.val - 5) (by omega) (by rw [c1]; omega)).trans ?_
    by_cases hd : 1024 * (j.val - 5) ≤ d.val ∧ d.val < 1024 * (j.val - 5) + 1024
    · rw [dif_pos (show 1024 * (j.val - 5) ≤ ((ix2 t d : S48x4096.Idx) 1).val ∧ ((ix2 t d : S48x4096.Idx) 1).val < 1024 * (j.val - 5) + 1024 from hd),
        if_pos ⟨hi, by omega⟩]
      refine (ablock_eq _ _ _ _ _ _ B _ _ t _ (by show d.val - 1024 * (j.val - 5) < 1024; omega) d (by show d.val = 1024 * (j.val - 5) + (d.val - 1024 * (j.val - 5)); omega)).trans ?_
      refine congrArg₂ (· + ·) rfl ?_
      have hc : d.val = 1024 * (j.val - 5) + (⟨d.val - 1024 * (j.val - 5), by omega⟩ : Fin 1024).val := by
        show d.val = 1024 * (j.val - 5) + (d.val - 1024 * (j.val - 5)); omega
      unfold addend part
      simp only [R.ids, R.ew, R.e i j hi]
      by_cases hs : ∃ s, A.ids t s = BitVec.ofNat 32 (σ i).val
      swap
      · rw [if_neg hs, if_neg hs]
      rw [if_pos hs, if_pos hs]
      refine congrArg₂ (· * ·) rfl ?_
      unfold y
      rw [hq]
      congr 1 <;> funext r <;> first
        | exact Hval_eq R i hi t r
        | exact R.w i j hi h5 r _ d hc
        | exact R.s i j hi h5 r _ d hc
    · rw [dif_neg (show ¬ (1024 * (j.val - 5) ≤ ((ix2 t d : S48x4096.Idx) 1).val ∧ ((ix2 t d : S48x4096.Idx) 1).val < 1024 * (j.val - 5) + 1024) from hd),
        if_neg (by omega), add_zero]
  · rw [dif_neg h3, if_neg, add_zero]
    rintro ⟨hi, hj⟩
    exact h3 ((cond3_iff _ _).mpr ⟨by rw [c0]; exact (R.live_iff i).mpr hi, by rw [c1]; omega⟩)

theorem pay1_eq (t : Fin 48) (d : Fin 4096) : k0_pay1 (F := Ideal) (ix2 t d) = 0 := by
  pointwise! [k0_pay1]

/-- The accumulator before a point: the parts of the experts whose column is done. -/
theorem Adet_eq (R : Reads I A n σ) (t : Fin 48) (d : Fin 4096) : ∀ p : ℕ, p ≤ 63 → Adet I p (ix2 t d)
    = ∑ i : Fin 7, if i.val < n ∧ 9 * i.val + (5 + d.val / 1024) < p then part A (σ i) t d else 0 := by
  intro p
  induction p with
  | zero =>
    intro _
    refine (pay1_eq t d).trans (Finset.sum_eq_zero fun i _ => if_neg (by omega)).symm
  | succ p ih =>
    intro hp
    have hp' : p < 63 := by omega
    have e : (⟨p, hp'⟩ : Fin 63) = pt ⟨p / 9, by omega⟩ ⟨p % 9, by omega⟩ := Fin.ext (by show p = 9 * (p / 9) + p % 9; omega)
    have s : Adet I (p + 1) = nextA I ⟨p, hp'⟩ (Adet I p) := by
      show (if h : p < 63 then nextA I ⟨p, h⟩ (Adet I p) else Adet I p) = _
      rw [dif_pos hp']
    rw [s, e, nextA_eq R _ _ _ (fun h0 h1 => by
      have h0 : p / 9 = 0 := h0
      have h1 : p % 9 = 0 := h1
      have : p = 0 := by omega
      subst this; rfl), ih (by omega)]
    have hsplit (i : Fin 7) : (if i.val < n ∧ 9 * i.val + (5 + d.val / 1024) < p + 1 then part A (σ i) t d else 0)
        = (if i.val < n ∧ 9 * i.val + (5 + d.val / 1024) < p then part A (σ i) t d else 0)
          + if i.val < n ∧ 9 * i.val + (5 + d.val / 1024) = p then part A (σ i) t d else 0 := by
      by_cases h1 : i.val < n ∧ 9 * i.val + (5 + d.val / 1024) < p
      · rw [if_pos (by omega), if_pos h1, if_neg (by omega), add_zero]
      · by_cases h2 : i.val < n ∧ 9 * i.val + (5 + d.val / 1024) = p
        · rw [if_pos (by omega), if_neg h1, if_pos h2, zero_add]
        · rw [if_neg (by omega), if_neg h1, if_neg h2, add_zero]
    simp only [hsplit]
    rw [Finset.sum_add_distrib]
    refine congrArg₂ (· + ·) rfl ?_
    rw [Finset.sum_eq_single (⟨p / 9, by omega⟩ : Fin 7)]
    · exact if_congr (by show (p / 9 < n ∧ p % 9 = 5 + d.val / 1024) ↔ (p / 9 < n ∧ 9 * (p / 9) + (5 + d.val / 1024) = p); omega) rfl rfl
    · intro i _ hne
      refine if_neg fun h => hne (Fin.ext ?_)
      show i.val = p / 9
      omega
    · exact fun h => absurd (Finset.mem_univ _) h

/-- The accumulator after the last point is the layer's output. -/
theorem Adet_out (b : Fin 7 → BitVec 1) (R : Reads I A (Order.num b) (Order.sig b)) (hA : A.Bounded)
    (hb : ∀ t s (e : Fin 7), A.ids t s = BitVec.ofNat 32 e.val → b e = 1#1) (t : Fin 48) (d : Fin 4096) :
    Adet I 63 (ix2 t d) = out A t d := by
  rw [Adet_eq R t d 63 le_rfl, ← sum_part hA, ← Order.sum_live b (fun e => part A e t d)]
  · exact Finset.sum_congr rfl fun i _ => if_congr (by omega) rfl rfl
  · intro e he
    refine if_neg ?_
    rintro ⟨s, hs⟩
    exact he (hb t s e hs)

end Cert.KernelIdeal.Body

end
-- ==== Proof.KernelIdealReads.lean ====
/-
  The blocks the body reads, as places of the argument arrays: the accumulator after the last point is the layer's
  output.
-/
module

public import proofs.«01_k».proof.Proof.KernelIdealRun
public import proofs.«01_k».proof.Proof.KernelIdealSum
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Cert.Spec
open scoped BigOperators

theorem cast0 (x : Vec Ideal S48x1x4096 .bf16) (r : Fin 48) (q : Fin 4096) : shapeCast S48x4096 x shapeCasts_S48x1x4096_S48x4096 (ix2 r q) = x (ix3 r 0 q) := by
  pointwise!
theorem cast5 {α : Type} (x : S48x1x2.Idx → α) (r : Fin 48) (q : Fin 2) : shapeCast S48x2 x shapeCasts_S48x1x2_S48x2 (ix2 r q) = x (ix3 r 0 q) := by
  pointwise!

/-- A block's place in its array, along each of three axes. -/
theorem place3 {a b n q e k : ℕ} {T : Fin 3 → ℕ} (h : T = ![e, 0, k]) (r : Fin b) (x : Fin q) (e' : Fin a) (x' : Fin n) (he : e'.val = e)
    (hx : x'.val = q * k + x.val) (d : Fin 3) : T d * (![1, b, q] : Fin 3 → ℕ) d + (ix3 (n0 := 1) 0 r x d).val = (ix3 e' r x' d).val := by
  subst h
  match d with
  | ⟨0, _⟩ => show e * 1 + 0 = e'.val; omega
  | ⟨1, _⟩ => show 0 * b + r.val = r.val; omega
  | ⟨2, _⟩ => show k * q + x.val = x'.val; rw [hx, Nat.mul_comm]

/-- A whole array's block. -/
theorem place2 {a b : ℕ} (r : Fin a) (x : Fin b) (d : Fin 2) : (![0, 0] : Fin 2 → ℕ) d * (![a, b] : Fin 2 → ℕ) d + (ix2 r x d).val = (ix2 r x d).val := by
  match d with
  | ⟨0, _⟩ => show 0 * a + r.val = r.val; omega
  | ⟨1, _⟩ => show 0 * b + x.val = x.val; omega

variable (m : (ℓ : Loc nD τ sig) → Buf (Elt Ideal) ℓ) (c : Dev nD) (p : Fin 63)

theorem rd0 (r : Fin 48) (q : Fin 4096) : iblk m (ok m) c 0 (at_ p) (ix2 r q) = m ((c : Thread nD τ).loc main_arg0) (ix3 r 0 q) := by
  unfold iblk
  refine ((congrArg (V m c main_v26) (funext fun a => Fin.ext ?_)).trans (congrFun (V_x m c) (ix2 r q))).trans (cast0 _ r q)
  exact (Pipeline.Window.rect_emb_val ((cfgM m (ok m)).win 0) (at_ p) (ix2 r q) a).trans (place2 r q a)

theorem rd7 (r : Fin 48) (q : Fin 2) : iblk m (ok m) c 7 (at_ p) (ix2 r q) = m ((c : Thread nD τ).loc main_arg5) (ix3 r 0 q) := by
  unfold iblk
  refine ((congrArg (V m c main_v0) (funext fun a => Fin.ext ?_)).trans (congrFun (V_ids m c) (ix2 r q))).trans (cast5 _ r q)
  exact (Pipeline.Window.rect_emb_val ((cfgM m (ok m)).win 7) (at_ p) (ix2 r q) a).trans (place2 r q a)

theorem rd8 (r : Fin 48) (q : Fin 2) : iblk m (ok m) c 8 (at_ p) (ix2 r q) = m ((c : Thread nD τ).loc main_arg6) (ix3 r 0 q) := by
  unfold iblk
  refine ((congrArg (V m c main_v1) (funext fun a => Fin.ext ?_)).trans (congrFun (V_ew m c) (ix2 r q))).trans (cast5 _ r q)
  exact (Pipeline.Window.rect_emb_val ((cfgM m (ok m)).win 8) (at_ p) (ix2 r q) a).trans (place2 r q a)

variable {e k : ℕ}

theorem rd1 (h : cc0_transform_1 inb_S8_S1_7 numel1_S1 k0_off1_inb (tbl m) (grid0.coords (at_ p)) = ![e, 0, k])
    (r : Fin 2048) (q : Fin 1280) (e' : Fin 7) (q' : Fin 12800) (he : e'.val = e) (hq : q'.val = 1280 * k + q.val) :
    iblk m (ok m) c 1 (at_ p) (ix3 0 r q) = m ((c : Thread nD τ).loc main_arg1) (ix3 e' r q') := by
  unfold iblk
  refine (congrArg (V m c main_arg1) (funext fun a => Fin.ext ?_)).trans (congrFun (V_main_arg1 m c) _)
  exact (Pipeline.Window.rect_emb_val ((cfgM m (ok m)).win 1) (at_ p) (ix3 (n0 := 1) 0 r q) a).trans (place3 h r q e' q' he hq a)

theorem rd2 (h : cc0_transform_2 inb_S8_S1_7 numel1_S1 k0_off1_inb (tbl m) (grid0.coords (at_ p)) = ![e, 0, k])
    (r : Fin 2048) (q : Fin 1280) (e' : Fin 7) (q' : Fin 12800) (he : e'.val = e) (hq : q'.val = 1280 * k + q.val) :
    iblk m (ok m) c 2 (at_ p) (ix3 0 r q) = m ((c : Thread nD τ).loc main_arg1) (ix3 e' r q') := by
  unfold iblk
  refine (congrArg (V m c main_arg1) (funext fun a => Fin.ext ?_)).trans (congrFun (V_main_arg1 m c) _)
  exact (Pipeline.Window.rect_emb_val ((cfgM m (ok m)).win 2) (at_ p) (ix3 (n0 := 1) 0 r q) a).trans (place3 h r q e' q' he hq a)

theorem rd3 (h : cc0_transform_3 inb_S8_S1_7 numel1_S1 k0_off1_inb (tbl m) (grid0.coords (at_ p)) = ![e, 0, k])
    (r : Fin 32) (q : Fin 1280) (e' : Fin 7) (q' : Fin 12800) (he : e'.val = e) (hq : q'.val = 1280 * k + q.val) :
    iblk m (ok m) c 3 (at_ p) (ix3 0 r q) = m ((c : Thread nD τ).loc main_arg2) (ix3 e' r q') := by
  unfold iblk
  refine (congrArg (V m c main_arg2) (funext fun a => Fin.ext ?_)).trans (congrFun (V_main_arg2 m c) _)
  exact (Pipeline.Window.rect_emb_val ((cfgM m (ok m)).win 3) (at_ p) (ix3 (n0 := 1) 0 r q) a).trans (place3 h r q e' q' he hq a)

theorem rd4 (h : cc0_transform_4 inb_S8_S1_7 numel1_S1 k0_off1_inb (tbl m) (grid0.coords (at_ p)) = ![e, 0, k])
    (r : Fin 32) (q : Fin 1280) (e' : Fin 7) (q' : Fin 12800) (he : e'.val = e) (hq : q'.val = 1280 * k + q.val) :
    iblk m (ok m) c 4 (at_ p) (ix3 0 r q) = m ((c : Thread nD τ).loc main_arg2) (ix3 e' r q') := by
  unfold iblk
  refine (congrArg (V m c main_arg2) (funext fun a => Fin.ext ?_)).trans (congrFun (V_main_arg2 m c) _)
  exact (Pipeline.Window.rect_emb_val ((cfgM m (ok m)).win 4) (at_ p) (ix3 (n0 := 1) 0 r q) a).trans (place3 h r q e' q' he hq a)

theorem rd5 (h : cc0_transform_5 k0_off2_inb numel1_S1 inb_S8_S1_7 k0_off1_inb (tbl m) (grid0.coords (at_ p)) = ![e, 0, k])
    (r : Fin 3200) (q : Fin 1024) (e' : Fin 7) (q' : Fin 4096) (he : e'.val = e) (hq : q'.val = 1024 * k + q.val) :
    iblk m (ok m) c 5 (at_ p) (ix3 0 r q) = m ((c : Thread nD τ).loc main_arg3) (ix3 e' r q') := by
  unfold iblk
  refine (congrArg (V m c main_arg3) (funext fun a => Fin.ext ?_)).trans (congrFun (V_main_arg3 m c) _)
  exact (Pipeline.Window.rect_emb_val ((cfgM m (ok m)).win 5) (at_ p) (ix3 (n0 := 1) 0 r q) a).trans (place3 h r q e' q' he hq a)

theorem rd6 (h : cc0_transform_6 k0_off2_inb numel1_S1 inb_S8_S1_7 k0_off1_inb (tbl m) (grid0.coords (at_ p)) = ![e, 0, k])
    (r : Fin 50) (q : Fin 1024) (e' : Fin 7) (q' : Fin 4096) (he : e'.val = e) (hq : q'.val = 1024 * k + q.val) :
    iblk m (ok m) c 6 (at_ p) (ix3 0 r q) = m ((c : Thread nD τ).loc main_arg4) (ix3 e' r q') := by
  unfold iblk
  refine (congrArg (V m c main_arg4) (funext fun a => Fin.ext ?_)).trans (congrFun (V_main_arg4 m c) _)
  exact (Pipeline.Window.rect_emb_val ((cfgM m (ok m)).win 6) (at_ p) (ix3 (n0 := 1) 0 r q) a).trans (place3 h r q e' q' he hq a)

/-- The layer's arguments as the kernel's arrays hold them. -/
def argsK : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

set_option maxHeartbeats 2000000 in
/-- The region reads the live experts' blocks. -/
theorem reads : Reads (ins m (ok m) c) (argsK m c) (Order.num (seen m c)) (Order.sig (seen m c)) := by
  obtain rfl : c = 0 := Subsingleton.elim _ _
  have hT : Tab (tbl m 0) (Order.num (seen m 0)) (Order.sig (seen m 0)) := tab m 0 (seen m 0) rfl
  have c0 (i : Fin 7) (j : Fin 9) : (grid0.coords (at_ (pt i j))) 0 = i :=
    Fin.ext ((coord0 (pt i j)).trans (by show (9 * i.val + j.val) / 9 = i.val; omega))
  have c1 (i : Fin 7) (j : Fin 9) : ((grid0.coords (at_ (pt i j))) 1).val = j.val :=
    (coord1 (pt i j)).trans (by show (9 * i.val + j.val) % 9 = j.val; omega)
  refine ⟨hT.n_le, ?_, fun i j hi => ?_, fun p t k => rd0 m 0 p t k, fun p t s => rd7 m 0 p t s, fun p t s => rd8 m 0 p t s,
    fun i j hi hj r k x hx => ?_, fun i j hi hj r k x hx => ?_, fun i j hi hj r k x hx => ?_, fun i j hi hj r k x hx => ?_,
    fun i j hi hj r k x hx => ?_, fun i j hi hj r k x hx => ?_⟩
  · exact (tword_eq (F := Ideal) (tbl m 0) ![7] inb_S8_S1_7 (by decide)).trans (hT.num _ rfl)
  · have hoff : k0_off4 (grid0.coords (at_ (pt i j))) 0 = i.val := (off1_val _).trans (congrArg Fin.val (c0 i j))
    have h8 : k0_off4 (grid0.coords (at_ (pt i j))) 0 < 8 := by rw [hoff]; omega
    obtain ⟨x, hx, hs⟩ := hT.entry (Shape.Idx.ofFin (⟨k0_off4 (grid0.coords (at_ (pt i j))) 0, h8⟩ : Fin 8) : S8.Idx)
      (by show k0_off4 (grid0.coords (at_ (pt i j))) 0 < 7; rw [hoff]; omega)
    refine (tword_eq (F := Ideal) (tbl m 0) (k0_off4 (grid0.coords (at_ (pt i j)))) (k0_off4_inb _) h8).trans (hx.trans ?_)
    rw [hs (by show k0_off4 (grid0.coords (at_ (pt i j))) 0 < _; rw [hoff]; exact hi)]
    exact congrArg (fun v : Fin 7 => BitVec.ofNat 32 (Order.sig (seen m 0) v).val) (Fin.ext hoff)
  · obtain ⟨x0, y0, h, -, -, -, hs⟩ := gate_blocks hT (grid0.coords (at_ (pt i j)))
    obtain ⟨h1, h2⟩ := hs (by rw [c0]; exact hi) (by rw [c1]; exact hj)
    rw [c0] at h1; rw [c1] at h2
    exact rd1 m 0 _ h r k (Order.sig (seen m 0) i) x (congrArg Fin.val h1.symm) (by omega)
  · obtain ⟨x0, y0, -, h, -, -, hs⟩ := gate_blocks hT (grid0.coords (at_ (pt i j)))
    obtain ⟨h1, h2⟩ := hs (by rw [c0]; exact hi) (by rw [c1]; exact hj)
    rw [c0] at h1; rw [c1] at h2
    exact rd2 m 0 _ h r k (Order.sig (seen m 0) i) x (congrArg Fin.val h1.symm) (by omega)
  · obtain ⟨x0, y0, -, -, h, -, hs⟩ := gate_blocks hT (grid0.coords (at_ (pt i j)))
    obtain ⟨h1, h2⟩ := hs (by rw [c0]; exact hi) (by rw [c1]; exact hj)
    rw [c0] at h1; rw [c1] at h2
    exact rd3 m 0 _ h r k (Order.sig (seen m 0) i) x (congrArg Fin.val h1.symm) (by omega)
  · obtain ⟨x0, y0, -, -, -, h, hs⟩ := gate_blocks hT (grid0.coords (at_ (pt i j)))
    obtain ⟨h1, h2⟩ := hs (by rw [c0]; exact hi) (by rw [c1]; exact hj)
    rw [c0] at h1; rw [c1] at h2
    exact rd4 m 0 _ h r k (Order.sig (seen m 0) i) x (congrArg Fin.val h1.symm) (by omega)
  · obtain ⟨x0, y0, h, -, hs⟩ := down_blocks hT (grid0.coords (at_ (pt i j)))
    obtain ⟨h1, h2⟩ := hs (by rw [c0]; exact hi) (by rw [c1]; exact hj)
    rw [c0] at h1; rw [c1] at h2
    exact rd5 m 0 _ h r k (Order.sig (seen m 0) i) x (congrArg Fin.val h1.symm) (by omega)
  · obtain ⟨x0, y0, -, h, hs⟩ := down_blocks hT (grid0.coords (at_ (pt i j)))
    obtain ⟨h1, h2⟩ := hs (by rw [c0]; exact hi) (by rw [c1]; exact hj)
    rw [c0] at h1; rw [c1] at h2
    exact rd6 m 0 _ h r k (Order.sig (seen m 0) i) x (congrArg Fin.val h1.symm) (by omega)

/-- The accumulator after the last point. -/
theorem accEnd_eq (hA : (argsK m c).Bounded) (t : Fin 48) (d : Fin 4096) : accEnd m (ok m) c (ix2 t d) = out (argsK m c) t d :=
  Adet_out (seen m c) (reads m c) hA (fun t s e h => usedV_of _ t s e ((cast5 _ t s).trans h)) t d

end Cert.KernelIdeal.Body

end
-- ==== Proof.KernelIdealResult.lean ====
/-
  The kernel's results at an index: each block's scale is the power of two of the block's largest magnitude, each code the
  output times the scale's reciprocal, kept within the fp8 format's range.
-/
module

public import proofs.«01_k».proof.Proof.KernelIdealReads

@[expose] public section

set_option maxRecDepth 16384

noncomputable section

namespace Cert.KernelIdeal.Body

open Cert.KernelIdeal Cert.KernelIdeal.Gen
open Idealize.ShloMosaic Idealize.ShloMosaic.TcCoe Cert.Spec
open scoped BigOperators

/-- A block's columns of the accumulator. -/
theorem cblk_eq (A : Vec Ideal S48x4096 .f32) (b : Fin 32) (t : Fin 48) (k : Fin 128) :
    cblk A b (ix2 t k) = A (ix2 t ⟨b.val * 128 + k.val, by omega⟩) := by
  refine congrArg A (funext fun d => Fin.ext ((Rect.emb_apply _ _ _).trans ?_))
  match d with
  | ⟨0, _⟩ => show 0 + 1 * t.val = t.val; omega
  | ⟨1, _⟩ => show 128 * b.val + 1 * k.val = b.val * 128 + k.val; omega

set_option maxHeartbeats 1000000 in
theorem qscale_eq (v : Vec Ideal S48x128 .f32) (t : Fin 48) : qscale v (ix2 t 0) = Power.scaleK (mag fun k => v (ix2 t k)) := by
  pointwise! [qscale, k0_pay58, k0_pay57]

set_option maxHeartbeats 1000000 in
theorem kexp_eq (v : Vec Ideal S48x128 .f32) (t : Fin 48) : k0_pay57 v (ix2 t 0) = Power.kexp (mag fun k => v (ix2 t k)) := by
  pointwise! [k0_pay57]

set_option maxHeartbeats 1000000 in
theorem qcodes_eq (v : Vec Ideal S48x128 .f32) (t : Fin 48) (k : Fin 128) : qcodes v (ix2 t k)
    = min (Ideal.ofBits .f32 1138753536#32) (max (Ideal.ofBits .f32 3286237184#32) (v (ix2 t k) * Power.invK (mag fun k => v (ix2 t k)))) := by
  unfold Power.invK
  rw [← kexp_eq]
  pointwise! [qcodes, k0_pay59]
  try rfl

variable (m : (ℓ : Loc nD τ sig) → Buf (Elt Ideal) ℓ) (c : Dev nD)

/-- A block's columns of the output. -/
def blockK (t : Fin 48) (b : Fin 32) : Fin 128 → EReal := fun k => out (argsK m c) t ⟨b.val * 128 + k.val, by omega⟩

variable {m c} (hA : (argsK m c).Bounded)

include hA

theorem cblk_out (t : Fin 48) (b : Fin 32) : (fun k => cblk (accEnd m (ok m) c) b (ix2 t k)) = blockK m c t b :=
  funext fun _ => (cblk_eq _ b t _).trans (accEnd_eq m c hA t _)

/-- The scales. -/
theorem scales_eq (t : Fin 48) (b : Fin 32) : scalesV (accEnd m (ok m) c) (ix2 t b) = Power.scaleK (mag (blockK m c t b)) := by
  rw [← cblk_out hA]
  exact qscale_eq _ t

/-- The codes. -/
theorem codes_eq (t : Fin 48) (n : Fin 4096) : codesV (accEnd m (ok m) c) (ix2 t n)
    = min (Ideal.ofBits .f32 1138753536#32) (max (Ideal.ofBits .f32 3286237184#32)
      (out (argsK m c) t n * Power.invK (mag (blockK m c t ⟨n.val / 128, by omega⟩)))) := by
  rw [← cblk_out hA, ← accEnd_eq m c hA t n]
  refine (qcodes_eq (cblk (accEnd m (ok m) c) ⟨n.val / 128, by omega⟩) t ⟨n.val % 128, by omega⟩).trans ?_
  rw [cblk_eq]
  have e : (⟨n.val / 128 * 128 + n.val % 128, by omega⟩ : Fin 4096) = n := Fin.ext (by show n.val / 128 * 128 + n.val % 128 = n.val; omega)
  rw [e]

end Cert.KernelIdeal.Body

end
-- ==== Proof.RefTerms.lean ====
/-
  The reference's host operations as four composed terms: the hidden activations, the experts' weighted sum, the
  blocks' scales, and the clipped quotients that the cast to fp8 reads.
-/
module

public import proofs.«01_k».proof.Proof.Gen.ReferenceIdeal.Frame
public import Idealize.ShloMosaic.Lib.StableHlo.RunRead

@[expose] public section

set_option maxRecDepth 16384

noncomputable section

namespace Cert.ReferenceIdeal.Body

open Cert.ReferenceIdeal Cert.ReferenceIdeal.Gen
open Idealize.ShloMosaic Idealize.ShloMosaic.TcCoe

variable {F : FTy → Type} [FloatOps F]

/-- The gate and up weights' scales, one row for each row of packed weights. -/
def rS1 (s : Vec F S7x32x12800 .bf16) : FVec F S7x2048x12800 .bf16 :=
  shapeCast S7x2048x12800 (broadcastInDim S7x32x64x12800 ![0, 1, 3] bcast_S7x32x12800_S7x32x64x12800_0_1_3 s) shapeCasts_S7x32x64x12800_S7x2048x12800

/-- The gate and up weights of the even rows. -/
def rLo1 (w : Vec F S7x2048x12800 .i8) (s : Vec F S7x32x12800 .bf16) : FVec F S7x2048x12800 .bf16 :=
  mulf (subf (sitofp .bf16 (andi (extui 32 w natLt_8_32) (broadcastInDim S7x2048x12800 ![] bcast_S_S7x2048x12800 (constantI S_ 32 15#32))))
    (broadcastInDim S7x2048x12800 ![] bcast_S_S7x2048x12800 (constant S_ .bf16 0x4100#16))) (rS1 s)

/-- The gate and up weights of the odd rows. -/
def rHi1 (w : Vec F S7x2048x12800 .i8) (s : Vec F S7x32x12800 .bf16) : FVec F S7x2048x12800 .bf16 :=
  mulf (subf (sitofp .bf16 (Host.shrsi (extui 32 w natLt_8_32) (broadcastInDim S7x2048x12800 ![] bcast_S_S7x2048x12800 (constantI S_ 32 4#32))))
    (broadcastInDim S7x2048x12800 ![] bcast_S_S7x2048x12800 (constant S_ .bf16 0x4100#16))) (rS1 s)

/-- The first product: each token's row with each expert's gate and up weights. -/
def rGu (x : Vec F S48x1x4096 .bf16) (w : Vec F S7x2048x12800 .i8) (s : Vec F S7x32x12800 .bf16) : FVec F S48x7x12800 .f32 :=
  addf
    (Host.dotGeneral dot_S48x2048_S7x2048x12800_S48x7x12800_1_1_0_02_n_n none
      (Host.slice S48x2048 ![0, 0] ![1, 2] (shapeCast S48x4096 x shapeCasts_S48x1x4096_S48x4096) slicesBy_S48x4096_S48x2048_0s1_0s2 : FVec F S48x2048 .bf16) (rLo1 w s))
    (Host.dotGeneral dot_S48x2048_S7x2048x12800_S48x7x12800_1_1_0_02_n_n none
      (Host.slice S48x2048 ![0, 1] ![1, 2] (shapeCast S48x4096 x shapeCasts_S48x1x4096_S48x4096) slicesBy_S48x4096_S48x2048_0s1_1s2 : FVec F S48x2048 .bf16) (rHi1 w s))

/-- The hidden activations. -/
def rH (g : FVec F S48x7x12800 .f32) : FVec F S48x7x6400 .bf16 :=
  truncf .bf16 (mulf
    (mulf (extractStridedSlice S48x7x6400 ![0, 0, 0] g slices_S48x7x12800_S48x7x6400_0_0_0)
      (Host.divf (broadcastInDim S48x7x6400 ![] bcast_S_S48x7x6400 (constant S_ .f32 0x3F800000#32))
        (addf (broadcastInDim S48x7x6400 ![] bcast_S_S48x7x6400 (constant S_ .f32 0x3F800000#32))
          (Host.exp (Host.negf (extractStridedSlice S48x7x6400 ![0, 0, 0] g slices_S48x7x12800_S48x7x6400_0_0_0))))))
    (extractStridedSlice S48x7x6400 ![0, 0, 6400] g slices_S48x7x12800_S48x7x6400_0_0_6400)) bitsLt_bf16_f32

/-- The down weights' scales, one row for each row of packed weights. -/
def rS2 (s : Vec F S7x50x4096 .bf16) : FVec F S7x3200x4096 .bf16 :=
  shapeCast S7x3200x4096 (broadcastInDim S7x50x64x4096 ![0, 1, 3] bcast_S7x50x4096_S7x50x64x4096_0_1_3 s) shapeCasts_S7x50x64x4096_S7x3200x4096

/-- The down weights of the even rows. -/
def rLo2 (w : Vec F S7x3200x4096 .i8) (s : Vec F S7x50x4096 .bf16) : FVec F S7x3200x4096 .bf16 :=
  mulf (subf (sitofp .bf16 (andi (extui 32 w natLt_8_32) (broadcastInDim S7x3200x4096 ![] bcast_S_S7x3200x4096 (constantI S_ 32 15#32))))
    (broadcastInDim S7x3200x4096 ![] bcast_S_S7x3200x4096 (constant S_ .bf16 0x4100#16))) (rS2 s)

/-- The down weights of the odd rows. -/
def rHi2 (w : Vec F S7x3200x4096 .i8) (s : Vec F S7x50x4096 .bf16) : FVec F S7x3200x4096 .bf16 :=
  mulf (subf (sitofp .bf16 (Host.shrsi (extui 32 w natLt_8_32) (broadcastInDim S7x3200x4096 ![] bcast_S_S7x3200x4096 (constantI S_ 32 4#32))))
    (broadcastInDim S7x3200x4096 ![] bcast_S_S7x3200x4096 (constant S_ .bf16 0x4100#16))) (rS2 s)

/-- The second product: each expert's hidden activations with its down weights. -/
def rY (h : FVec F S48x7x6400 .bf16) (w : Vec F S7x3200x4096 .i8) (s : Vec F S7x50x4096 .bf16) : FVec F S7x48x4096 .f32 :=
  addf
    (Host.dotGeneral dot_S48x7x3200_S7x3200x4096_S7x48x4096_2_1_0_2_1_0 none
      (Host.slice S48x7x3200 ![0, 0, 0] ![1, 1, 2] h slicesBy_S48x7x6400_S48x7x3200_0s1_0s1_0s2 : FVec F S48x7x3200 .bf16) (rLo2 w s))
    (Host.dotGeneral dot_S48x7x3200_S7x3200x4096_S7x48x4096_2_1_0_2_1_0 none
      (Host.slice S48x7x3200 ![0, 0, 1] ![1, 1, 2] h slicesBy_S48x7x6400_S48x7x3200_0s1_0s1_1s2 : FVec F S48x7x3200 .bf16) (rHi2 w s))

/-- The experts' sum, each token's chosen experts by their weights. -/
def rOut (y : FVec F S7x48x4096 .f32) (ids : Vec F S48x1x2 .i32) (ew : Vec F S48x1x2 .f32) : FVec F S48x4096 .f32 :=
  Host.reduceAdd
    (select (broadcastInDim S7x48x2x4096 ![0, 1, 2, 3] bcast_S7x48x2x1_S7x48x2x4096_0_1_2_3 (broadcastInDim S7x48x2x1 ![0, 1, 2] bcast_S7x48x2_S7x48x2x1_0_1_2
        (cmpi .eq
          (broadcastInDim S7x48x2 ![0, 1, 2] bcast_S1x48x2_S7x48x2_0_1_2 (broadcastInDim S1x48x2 ![1, 2] bcast_S48x2_S1x48x2_1_2 (shapeCast S48x2 ids shapeCasts_S48x1x2_S48x2)))
          (broadcastInDim S7x48x2 ![0, 1, 2] bcast_S7x1x1_S7x48x2_0_1_2 (broadcastInDim S7x1x1 ![0] bcast_S7_S7x1x1_0 (iotaInDim S7 32 0))))))
      (mulf (broadcastInDim S7x48x2x4096 ![0, 1, 2, 3] bcast_S1x48x2x1_S7x48x2x4096_0_1_2_3 (broadcastInDim S1x48x2x1 ![1, 2] bcast_S48x2_S1x48x2x1_1_2 (shapeCast S48x2 ew shapeCasts_S48x1x2_S48x2)))
        (broadcastInDim S7x48x2x4096 ![0, 1, 2, 3] bcast_S7x48x1x4096_S7x48x2x4096_0_1_2_3 (broadcastInDim S7x48x1x4096 ![0, 1, 3] bcast_S7x48x4096_S7x48x1x4096_0_1_3 y)))
      (broadcastInDim S7x48x2x4096 ![] bcast_S_S7x48x2x4096 (constant S_ .f32 0x00000000#32)))
    (constant S_ .f32 0x00000000#32) reducesTo_S7x48x2x4096_S48x4096_d0_2 h_S_

/-- The sum in blocks of 128 columns. -/
def rBlk (o : FVec F S48x4096 .f32) : FVec F S48x32x128 .f32 := shapeCast S48x32x128 o shapeCasts_S48x4096_S48x32x128

/-- The table of the powers of two. -/
def rTable : FVec F S253 .f32 := fun i => FloatOps.ofBits .f32 (lit0 (S253.rowMajor i))

/-- Each block's largest magnitude over 448. -/
def rMax (o : FVec F S48x4096 .f32) : FVec F S48x32 .f32 :=
  mulf (Host.reduce FloatOps.maximumf (Host.absf (rBlk o)) (constant S_ .f32 0xFF800000#32) reducesTo_S48x32x128_S48x32_d2 h_S_)
    (broadcastInDim S48x32 ![] bcast_S_S48x32 (constant S_ .f32 0x3B124925#32))

/-- Which powers of two fit each block's magnitude. -/
def rFits (p : FVec F S253 .f32) (a : FVec F S48x32 .f32) : IVec S48x32x253 1 :=
  andi
    (cmpf .ole (broadcastInDim S48x32x253 ![0, 1, 2] bcast_S1x1x253_S48x32x253_0_1_2 (broadcastInDim S1x1x253 ![2] bcast_S253_S1x1x253_2
        (mulf p (broadcastInDim S253 ![] bcast_S_S253 (constant S_ .f32 0x3F000000#32)))))
      (broadcastInDim S48x32x253 ![0, 1, 2] bcast_S48x32x1_S48x32x253_0_1_2 (broadcastInDim S48x32x1 ![0, 1] bcast_S48x32_S48x32x1_0_1 a)))
    (cmpf .olt (broadcastInDim S48x32x253 ![0, 1, 2] bcast_S48x32x1_S48x32x253_0_1_2 (broadcastInDim S48x32x1 ![0, 1] bcast_S48x32_S48x32x1_0_1 a))
      (broadcastInDim S48x32x253 ![0, 1, 2] bcast_S1x1x253_S48x32x253_0_1_2 (broadcastInDim S1x1x253 ![2] bcast_S253_S1x1x253_2 p)))

/-- The blocks' scales. -/
def rScale (p : FVec F S253 .f32) (a : FVec F S48x32 .f32) : FVec F S48x32 .f32 :=
  select (Host.reduce IntOp.ori (rFits p a) (constantI S_ 1 0#1) reducesTo_S48x32x253_S48x32_d2 h_S_)
    (Host.reduceAdd
      (select (rFits p a) (broadcastInDim S48x32x253 ![2] bcast_S253_S48x32x253_2 p)
        (broadcastInDim S48x32x253 ![] bcast_S_S48x32x253 (constant S_ .f32 0x00000000#32)))
      (constant S_ .f32 0x00000000#32) reducesTo_S48x32x253_S48x32_d2 h_S_)
    (broadcastInDim S48x32 ![] bcast_S_S48x32 (constant S_ .f32 0x3F800000#32))

/-- The clipped quotients. -/
def rQuot (o : FVec F S48x4096 .f32) (s : FVec F S48x32 .f32) : FVec F S48x4096 .f32 :=
  shapeCast S48x4096
    (minimumf (broadcastInDim S48x32x128 ![] bcast_S_S48x32x128 (constant S_ .f32 0x43E00000#32))
      (maximumf (broadcastInDim S48x32x128 ![] bcast_S_S48x32x128 (constant S_ .f32 0xC3E00000#32))
        (Host.divf (rBlk o) (broadcastInDim S48x32x128 ![0, 1, 2] bcast_S48x32x1_S48x32x128_0_1_2 (broadcastInDim S48x32x1 ![0, 1] bcast_S48x32_S48x32x1_0_1 s)))))
    shapeCasts_S48x32x128_S48x4096

variable (m : (ℓ : Loc nD τ sig) → Buf (Elt F) ℓ)

set_option maxHeartbeats 4000000 in
theorem V_gu (c : Dev nD) : V m c main_v37
    = rGu (m ((c : Thread nD τ).loc main_arg0)) (m ((c : Thread nD τ).loc main_arg1)) (m ((c : Thread nD τ).loc main_arg2)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
theorem V_h (c : Dev nD) : V m c main_v48 = rH (V m c main_v37) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
theorem V_y (c : Dev nD) : V m c main_v53 = rY (V m c main_v48) (m ((c : Thread nD τ).loc main_arg3)) (m ((c : Thread nD τ).loc main_arg4)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

set_option maxHeartbeats 4000000 in
theorem V_out (c : Dev nD) : V m c main_v67 = rOut (V m c main_v53) (m ((c : Thread nD τ).loc main_arg5)) (m ((c : Thread nD τ).loc main_arg6)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_reads_simp
  rfl

/-- The host operations up to the experts' sum. -/
abbrev headOps : List (HloOp τ sig (Elt F)) := List.flatten [hostOps0, hostOps0_1]

/-- The host operations from the experts' sum on. -/
abbrev tailOps : List (HloOp τ sig (Elt F)) := List.flatten [hostOps0_2, hostOps0_3, hostOps0_4, hostOps0_5, hostOps0_6, hostOps0_7, hostOps0_8]

/-- The contents the region finds, through the two parts. -/
theorem V_tail (c : Dev nD) (b : Ref sig .tc) : V m c b = StableHlo.after tailOps (StableHlo.after headOps (fun b => m (c, b))) b := by
  unfold V
  rw [show (List.flatten [hostOps0, hostOps0_1, hostOps0_2, hostOps0_3, hostOps0_4, hostOps0_5, hostOps0_6, hostOps0_7, hostOps0_8]
      : List (HloOp τ sig (Elt F))) = headOps ++ tailOps from by simp only [headOps, tailOps, List.flatten_cons, List.flatten_nil, List.append_nil, List.append_assoc]]
  rw [StableHlo.after_append]

set_option maxHeartbeats 4000000 in
theorem tail_max (W : Valuation τ sig (Elt F)) : StableHlo.after tailOps W main_v72
    = rMax (StableHlo.after tailOps W main_v67) := by
  simp only [tailOps, List.flatten_cons, List.flatten_nil, List.append_nil, List.cons_append, List.nil_append, hostOps0_2, hostOps0_3, hostOps0_4, hostOps0_5, hostOps0_6, hostOps0_7, hostOps0_8]
  after_reads_simp
  rfl

set_option maxHeartbeats 4000000 in
theorem tail_fits (W : Valuation τ sig (Elt F)) : StableHlo.after tailOps W main_v85
    = rFits (W main_cst) (StableHlo.after tailOps W main_v72) := by
  simp only [tailOps, List.flatten_cons, List.flatten_nil, List.append_nil, List.cons_append, List.nil_append, hostOps0_2, hostOps0_3, hostOps0_4, hostOps0_5, hostOps0_6, hostOps0_7, hostOps0_8]
  after_reads_simp
  rfl

set_option maxHeartbeats 4000000 in
theorem tail_any (W : Valuation τ sig (Elt F)) : StableHlo.after tailOps W main_v86
    = Host.reduce IntOp.ori ((StableHlo.after tailOps W main_v85) : IVec S48x32x253 1) (constantI S_ 1 0#1) reducesTo_S48x32x253_S48x32_d2 h_S_ := by
  simp only [tailOps, List.flatten_cons, List.flatten_nil, List.append_nil, List.cons_append, List.nil_append, hostOps0_2, hostOps0_3, hostOps0_4, hostOps0_5, hostOps0_6, hostOps0_7, hostOps0_8]
  after_reads_simp

set_option maxHeartbeats 4000000 in
theorem tail_pick (W : Valuation τ sig (Elt F)) : StableHlo.after tailOps W main_v87
    = (select ((StableHlo.after tailOps W main_v85) : IVec S48x32x253 1) (broadcastInDim S48x32x253 ![2] bcast_S253_S48x32x253_2 (W main_cst : FVec F S253 .f32)) (broadcastInDim S48x32x253 ![] bcast_S_S48x32x253 (constant S_ .f32 0x00000000#32)) : FVec F S48x32x253 .f32) := by
  simp only [tailOps, List.flatten_cons, List.flatten_nil, List.append_nil, List.cons_append, List.nil_append, hostOps0_2, hostOps0_3, hostOps0_4, hostOps0_5, hostOps0_6, hostOps0_7, hostOps0_8]
  after_reads_simp
  rfl

set_option maxHeartbeats 4000000 in
theorem tail_sum (W : Valuation τ sig (Elt F)) : StableHlo.after tailOps W main_v88
    = Host.reduceAdd ((StableHlo.after tailOps W main_v87) : FVec F S48x32x253 .f32) (constant S_ .f32 0x00000000#32) reducesTo_S48x32x253_S48x32_d2 h_S_ := by
  simp only [tailOps, List.flatten_cons, List.flatten_nil, List.append_nil, List.cons_append, List.nil_append, hostOps0_2, hostOps0_3, hostOps0_4, hostOps0_5, hostOps0_6, hostOps0_7, hostOps0_8]
  after_reads_simp

set_option maxHeartbeats 4000000 in
theorem tail_sel (W : Valuation τ sig (Elt F)) : StableHlo.after tailOps W main_v89
    = (select ((StableHlo.after tailOps W main_v86) : IVec S48x32 1) ((StableHlo.after tailOps W main_v88) : FVec F S48x32 .f32) (broadcastInDim S48x32 ![] bcast_S_S48x32 (constant S_ .f32 0x3F800000#32)) : FVec F S48x32 .f32) := by
  simp only [tailOps, List.flatten_cons, List.flatten_nil, List.append_nil, List.cons_append, List.nil_append, hostOps0_2, hostOps0_3, hostOps0_4, hostOps0_5, hostOps0_6, hostOps0_7, hostOps0_8]
  after_reads_simp
  simp -implicitDefEqProofs only [StableHlo.TRef.toBuf, StableHlo.TRef.ofBuf, cast_cast, cast_eq, id]

theorem tail_scale (W : Valuation τ sig (Elt F)) : StableHlo.after tailOps W main_v89
    = rScale (W main_cst) (StableHlo.after tailOps W main_v72) := by
  rw [tail_sel, tail_any, tail_sum, tail_pick, tail_fits]
  rfl

set_option maxHeartbeats 4000000 in
theorem tail_quot (W : Valuation τ sig (Elt F)) : StableHlo.after tailOps W main_v94
    = rQuot (StableHlo.after tailOps W main_v67) (StableHlo.after tailOps W main_v89) := by
  simp only [tailOps, List.flatten_cons, List.flatten_nil, List.append_nil, List.cons_append, List.nil_append, hostOps0_2, hostOps0_3, hostOps0_4, hostOps0_5, hostOps0_6, hostOps0_7, hostOps0_8]
  after_reads_simp
  rfl

theorem head_table (c : Dev nD) : StableHlo.after headOps (fun b => m (c, b)) main_cst = (rTable : FVec F S253 .f32) := by
  simp only [headOps, List.flatten_cons, List.flatten_nil, List.append_nil, List.cons_append, List.nil_append, hostOps0, hostOps0_1]
  after_reads_simp
  rfl

theorem V_max (c : Dev nD) : V m c main_v72 = rMax (V m c main_v67) := by
  rw [V_tail, V_tail, tail_max]

theorem V_scale (c : Dev nD) : V m c main_v89 = rScale rTable (V m c main_v72) := by
  rw [V_tail, V_tail, tail_scale, head_table]

theorem V_quot (c : Dev nD) : V m c main_v94 = rQuot (V m c main_v67) (V m c main_v89) := by
  rw [V_tail, V_tail, V_tail, tail_quot]

end Cert.ReferenceIdeal.Body

end
-- ==== Proof.RefValue.lean ====
/-
  The reference's composed terms at an index are the layer's mathematics.
-/
module

public import proofs.«01_k».proof.Proof.RefTerms
public import proofs.«01_k».proof.Proof.Arrays

@[expose] public section

set_option maxRecDepth 16384

noncomputable section

namespace Cert.ReferenceIdeal.Body

open Cert.ReferenceIdeal Cert.ReferenceIdeal.Gen
open Idealize.ShloMosaic Idealize.ShloMosaic.TcCoe Cert.Spec
open scoped BigOperators

variable (x : Vec Ideal S48x1x4096 .bf16) (w1 : Vec Ideal S7x2048x12800 .i8) (s1 : Vec Ideal S7x32x12800 .bf16)
  (w2 : Vec Ideal S7x3200x4096 .i8) (s2 : Vec Ideal S7x50x4096 .bf16) (ids : Vec Ideal S48x1x2 .i32) (ew : Vec Ideal S48x1x2 .f32)

set_option maxHeartbeats 1000000 in
theorem rGu_eq (t : Fin 48) (e : Fin 7) (n : Fin 12800) : rGu x w1 s1 (ix3 t e n) = gu (args x w1 s1 w2 s2 ids ew) e t n := by
  unfold gu
  rw [dot_halves]
  pointwise! [rGu, rLo1, rHi1, rS1]
  refine congrArg₂ (· + ·) (Finset.sum_congr rfl fun r _ => ?_) (Finset.sum_congr rfl fun r _ => ?_)
  · exact congrArg₂ (· * ·) rfl (congrArg₂ (· * ·) (lo_eq _) rfl)
  · exact congrArg₂ (· * ·) rfl (congrArg₂ (· * ·) (hi_eq _) rfl)

set_option maxHeartbeats 1000000 in
theorem rH_eq (g : FVec Ideal S48x7x12800 .f32) (A : Args) (hg : ∀ t e n, g (ix3 t e n) = gu A e t n) (t : Fin 48) (e : Fin 7) (n : Fin 6400) :
    rH g (ix3 t e n) = hid A e t n := by
  unfold hid act
  rw [← hg, ← hg]
  pointwise! [rH]

set_option maxHeartbeats 1000000 in
theorem rY_eq (h : FVec Ideal S48x7x6400 .bf16) (hh : ∀ t e n, h (ix3 t e n) = hid (args x w1 s1 w2 s2 ids ew) e t n) (e : Fin 7) (t : Fin 48) (n : Fin 4096) :
    rY h w2 s2 (ix3 e t n) = y (args x w1 s1 w2 s2 ids ew) e t n := by
  unfold y
  rw [dot_halves]
  pointwise! [rY, rLo2, rHi2, rS2]
  refine congrArg₂ (· + ·) (Finset.sum_congr rfl fun r _ => ?_) (Finset.sum_congr rfl fun r _ => ?_)
  · exact congrArg₂ (· * ·) (hh _ _ _) (congrArg₂ (· * ·) (lo_eq _) rfl)
  · exact congrArg₂ (· * ·) (hh _ _ _) (congrArg₂ (· * ·) (hi_eq _) rfl)

set_option maxHeartbeats 1000000 in
theorem rOut_eq (yv : FVec Ideal S7x48x4096 .f32) (hy : ∀ e t n, yv (ix3 e t n) = y (args x w1 s1 w2 s2 ids ew) e t n) (t : Fin 48) (n : Fin 4096) :
    rOut yv ids ew (ix2 t n) = out (args x w1 s1 w2 s2 ids ew) t n := by
  unfold rOut out
  rw [Host.reduceAdd]
  show Ideal.hostReduceAdd _ _ _ _ = _
  unfold Ideal.hostReduceAdd
  rw [sum_axes]
  rw [show (constant (F := Ideal) S_ FTy.f32 0#32) (Shape.Idx.first h_S_) = 0 from Ideal.ofBits_zero_f32, zero_add]
  refine Finset.sum_congr rfl fun e _ => Finset.sum_congr rfl fun s _ => ?_
  rw [← hy]
  pointwise!
  exact select_eq _ _ _ _

set_option maxHeartbeats 1000000 in
theorem rMax_eq (o : FVec Ideal S48x4096 .f32) (t : Fin 48) (b : Fin 32) :
    rMax o (ix2 t b) = mag fun k => o (ix2 t ⟨b.val * 128 + k.val, by omega⟩) := by
  pointwise! [rMax, rBlk]

set_option maxHeartbeats 1000000 in
theorem rScale_eq (p : FVec Ideal S253 .f32) (a : FVec Ideal S48x32 .f32) (t : Fin 48) (b : Fin 32) :
    rScale p a (ix2 t b) = Power.scaleT (fun x => p (ix1 x)) (a (ix2 t b)) := by
  pointwise! [rScale, rFits]

set_option maxHeartbeats 1000000 in
theorem rQuot_eq (o : FVec Ideal S48x4096 .f32) (s : FVec Ideal S48x32 .f32) (t : Fin 48) (n : Fin 4096) :
    rQuot o s (ix2 t n) = min (Ideal.ofBits .f32 1138753536#32) (max (Ideal.ofBits .f32 3286237184#32)
      (Ideal.div (o (ix2 t n)) (s (ix2 t ⟨n.val / 128, by omega⟩)))) := by
  pointwise! [rQuot, rBlk]
  try rfl

theorem lit0_eq : ∀ i : Fin 253, lit0 i = Power.word (i.val + 2) := by decide +kernel

/-- The table is the powers of two from the second normal to the last. -/
theorem rTable_eq (i : Fin 253) : (rTable : FVec Ideal S253 .f32) (ix1 i) = Ideal.ofBits .f32 (Power.word (i.val + 2)) := by
  have e : (S253.rowMajor (ix1 i)) = i := by
    exact Fin.ext (Shape.rowMajor_val_one _)
  show Ideal.ofBits .f32 (lit0 (S253.rowMajor (ix1 i))) = _
  rw [e, lit0_eq]

variable (m : (ℓ : Loc nD τ sig) → Buf (Elt Ideal) ℓ) (c : Dev nD)

/-- The layer's arguments as the reference's arrays hold them. -/
def argsR : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The experts' sum is the layer's output. -/
theorem V_out_eq (t : Fin 48) (n : Fin 4096) : (V m c main_v67 : FVec Ideal S48x4096 .f32) (ix2 t n) = out (argsR m c) t n := by
  have h37 (t : Fin 48) (e : Fin 7) (n : Fin 12800) : (V m c main_v37 : FVec Ideal S48x7x12800 .f32) (ix3 t e n) = gu (argsR m c) e t n := by
    rw [V_gu]; exact rGu_eq _ _ _ _ _ _ _ t e n
  have h48 (t : Fin 48) (e : Fin 7) (n : Fin 6400) : (V m c main_v48 : FVec Ideal S48x7x6400 .bf16) (ix3 t e n) = hid (argsR m c) e t n := by
    rw [V_h]; exact rH_eq _ _ h37 t e n
  have h53 (e : Fin 7) (t : Fin 48) (n : Fin 4096) : (V m c main_v53 : FVec Ideal S7x48x4096 .f32) (ix3 e t n) = y (argsR m c) e t n := by
    rw [V_y]; exact rY_eq _ _ _ _ _ _ _ _ h48 e t n
  rw [V_out]
  exact rOut_eq _ _ _ _ _ _ _ _ h53 t n

/-- A block's columns of the output. -/
def blockR (t : Fin 48) (b : Fin 32) : Fin 128 → EReal := fun k => out (argsR m c) t ⟨b.val * 128 + k.val, by omega⟩

/-- The scales. -/
theorem V_scale_eq (t : Fin 48) (b : Fin 32) : (V m c main_v89 : FVec Ideal S48x32 .f32) (ix2 t b)
    = Power.scaleT (fun x => (rTable : FVec Ideal S253 .f32) (ix1 x)) (mag (blockR m c t b)) := by
  rw [V_scale, rScale_eq, V_max, rMax_eq]
  refine congrArg (fun v => Power.scaleT _ (mag v)) (funext fun k => ?_)
  exact V_out_eq m c t _

/-- The quotients that the cast to fp8 reads. -/
theorem V_quot_eq (t : Fin 48) (n : Fin 4096) : (V m c main_v94 : FVec Ideal S48x4096 .f32) (ix2 t n)
    = min (Ideal.ofBits .f32 1138753536#32) (max (Ideal.ofBits .f32 3286237184#32)
      (Ideal.div (out (argsR m c) t n) (Power.scaleT (fun x => (rTable : FVec Ideal S253 .f32) (ix1 x)) (mag (blockR m c t ⟨n.val / 128, by omega⟩))))) := by
  rw [V_quot, rQuot_eq, V_out_eq, V_scale_eq]

end Cert.ReferenceIdeal.Body

end
-- ==== Proof.RefRun.lean ====
/-
  The reference's run: the codes' array holds the quotients (the cast to fp8 is the identity over the reals), the scales'
  array what the host computed.
-/
module

public import proofs.«01_k».proof.Proof.RefValue
public import proofs.«01_k».proof.Proof.Gen.ReferenceIdeal.Value
public import Idealize.ShloMosaic.Lib.Pipeline.ValueKit

@[expose] public section

set_option maxRecDepth 16384

noncomputable section

namespace Cert.ReferenceIdeal.Body

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg) (c : Dev nD)

/-- The one point. -/
def p0 : Fin cfg0.N := ⟨0, by decide⟩

theorem whole1 : (cfg0.win 1).WholeAt p0 := by
  refine ⟨by decide +kernel, fun t _ => ?_, fun a => ?_⟩
  · exact (by decide +kernel : ∀ t : Fin cfg0.N, t = p0) t
  · match a with
    | ⟨0, _⟩ => exact ⟨rfl, rfl⟩
    | ⟨1, _⟩ => exact ⟨rfl, rfl⟩

/-- The cast's input block is the whole array. -/
theorem iblk0 (y : S48x4096.Idx) : iblk m c 0 p0 y = V m c main_v94 y := by
  unfold iblk
  refine congrArg (V m c main_v94) (funext fun a => Fin.ext ?_)
  refine (Pipeline.Window.rect_emb_val (cfg0.win 0) p0 y a).trans ?_
  match a with
  | ⟨0, _⟩ => show 0 * 48 + (y 0).val = (y 0).val; omega
  | ⟨1, _⟩ => show 0 * 4096 + (y 1).val = (y 1).val; omega

theorem out_eq (x : Vec Ideal S48x4096 .f32) (y : S48x4096.Idx) : out0_1 x y = x y := by
  refine (Value.canon1_eq _ y).trans ?_
  refine congrArg x (funext fun d => Fin.ext ((Rect.emb_apply _ _ _).trans ?_))
  match d with
  | ⟨0, _⟩ => show 0 + 1 * (y 0).val = (y 0).val; omega
  | ⟨1, _⟩ => show 0 + 1 * (y 1).val = (y 1).val; omega

/-- What the one point leaves for the codes. -/
theorem after1 (y : S48x4096.Idx) : (dats m 0 c).after 1 p0 y = (V m c main_v94 : FVec Ideal S48x4096 .f32) y :=
  (congrFun (after0_1 m c p0) y).trans ((out_eq _ y).trans (iblk0 m c y))

set_option maxHeartbeats 1000000 in
/-- The codes' array. -/
theorem arr1 : (dats m 0 c).arrAt 1 cfg0.N = (V m c main_v94 : FVec Ideal S48x4096 .f32) := by
  have h := after1 m c
  generalize (V m c main_v94 : FVec Ideal S48x4096 .f32) = v at h ⊢
  exact (dats m 0 c).arrAt_eq_of_after_last 1 p0 whole1 v fun j => h j

/-- The results. -/
theorem results : θ_run defs (onTc (τ := τ) (main (F := Ideal))) ⟨m, fun _ => 0, ρ⟩ (fun r => ∀ c : Dev nD,
      r.2.mem ((c.tc : Thread nD τ).loc main_v95) = (V m c main_v94 : FVec Ideal S48x4096 .f32)
      ∧ r.2.mem ((c.tc : Thread nD τ).loc main_v89) = V m c main_v89) :=
  (θ_run defs _ _).mono (fun r h c => ⟨(Value.post1 m r h c).trans (arr1 m c),
    (h c).2 main_v89 (Pipeline.mem_restRefs_of main_v89 (by decide) (by decide))⟩) (run_main m ρ)

end Cert.ReferenceIdeal.Body

end
-- ==== Proof.Bounds.lean ====
/-
  The precondition read: every input, scale and weight it names is a real number of at most the stated magnitude.
-/
module

public import proofs.«01_k».proof.Proof.Gen.Pre_bounded
public import proofs.«01_k».proof.Proof.Arrays
public import Idealize.ShloMosaic.Lib.ReduceAll

@[expose] public section

set_option maxRecDepth 16384

noncomputable section

namespace Cert.Spec

open Idealize.ShloMosaic Cert.Pre_bounded Cert.Pre_bounded.Gen

/-- A magnitude compared with a real bound. -/
theorem Bd.of_cmp {v k : EReal} {B : ℝ} (hk : k = (B : EReal)) (h : Ideal.cmp .ole (max v (-v)) k = 1#1) : Bd B v := by
  have h' : max v (-v) ≤ (B : EReal) := by
    rw [hk] at h
    by_contra hc
    simp [Ideal.cmp, hc] at h
  obtain ⟨h1, h2⟩ := max_le_iff.mp h'
  induction v with
  | bot => simp at h2
  | top => simp at h1
  | coe r =>
    rw [← EReal.coe_neg] at h2
    exact ⟨r, rfl, abs_le'.mpr ⟨EReal.coe_le_coe_iff.mp h1, EReal.coe_le_coe_iff.mp h2⟩⟩

theorem big_eq : Ideal.ofBits FTy.bf16 0x4980#16 = ((2 ^ 20 : ℝ) : EReal) := by
  have a : ((0x4980#16).extractLsb' 15 1 == 1#1) = false := by decide +kernel
  have b : ((0x4980#16).extractLsb' 7 8).toNat = 147 := by decide +kernel
  have c : ((0x4980#16).extractLsb' 0 7).toNat = 0 := by decide +kernel
  show Ideal.ieee 8 7 (0x4980#16) = _
  unfold Ideal.ieee
  simp only [show 8 + 7 = 15 from rfl, a, b, c]
  rw [if_neg (by omega), if_neg (by omega)]
  norm_num

theorem mid_eq : Ideal.ofBits FTy.bf16 0x4480#16 = ((2 ^ 10 : ℝ) : EReal) := by
  have a : ((0x4480#16).extractLsb' 15 1 == 1#1) = false := by decide +kernel
  have b : ((0x4480#16).extractLsb' 7 8).toNat = 137 := by decide +kernel
  have c : ((0x4480#16).extractLsb' 0 7).toNat = 0 := by decide +kernel
  show Ideal.ieee 8 7 (0x4480#16) = _
  unfold Ideal.ieee
  simp only [show 8 + 7 = 15 from rfl, a, b, c]
  rw [if_neg (by omega), if_neg (by omega)]
  norm_num

theorem low_eq : Ideal.ofBits FTy.f32 0x41000000#32 = ((2 ^ 3 : ℝ) : EReal) := by
  have a : ((0x41000000#32).extractLsb' 31 1 == 1#1) = false := by decide +kernel
  have b : ((0x41000000#32).extractLsb' 23 8).toNat = 130 := by decide +kernel
  have c : ((0x41000000#32).extractLsb' 0 23).toNat = 0 := by decide +kernel
  show Ideal.ieee 8 23 (0x41000000#32) = _
  unfold Ideal.ieee
  simp only [show 8 + 23 = 31 from rfl, a, b, c]
  rw [if_neg (by omega), if_neg (by omega)]
  norm_num

variable (x : Vec Ideal S48x1x4096 .bf16) (w1 : Vec Ideal S7x2048x12800 .i8) (s1 : Vec Ideal S7x32x12800 .bf16)
  (w2 : Vec Ideal S7x3200x4096 .i8) (s2 : Vec Ideal S7x50x4096 .bf16) (ids : Vec Ideal S48x1x2 .i32) (ew : Vec Ideal S48x1x2 .f32)

instance : Subsingleton S_.Idx := ⟨fun _ _ => funext fun a => a.elim0⟩

/-- The precondition bounds the layer's arguments. -/
theorem bounded_of (h : Cert.Pre_bounded.fn (F := Ideal) x w1 s1 w2 s2 ids ew = fun _ => 1#1) : (args x w1 s1 w2 s2 ids ew).Bounded := by
  have h0 := congrFun h (Shape.Idx.first h_S_)
  obtain ⟨h1, h6⟩ := IntOp.andi_eq_one.mp h0
  obtain ⟨h2, h4⟩ := IntOp.andi_eq_one.mp h1
  obtain ⟨h3, h5⟩ := IntOp.andi_eq_one.mp h2
  exact {
    X := fun t k => Bd.of_cmp big_eq (Host.reduce_andi_all _ _ _ _ _ h3 (ix3 t 0 k))
    S1 := fun e g n => Bd.of_cmp mid_eq (Host.reduce_andi_all _ _ _ _ _ h5 (ix3 e g n))
    S2 := fun e g n => Bd.of_cmp mid_eq (Host.reduce_andi_all _ _ _ _ _ h4 (ix3 e g n))
    ew := fun t s => Bd.of_cmp low_eq (Host.reduce_andi_all _ _ _ _ _ h6 (ix3 t 0 s)) }

end Cert.Spec

end
-- ==== Proof.Algebraic.lean ====
/-
  The kernel and the reference over the reals: equal results of equal bounded arguments.
-/
module

public import proofs.«01_k».proof.Defs
public import proofs.«01_k».proof.Proof.KernelIdealFrame
public import proofs.«01_k».proof.Proof.KernelIdealResult
public import proofs.«01_k».proof.Proof.RefRun
public import proofs.«01_k».proof.Proof.Bounds
public import Idealize.ShloMosaic.Adequacy

@[expose] public section

set_option maxRecDepth 16384

noncomputable section

namespace Cert.Proof

open Idealize.ShloMosaic Idealize.ShloMosaic.TcCoe Idealize.SL.Sem Cert.Spec

theorem args_congr {x x' : Vec Ideal ⟨3, ![48, 1, 4096]⟩ .bf16} {w1 w1' : Vec Ideal ⟨3, ![7, 2048, 12800]⟩ .i8} {s1 s1' : Vec Ideal ⟨3, ![7, 32, 12800]⟩ .bf16}
    {w2 w2' : Vec Ideal ⟨3, ![7, 3200, 4096]⟩ .i8} {s2 s2' : Vec Ideal ⟨3, ![7, 50, 4096]⟩ .bf16} {ids ids' : Vec Ideal ⟨3, ![48, 1, 2]⟩ .i32} {ew ew' : Vec Ideal ⟨3, ![48, 1, 2]⟩ .f32}
    (h : x' = x ∧ w1' = w1 ∧ s1' = s1 ∧ w2' = w2 ∧ s2' = s2 ∧ ids' = ids ∧ ew' = ew) : args x' w1' s1' w2' s2' ids' ew' = args x w1 s1 w2 s2 ids ew := by
  obtain ⟨rfl, rfl, rfl, rfl, rfl, rfl, rfl⟩ := h
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

variable {m m' c} (hA : (Cert.KernelIdeal.Body.argsK m c).Bounded) (hE : Cert.ReferenceIdeal.Body.argsR m' c = Cert.KernelIdeal.Body.argsK m c)

include hE

theorem block_eq (t : Fin 48) (b : Fin 32) : Cert.ReferenceIdeal.Body.blockR m' c t b = Cert.KernelIdeal.Body.blockK m c t b := by
  unfold Cert.ReferenceIdeal.Body.blockR Cert.KernelIdeal.Body.blockK
  rw [hE]

include hA

/-- A block's scale by the kernel's bits and by the reference's table, and the product by its reciprocal. -/
theorem scale_block (t : Fin 48) (b : Fin 32) :
    Power.scaleK (mag (Cert.KernelIdeal.Body.blockK m c t b))
      = Power.scaleT (fun x => (Cert.ReferenceIdeal.Body.rTable : FVec Ideal Cert.ReferenceIdeal.S253 .f32) (ix1 x)) (mag (Cert.ReferenceIdeal.Body.blockR m' c t b))
    ∧ ∀ v : EReal, v * Power.invK (mag (Cert.KernelIdeal.Body.blockK m c t b))
      = Ideal.div v (Power.scaleT (fun x => (Cert.ReferenceIdeal.Body.rTable : FVec Ideal Cert.ReferenceIdeal.S253 .f32) (ix1 x)) (mag (Cert.ReferenceIdeal.Body.blockR m' c t b))) := by
  rw [block_eq hE]
  obtain ⟨r, hr, h0, h1⟩ := mag_bd (Cert.KernelIdeal.Body.blockK m c t b) fun x => out_bd hA t _
  rw [hr]
  exact Power.scale_eq _ Cert.ReferenceIdeal.Body.rTable_eq r h0 h1

theorem scales_agree : (Cert.ReferenceIdeal.Gen.V m' c Cert.ReferenceIdeal.main_v89 : FVec Ideal Cert.ReferenceIdeal.S48x32 .f32)
    = Cert.KernelIdeal.Body.scalesV (Cert.KernelIdeal.Body.accEnd m (Cert.KernelIdeal.Body.ok m) c) := by
  funext y
  obtain ⟨t, b, rfl⟩ : ∃ t b, y = ix2 t b := ⟨y 0, y 1, eq_ix2 y⟩
  rw [Cert.ReferenceIdeal.Body.V_scale_eq]
  exact (scale_block hA hE t b).1.symm.trans (Cert.KernelIdeal.Body.scales_eq hA t b).symm

theorem codes_agree : (Cert.ReferenceIdeal.Gen.V m' c Cert.ReferenceIdeal.main_v94 : FVec Ideal Cert.ReferenceIdeal.S48x4096 .f32)
    = Cert.KernelIdeal.Body.codesV (Cert.KernelIdeal.Body.accEnd m (Cert.KernelIdeal.Body.ok m) c) := by
  funext y
  obtain ⟨t, n, rfl⟩ : ∃ t n, y = ix2 t n := ⟨y 0, y 1, eq_ix2 y⟩
  rw [Cert.ReferenceIdeal.Body.V_quot_eq, ← (scale_block hA hE t _).2, hE]
  exact (Cert.KernelIdeal.Body.codes_eq hA t n).symm

omit hA hE

/-- The kernel's results are the reference's, from memories that agree on bounded arguments. -/
theorem algebraic : Cert.algebraic_KernelIdeal_ReferenceIdeal_pre_bounded := by
  intro m g m' g' hP hM
  have hA (c : Dev Cert.KernelIdeal.nD) : (Cert.KernelIdeal.Body.argsK m c).Bounded := bounded_of _ _ _ _ _ _ _ (hP c)
  have hE (c : Dev Cert.KernelIdeal.nD) : Cert.ReferenceIdeal.Body.argsR m' c = Cert.KernelIdeal.Body.argsK m c := args_congr (hM c)
  refine ⟨fun c => Cert.KernelIdeal.Body.codesV (Cert.KernelIdeal.Body.accEnd m (Cert.KernelIdeal.Body.ok m) c),
    fun c => Cert.KernelIdeal.Body.scalesV (Cert.KernelIdeal.Body.accEnd m (Cert.KernelIdeal.Body.ok m) c), ?_, ?_⟩
  · exact (θ_run Cert.KernelIdeal.defs _ _).mono (fun _ h c => ⟨(h.1 c).1, (h.1 c).2, h.2.1 c⟩)
      (θ_run_and (Cert.KernelIdeal.Body.results m g) (Cert.KernelIdeal.Body.frame m g))
  · exact (θ_run Cert.ReferenceIdeal.defs _ _).mono
      (fun _ h c => ⟨(h.1 c).1.trans (codes_agree (hA c) (hE c)), (h.1 c).2.trans (scales_agree (hA c) (hE c)), h.2.1 c⟩)
      (θ_run_and (Cert.ReferenceIdeal.Body.results m' g') (Cert.ReferenceIdeal.Gen.frame m' g'))

end Cert.Proof

end
-- ==== Proof.lean ====
/-
  The claims about the kernel, its reading over the reals and the reference over the reals, put together.
-/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.ReferenceIdeal.Value
public import proofs.«01_k».proof.Proof.Gen.Pre_bounded
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_bounded.Gen.facts,
  fun m g _ => Cert.Kernel.Body.frame m g, fun m g _ => Cert.KernelIdeal.Body.frame m g, fun m g _ => Cert.KernelIdeal.Body.frame m g,
  fun m g _ => Cert.ReferenceIdeal.Gen.frame m g, fun m g _ => Cert.ReferenceIdeal.Gen.frame m g, trivial, algebraic⟩

end Cert.Proof

end
